-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 2048]⟩ ⟨2, ![2048, 2048]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 128]⟩ ⟨2, ![2048, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x2048 : Shape := ⟨2, ![128, 2048]⟩
abbrev S2048x2048 : Shape := ⟨2, ![2048, 2048]⟩
abbrev S2048x128 : Shape := ⟨2, ![2048, 128]⟩
abbrev S16x128x128 : Shape := ⟨3, ![16, 128, 128]⟩
abbrev S2x2048x256 : Shape := ⟨3, ![2, 2048, 256]⟩
abbrev S3 : Shape := ⟨1, ![3]⟩
abbrev S16 : Shape := ⟨1, ![16]⟩
abbrev S_ : Shape := ⟨0, ![]⟩
abbrev S1 : Shape := ⟨1, ![1]⟩
abbrev S1x2048x256 : Shape := ⟨3, ![1, 2048, 256]⟩
abbrev S2048x256 : Shape := ⟨2, ![2048, 256]⟩
abbrev S128x256 : Shape := ⟨2, ![128, 256]⟩
abbrev S1x128x128 : Shape := ⟨3, ![1, 128, 128]⟩
abbrev S128x128 : Shape := ⟨2, ![128, 128]⟩

abbrev nBuf : Space → Nat
  | .hbm => 3
  | .vmem => 5
  | .smem => 0
  | _ => 0

abbrev bufTy : (tb : Table) → Fin (tcTables nBuf tb) → BufTy
  | .hbm, ⟨0, _⟩ => ⟨S128x2048, .f32⟩
  | .hbm, ⟨1, _⟩ => ⟨S2048x2048, .f32⟩
  | .hbm, ⟨2, _⟩ => ⟨S2048x128, .f32⟩
  | .local _ .vmem, ⟨0, _⟩ => ⟨S2048x128, .f32⟩
  | .local _ .vmem, ⟨1, _⟩ => ⟨S128x2048, .f32⟩
  | .local _ .vmem, ⟨2, _⟩ => ⟨S128x2048, .bf16⟩
  | .local _ .vmem, ⟨3, _⟩ => ⟨S16x128x128, .bf16⟩
  | .local _ .vmem, ⟨4, _⟩ => ⟨S2x2048x256, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c0_i32_69 : BitVec 32) : Fin 2 → Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_62 : BitVec 32 := 0#32
  let v67 : BitVec 1 := Scalar.cmpi .sgt v2 c0_i32_62
  let v68 : BitVec 32 := Scalar.extui v67
  let c0_i32_63 : BitVec 32 := 0#32
  let v69 : BitVec 1 := Scalar.cmpi .slt v2 c0_i32_63
  let v70 : BitVec 32 := Scalar.extui v69
  let v71 : BitVec 32 := Scalar.subi v68 v70
  let c2_i32_61 : BitVec 32 := 2#32
  let c0_i32_64 : BitVec 32 := 0#32
  let v72 : BitVec 1 := Scalar.cmpi .sgt c2_i32_61 c0_i32_64
  let v73 : BitVec 32 := Scalar.extui v72
  let c0_i32_65 : BitVec 32 := 0#32
  let v74 : BitVec 1 := Scalar.cmpi .slt c2_i32_61 c0_i32_65
  let v75 : BitVec 32 := Scalar.extui v74
  let v76 : BitVec 32 := Scalar.subi v73 v75
  let v77 : BitVec 1 := Scalar.cmpi .ne v71 v76
  let v78 : BitVec 32 := Scalar.remsi v2 c2_i32_61
  let c0_i32_66 : BitVec 32 := 0#32
  let v79 : BitVec 1 := Scalar.cmpi .ne v78 c0_i32_66
  let v80 : BitVec 1 := Scalar.andi v77 v79
  let v66 : BitVec 32 := Scalar.divsi v2 c2_i32_61
  let c1_i32_67 : BitVec 32 := 1#32
  let v81 : BitVec 32 := Scalar.subi v66 c1_i32_67
  let v82 : BitVec 32 := Scalar.select v80 v81 v66
  let c1_i32_68 : BitVec 32 := 1#32
  let v83 : BitVec 32 := Scalar.addi v82 c1_i32_68
  let v84 : BitVec 32 := Scalar.addi v83 c0_i32_69
  let c8_i32_70 : BitVec 32 := 8#32
  let v85 : BitVec 32 := Scalar.remsi v84 c8_i32_70
  let c256_i32 : BitVec 32 := 256#32
  let v86 : BitVec 32 := Scalar.muli v85 c256_i32
  ![0, v86.toNat]
def k0_off2 (d0 : Dev nD) (c0_i32_101 : BitVec 32) : Fin 2 → Nat :=
  let c0_125 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_94 : BitVec 32 := 0#32
  let v121 : BitVec 1 := Scalar.cmpi .sgt v2 c0_i32_94
  let v122 : BitVec 32 := Scalar.extui v121
  let c0_i32_95 : BitVec 32 := 0#32
  let v123 : BitVec 1 := Scalar.cmpi .slt v2 c0_i32_95
  let v124 : BitVec 32 := Scalar.extui v123
  let v125 : BitVec 32 := Scalar.subi v122 v124
  let c2_i32_93 : BitVec 32 := 2#32
  let c0_i32_96 : BitVec 32 := 0#32
  let v126 : BitVec 1 := Scalar.cmpi .sgt c2_i32_93 c0_i32_96
  let v127 : BitVec 32 := Scalar.extui v126
  let c0_i32_97 : BitVec 32 := 0#32
  let v128 : BitVec 1 := Scalar.cmpi .slt c2_i32_93 c0_i32_97
  let v129 : BitVec 32 := Scalar.extui v128
  let v130 : BitVec 32 := Scalar.subi v127 v129
  let v131 : BitVec 1 := Scalar.cmpi .ne v125 v130
  let v132 : BitVec 32 := Scalar.remsi v2 c2_i32_93
  let c0_i32_98 : BitVec 32 := 0#32
  let v133 : BitVec 1 := Scalar.cmpi .ne v132 c0_i32_98
  let v134 : BitVec 1 := Scalar.andi v131 v133
  let v120 : BitVec 32 := Scalar.divsi v2 c2_i32_93
  let c1_i32_99 : BitVec 32 := 1#32
  let v135 : BitVec 32 := Scalar.subi v120 c1_i32_99
  let v136 : BitVec 32 := Scalar.select v134 v135 v120
  let c1_i32_100 : BitVec 32 := 1#32
  let v137 : BitVec 32 := Scalar.addi v136 c1_i32_100
  let v138 : BitVec 32 := Scalar.addi v137 c0_i32_101
  let c8_i32_102 : BitVec 32 := 8#32
  let v139 : BitVec 32 := Scalar.remsi v138 c8_i32_102
  let c256_i32_124 : BitVec 32 := 256#32
  let v173 : BitVec 32 := Scalar.muli v139 c256_i32_124
  let v174 : Index := Scalar.indexCast v173
  ![0, v174.toNat]
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_94 : BitVec 32 := 0#32
  let v121 : BitVec 1 := Scalar.cmpi .sgt v2 c0_i32_94
  let v122 : BitVec 32 := Scalar.extui v121
  let c0_i32_95 : BitVec 32 := 0#32
  let v123 : BitVec 1 := Scalar.cmpi .slt v2 c0_i32_95
  let v124 : BitVec 32 := Scalar.extui v123
  let v125 : BitVec 32 := Scalar.subi v122 v124
  let c2_i32_93 : BitVec 32 := 2#32
  let c0_i32_96 : BitVec 32 := 0#32
  let v126 : BitVec 1 := Scalar.cmpi .sgt c2_i32_93 c0_i32_96
  let v127 : BitVec 32 := Scalar.extui v126
  let c0_i32_97 : BitVec 32 := 0#32
  let v128 : BitVec 1 := Scalar.cmpi .slt c2_i32_93 c0_i32_97
  let v129 : BitVec 32 := Scalar.extui v128
  let v130 : BitVec 32 := Scalar.subi v127 v129
  let v131 : BitVec 1 := Scalar.cmpi .ne v125 v130
  let v132 : BitVec 32 := Scalar.remsi v2 c2_i32_93
  let c0_i32_98 : BitVec 32 := 0#32
  let v133 : BitVec 1 := Scalar.cmpi .ne v132 c0_i32_98
  let v134 : BitVec 1 := Scalar.andi v131 v133
  let v120 : BitVec 32 := Scalar.divsi v2 c2_i32_93
  let c1_i32_99 : BitVec 32 := 1#32
  let v135 : BitVec 32 := Scalar.subi v120 c1_i32_99
  let v136 : BitVec 32 := Scalar.select v134 v135 v120
  let c1_i32_100 : BitVec 32 := 1#32
  let v137 : BitVec 32 := Scalar.addi v136 c1_i32_100
  let c0_i32_101 : BitVec 32 := 0#32
  let v138 : BitVec 32 := Scalar.addi v137 c0_i32_101
  let c8_i32_102 : BitVec 32 := 8#32
  let v139 : BitVec 32 := Scalar.remsi v138 c8_i32_102
  let c2_i32_143 : BitVec 32 := 2#32
  let v204 : BitVec 32 := Scalar.muli v139 c2_i32_143
  let c0_i32_144 : BitVec 32 := 0#32
  let v205 : BitVec 32 := Scalar.addi v204 c0_i32_144
  let v206 : BitVec 1 := Scalar.cmpi .ne v205 v2
  let v207 : BitVec 32 := Scalar.extui v206
  let c0_i32_145 : BitVec 32 := 0#32
  let v208 : BitVec 1 := Scalar.cmpi .ne v207 c0_i32_145
  v208

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_94 : BitVec 32 := 0#32
  let v121 : BitVec 1 := Scalar.cmpi .sgt v2 c0_i32_94
  let v122 : BitVec 32 := Scalar.extui v121
  let c0_i32_95 : BitVec 32 := 0#32
  let v123 : BitVec 1 := Scalar.cmpi .slt v2 c0_i32_95
  let v124 : BitVec 32 := Scalar.extui v123
  let v125 : BitVec 32 := Scalar.subi v122 v124
  let c2_i32_93 : BitVec 32 := 2#32
  let c0_i32_96 : BitVec 32 := 0#32
  let v126 : BitVec 1 := Scalar.cmpi .sgt c2_i32_93 c0_i32_96
  let v127 : BitVec 32 := Scalar.extui v126
  let c0_i32_97 : BitVec 32 := 0#32
  let v128 : BitVec 1 := Scalar.cmpi .slt c2_i32_93 c0_i32_97
  let v129 : BitVec 32 := Scalar.extui v128
  let v130 : BitVec 32 := Scalar.subi v127 v129
  let v131 : BitVec 1 := Scalar.cmpi .ne v125 v130
  let v132 : BitVec 32 := Scalar.remsi v2 c2_i32_93
  let c0_i32_98 : BitVec 32 := 0#32
  let v133 : BitVec 1 := Scalar.cmpi .ne v132 c0_i32_98
  let v134 : BitVec 1 := Scalar.andi v131 v133
  let v120 : BitVec 32 := Scalar.divsi v2 c2_i32_93
  let c1_i32_99 : BitVec 32 := 1#32
  let v135 : BitVec 32 := Scalar.subi v120 c1_i32_99
  let v136 : BitVec 32 := Scalar.select v134 v135 v120
  let c1_i32_100 : BitVec 32 := 1#32
  let v137 : BitVec 32 := Scalar.addi v136 c1_i32_100
  let c0_i32_101 : BitVec 32 := 0#32
  let v138 : BitVec 32 := Scalar.addi v137 c0_i32_101
  let c8_i32_102 : BitVec 32 := 8#32
  let v139 : BitVec 32 := Scalar.remsi v138 c8_i32_102
  let c2_i32_143 : BitVec 32 := 2#32
  let v204 : BitVec 32 := Scalar.muli v139 c2_i32_143
  let c0_i32_144 : BitVec 32 := 0#32
  let v205 : BitVec 32 := Scalar.addi v204 c0_i32_144
  ![v205.toNat]
def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_585 : BitVec 32 := 0#32
  let c0_i32_586 : BitVec 32 := 0#32
  ![v2.toNat, 0, 0]
def k0_off6 (d0 : Dev nD) : Fin 2 → Nat :=
  let c0_i32_587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_94 : BitVec 32 := 0#32
  let v121 : BitVec 1 := Scalar.cmpi .sgt v2 c0_i32_94
  let v122 : BitVec 32 := Scalar.extui v121
  let c0_i32_95 : BitVec 32 := 0#32
  let v123 : BitVec 1 := Scalar.cmpi .slt v2 c0_i32_95
  let v124 : BitVec 32 := Scalar.extui v123
  let v125 : BitVec 32 := Scalar.subi v122 v124
  let c2_i32_93 : BitVec 32 := 2#32
  let c0_i32_96 : BitVec 32 := 0#32
  let v126 : BitVec 1 := Scalar.cmpi .sgt c2_i32_93 c0_i32_96
  let v127 : BitVec 32 := Scalar.extui v126
  let c0_i32_97 : BitVec 32 := 0#32
  let v128 : BitVec 1 := Scalar.cmpi .slt c2_i32_93 c0_i32_97
  let v129 : BitVec 32 := Scalar.extui v128
  let v130 : BitVec 32 := Scalar.subi v127 v129
  let v131 : BitVec 1 := Scalar.cmpi .ne v125 v130
  let v132 : BitVec 32 := Scalar.remsi v2 c2_i32_93
  let c0_i32_98 : BitVec 32 := 0#32
  let v133 : BitVec 1 := Scalar.cmpi .ne v132 c0_i32_98
  let v134 : BitVec 1 := Scalar.andi v131 v133
  let v120 : BitVec 32 := Scalar.divsi v2 c2_i32_93
  let c1_i32_99 : BitVec 32 := 1#32
  let v135 : BitVec 32 := Scalar.subi v120 c1_i32_99
  let v136 : BitVec 32 := Scalar.select v134 v135 v120
  let c1_i32_100 : BitVec 32 := 1#32
  let v137 : BitVec 32 := Scalar.addi v136 c1_i32_100
  let c0_i32_101 : BitVec 32 := 0#32
  let v138 : BitVec 32 := Scalar.addi v137 c0_i32_101
  let c8_i32_102 : BitVec 32 := 8#32
  let v139 : BitVec 32 := Scalar.remsi v138 c8_i32_102
  let c2_i32_143 : BitVec 32 := 2#32
  let v204 : BitVec 32 := Scalar.muli v139 c2_i32_143
  let c0_i32_144 : BitVec 32 := 0#32
  let v205 : BitVec 32 := Scalar.addi v204 c0_i32_144
  let c128_i32_582 : BitVec 32 := 128#32
  let v923 : BitVec 32 := Scalar.muli v205 c128_i32_582
  ![0, v923.toNat]
def k0_dev16 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_94 : BitVec 32 := 0#32
  let v121 : BitVec 1 := Scalar.cmpi .sgt v2 c0_i32_94
  let v122 : BitVec 32 := Scalar.extui v121
  let c0_i32_95 : BitVec 32 := 0#32
  let v123 : BitVec 1 := Scalar.cmpi .slt v2 c0_i32_95
  let v124 : BitVec 32 := Scalar.extui v123
  let v125 : BitVec 32 := Scalar.subi v122 v124
  let c2_i32_93 : BitVec 32 := 2#32
  let c0_i32_96 : BitVec 32 := 0#32
  let v126 : BitVec 1 := Scalar.cmpi .sgt c2_i32_93 c0_i32_96
  let v127 : BitVec 32 := Scalar.extui v126
  let c0_i32_97 : BitVec 32 := 0#32
  let v128 : BitVec 1 := Scalar.cmpi .slt c2_i32_93 c0_i32_97
  let v129 : BitVec 32 := Scalar.extui v128
  let v130 : BitVec 32 := Scalar.subi v127 v129
  let v131 : BitVec 1 := Scalar.cmpi .ne v125 v130
  let v132 : BitVec 32 := Scalar.remsi v2 c2_i32_93
  let c0_i32_98 : BitVec 32 := 0#32
  let v133 : BitVec 1 := Scalar.cmpi .ne v132 c0_i32_98
  let v134 : BitVec 1 := Scalar.andi v131 v133
  let v120 : BitVec 32 := Scalar.divsi v2 c2_i32_93
  let c1_i32_99 : BitVec 32 := 1#32
  let v135 : BitVec 32 := Scalar.subi v120 c1_i32_99
  let v136 : BitVec 32 := Scalar.select v134 v135 v120
  let c1_i32_100 : BitVec 32 := 1#32
  let v137 : BitVec 32 := Scalar.addi v136 c1_i32_100
  let c0_i32_101 : BitVec 32 := 0#32
  let v138 : BitVec 32 := Scalar.addi v137 c0_i32_101
  let c8_i32_102 : BitVec 32 := 8#32
  let v139 : BitVec 32 := Scalar.remsi v138 c8_i32_102
  let c2_i32_143 : BitVec 32 := 2#32
  let v204 : BitVec 32 := Scalar.muli v139 c2_i32_143
  let c0_i32_144 : BitVec 32 := 0#32
  let v205 : BitVec 32 := Scalar.addi v204 c0_i32_144
  let c1_i32_583 : BitVec 32 := 1#32
  let v924 : BitVec 32 := Scalar.muli v205 c1_i32_583
  let v925 : BitVec 32 := Scalar.addi c0_i32_584 v924
  v925.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_94 : BitVec 32 := 0#32
  let v121 : BitVec 1 := Scalar.cmpi .sgt v2 c0_i32_94
  let v122 : BitVec 32 := Scalar.extui v121
  let c0_i32_95 : BitVec 32 := 0#32
  let v123 : BitVec 1 := Scalar.cmpi .slt v2 c0_i32_95
  let v124 : BitVec 32 := Scalar.extui v123
  let v125 : BitVec 32 := Scalar.subi v122 v124
  let c2_i32_93 : BitVec 32 := 2#32
  let c0_i32_96 : BitVec 32 := 0#32
  let v126 : BitVec 1 := Scalar.cmpi .sgt c2_i32_93 c0_i32_96
  let v127 : BitVec 32 := Scalar.extui v126
  let c0_i32_97 : BitVec 32 := 0#32
  let v128 : BitVec 1 := Scalar.cmpi .slt c2_i32_93 c0_i32_97
  let v129 : BitVec 32 := Scalar.extui v128
  let v130 : BitVec 32 := Scalar.subi v127 v129
  let v131 : BitVec 1 := Scalar.cmpi .ne v125 v130
  let v132 : BitVec 32 := Scalar.remsi v2 c2_i32_93
  let c0_i32_98 : BitVec 32 := 0#32
  let v133 : BitVec 1 := Scalar.cmpi .ne v132 c0_i32_98
  let v134 : BitVec 1 := Scalar.andi v131 v133
  let v120 : BitVec 32 := Scalar.divsi v2 c2_i32_93
  let c1_i32_99 : BitVec 32 := 1#32
  let v135 : BitVec 32 := Scalar.subi v120 c1_i32_99
  let v136 : BitVec 32 := Scalar.select v134 v135 v120
  let c1_i32_100 : BitVec 32 := 1#32
  let v137 : BitVec 32 := Scalar.addi v136 c1_i32_100
  let c0_i32_101 : BitVec 32 := 0#32
  let v138 : BitVec 32 := Scalar.addi v137 c0_i32_101
  let c8_i32_102 : BitVec 32 := 8#32
  let v139 : BitVec 32 := Scalar.remsi v138 c8_i32_102
  let c2_i32_146 : BitVec 32 := 2#32
  let v209 : BitVec 32 := Scalar.muli v139 c2_i32_146
  let c1_i32_147 : BitVec 32 := 1#32
  let v210 : BitVec 32 := Scalar.addi v209 c1_i32_147
  let v211 : BitVec 1 := Scalar.cmpi .ne v210 v2
  let v212 : BitVec 32 := Scalar.extui v211
  let c0_i32_148 : BitVec 32 := 0#32
  let v213 : BitVec 1 := Scalar.cmpi .ne v212 c0_i32_148
  v213

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_94 : BitVec 32 := 0#32
  let v121 : BitVec 1 := Scalar.cmpi .sgt v2 c0_i32_94
  let v122 : BitVec 32 := Scalar.extui v121
  let c0_i32_95 : BitVec 32 := 0#32
  let v123 : BitVec 1 := Scalar.cmpi .slt v2 c0_i32_95
  let v124 : BitVec 32 := Scalar.extui v123
  let v125 : BitVec 32 := Scalar.subi v122 v124
  let c2_i32_93 : BitVec 32 := 2#32
  let c0_i32_96 : BitVec 32 := 0#32
  let v126 : BitVec 1 := Scalar.cmpi .sgt c2_i32_93 c0_i32_96
  let v127 : BitVec 32 := Scalar.extui v126
  let c0_i32_97 : BitVec 32 := 0#32
  let v128 : BitVec 1 := Scalar.cmpi .slt c2_i32_93 c0_i32_97
  let v129 : BitVec 32 := Scalar.extui v128
  let v130 : BitVec 32 := Scalar.subi v127 v129
  let v131 : BitVec 1 := Scalar.cmpi .ne v125 v130
  let v132 : BitVec 32 := Scalar.remsi v2 c2_i32_93
  let c0_i32_98 : BitVec 32 := 0#32
  let v133 : BitVec 1 := Scalar.cmpi .ne v132 c0_i32_98
  let v134 : BitVec 1 := Scalar.andi v131 v133
  let v120 : BitVec 32 := Scalar.divsi v2 c2_i32_93
  let c1_i32_99 : BitVec 32 := 1#32
  let v135 : BitVec 32 := Scalar.subi v120 c1_i32_99
  let v136 : BitVec 32 := Scalar.select v134 v135 v120
  let c1_i32_100 : BitVec 32 := 1#32
  let v137 : BitVec 32 := Scalar.addi v136 c1_i32_100
  let c0_i32_101 : BitVec 32 := 0#32
  let v138 : BitVec 32 := Scalar.addi v137 c0_i32_101
  let c8_i32_102 : BitVec 32 := 8#32
  let v139 : BitVec 32 := Scalar.remsi v138 c8_i32_102
  let c2_i32_146 : BitVec 32 := 2#32
  let v209 : BitVec 32 := Scalar.muli v139 c2_i32_146
  let c1_i32_147 : BitVec 32 := 1#32
  let v210 : BitVec 32 := Scalar.addi v209 c1_i32_147
  ![v210.toNat]
def k0_off8 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_585 : BitVec 32 := 0#32
  let c0_i32_586 : BitVec 32 := 0#32
  ![v2.toNat, 0, 0]
def k0_off10 (d0 : Dev nD) : Fin 2 → Nat :=
  let c0_i32_587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_94 : BitVec 32 := 0#32
  let v121 : BitVec 1 := Scalar.cmpi .sgt v2 c0_i32_94
  let v122 : BitVec 32 := Scalar.extui v121
  let c0_i32_95 : BitVec 32 := 0#32
  let v123 : BitVec 1 := Scalar.cmpi .slt v2 c0_i32_95
  let v124 : BitVec 32 := Scalar.extui v123
  let v125 : BitVec 32 := Scalar.subi v122 v124
  let c2_i32_93 : BitVec 32 := 2#32
  let c0_i32_96 : BitVec 32 := 0#32
  let v126 : BitVec 1 := Scalar.cmpi .sgt c2_i32_93 c0_i32_96
  let v127 : BitVec 32 := Scalar.extui v126
  let c0_i32_97 : BitVec 32 := 0#32
  let v128 : BitVec 1 := Scalar.cmpi .slt c2_i32_93 c0_i32_97
  let v129 : BitVec 32 := Scalar.extui v128
  let v130 : BitVec 32 := Scalar.subi v127 v129
  let v131 : BitVec 1 := Scalar.cmpi .ne v125 v130
  let v132 : BitVec 32 := Scalar.remsi v2 c2_i32_93
  let c0_i32_98 : BitVec 32 := 0#32
  let v133 : BitVec 1 := Scalar.cmpi .ne v132 c0_i32_98
  let v134 : BitVec 1 := Scalar.andi v131 v133
  let v120 : BitVec 32 := Scalar.divsi v2 c2_i32_93
  let c1_i32_99 : BitVec 32 := 1#32
  let v135 : BitVec 32 := Scalar.subi v120 c1_i32_99
  let v136 : BitVec 32 := Scalar.select v134 v135 v120
  let c1_i32_100 : BitVec 32 := 1#32
  let v137 : BitVec 32 := Scalar.addi v136 c1_i32_100
  let c0_i32_101 : BitVec 32 := 0#32
  let v138 : BitVec 32 := Scalar.addi v137 c0_i32_101
  let c8_i32_102 : BitVec 32 := 8#32
  let v139 : BitVec 32 := Scalar.remsi v138 c8_i32_102
  let c2_i32_146 : BitVec 32 := 2#32
  let v209 : BitVec 32 := Scalar.muli v139 c2_i32_146
  let c1_i32_147 : BitVec 32 := 1#32
  let v210 : BitVec 32 := Scalar.addi v209 c1_i32_147
  let c128_i32_582 : BitVec 32 := 128#32
  let v923 : BitVec 32 := Scalar.muli v210 c128_i32_582
  ![0, v923.toNat]
def k0_dev17 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_94 : BitVec 32 := 0#32
  let v121 : BitVec 1 := Scalar.cmpi .sgt v2 c0_i32_94
  let v122 : BitVec 32 := Scalar.extui v121
  let c0_i32_95 : BitVec 32 := 0#32
  let v123 : BitVec 1 := Scalar.cmpi .slt v2 c0_i32_95
  let v124 : BitVec 32 := Scalar.extui v123
  let v125 : BitVec 32 := Scalar.subi v122 v124
  let c2_i32_93 : BitVec 32 := 2#32
  let c0_i32_96 : BitVec 32 := 0#32
  let v126 : BitVec 1 := Scalar.cmpi .sgt c2_i32_93 c0_i32_96
  let v127 : BitVec 32 := Scalar.extui v126
  let c0_i32_97 : BitVec 32 := 0#32
  let v128 : BitVec 1 := Scalar.cmpi .slt c2_i32_93 c0_i32_97
  let v129 : BitVec 32 := Scalar.extui v128
  let v130 : BitVec 32 := Scalar.subi v127 v129
  let v131 : BitVec 1 := Scalar.cmpi .ne v125 v130
  let v132 : BitVec 32 := Scalar.remsi v2 c2_i32_93
  let c0_i32_98 : BitVec 32 := 0#32
  let v133 : BitVec 1 := Scalar.cmpi .ne v132 c0_i32_98
  let v134 : BitVec 1 := Scalar.andi v131 v133
  let v120 : BitVec 32 := Scalar.divsi v2 c2_i32_93
  let c1_i32_99 : BitVec 32 := 1#32
  let v135 : BitVec 32 := Scalar.subi v120 c1_i32_99
  let v136 : BitVec 32 := Scalar.select v134 v135 v120
  let c1_i32_100 : BitVec 32 := 1#32
  let v137 : BitVec 32 := Scalar.addi v136 c1_i32_100
  let c0_i32_101 : BitVec 32 := 0#32
  let v138 : BitVec 32 := Scalar.addi v137 c0_i32_101
  let c8_i32_102 : BitVec 32 := 8#32
  let v139 : BitVec 32 := Scalar.remsi v138 c8_i32_102
  let c2_i32_146 : BitVec 32 := 2#32
  let v209 : BitVec 32 := Scalar.muli v139 c2_i32_146
  let c1_i32_147 : BitVec 32 := 1#32
  let v210 : BitVec 32 := Scalar.addi v209 c1_i32_147
  let c1_i32_583 : BitVec 32 := 1#32
  let v924 : BitVec 32 := Scalar.muli v210 c1_i32_583
  let v925 : BitVec 32 := Scalar.addi c0_i32_584 v924
  v925.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_150 : BitVec 32 := 0#32
  let v215 : BitVec 1 := Scalar.cmpi .sgt v2 c0_i32_150
  let v216 : BitVec 32 := Scalar.extui v215
  let c0_i32_151 : BitVec 32 := 0#32
  let v217 : BitVec 1 := Scalar.cmpi .slt v2 c0_i32_151
  let v218 : BitVec 32 := Scalar.extui v217
  let v219 : BitVec 32 := Scalar.subi v216 v218
  let c2_i32_149 : BitVec 32 := 2#32
  let c0_i32_152 : BitVec 32 := 0#32
  let v220 : BitVec 1 := Scalar.cmpi .sgt c2_i32_149 c0_i32_152
  let v221 : BitVec 32 := Scalar.extui v220
  let c0_i32_153 : BitVec 32 := 0#32
  let v222 : BitVec 1 := Scalar.cmpi .slt c2_i32_149 c0_i32_153
  let v223 : BitVec 32 := Scalar.extui v222
  let v224 : BitVec 32 := Scalar.subi v221 v223
  let v225 : BitVec 1 := Scalar.cmpi .ne v219 v224
  let v226 : BitVec 32 := Scalar.remsi v2 c2_i32_149
  let c0_i32_154 : BitVec 32 := 0#32
  let v227 : BitVec 1 := Scalar.cmpi .ne v226 c0_i32_154
  let v228 : BitVec 1 := Scalar.andi v225 v227
  let v214 : BitVec 32 := Scalar.divsi v2 c2_i32_149
  let c1_i32_155 : BitVec 32 := 1#32
  let v229 : BitVec 32 := Scalar.subi v214 c1_i32_155
  let v230 : BitVec 32 := Scalar.select v228 v229 v214
  let c1_i32_156 : BitVec 32 := 1#32
  let v231 : BitVec 32 := Scalar.addi v230 c1_i32_156
  let c1_i32_157 : BitVec 32 := 1#32
  let v232 : BitVec 32 := Scalar.addi v231 c1_i32_157
  let c8_i32_158 : BitVec 32 := 8#32
  let v233 : BitVec 32 := Scalar.remsi v232 c8_i32_158
  let c2_i32_199 : BitVec 32 := 2#32
  let v298 : BitVec 32 := Scalar.muli v233 c2_i32_199
  let c0_i32_200 : BitVec 32 := 0#32
  let v299 : BitVec 32 := Scalar.addi v298 c0_i32_200
  let v300 : BitVec 1 := Scalar.cmpi .ne v299 v2
  let v301 : BitVec 32 := Scalar.extui v300
  let c0_i32_201 : BitVec 32 := 0#32
  let v302 : BitVec 1 := Scalar.cmpi .ne v301 c0_i32_201
  v302

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_150 : BitVec 32 := 0#32
  let v215 : BitVec 1 := Scalar.cmpi .sgt v2 c0_i32_150
  let v216 : BitVec 32 := Scalar.extui v215
  let c0_i32_151 : BitVec 32 := 0#32
  let v217 : BitVec 1 := Scalar.cmpi .slt v2 c0_i32_151
  let v218 : BitVec 32 := Scalar.extui v217
  let v219 : BitVec 32 := Scalar.subi v216 v218
  let c2_i32_149 : BitVec 32 := 2#32
  let c0_i32_152 : BitVec 32 := 0#32
  let v220 : BitVec 1 := Scalar.cmpi .sgt c2_i32_149 c0_i32_152
  let v221 : BitVec 32 := Scalar.extui v220
  let c0_i32_153 : BitVec 32 := 0#32
  let v222 : BitVec 1 := Scalar.cmpi .slt c2_i32_149 c0_i32_153
  let v223 : BitVec 32 := Scalar.extui v222
  let v224 : BitVec 32 := Scalar.subi v221 v223
  let v225 : BitVec 1 := Scalar.cmpi .ne v219 v224
  let v226 : BitVec 32 := Scalar.remsi v2 c2_i32_149
  let c0_i32_154 : BitVec 32 := 0#32
  let v227 : BitVec 1 := Scalar.cmpi .ne v226 c0_i32_154
  let v228 : BitVec 1 := Scalar.andi v225 v227
  let v214 : BitVec 32 := Scalar.divsi v2 c2_i32_149
  let c1_i32_155 : BitVec 32 := 1#32
  let v229 : BitVec 32 := Scalar.subi v214 c1_i32_155
  let v230 : BitVec 32 := Scalar.select v228 v229 v214
  let c1_i32_156 : BitVec 32 := 1#32
  let v231 : BitVec 32 := Scalar.addi v230 c1_i32_156
  let c1_i32_157 : BitVec 32 := 1#32
  let v232 : BitVec 32 := Scalar.addi v231 c1_i32_157
  let c8_i32_158 : BitVec 32 := 8#32
  let v233 : BitVec 32 := Scalar.remsi v232 c8_i32_158
  let c2_i32_199 : BitVec 32 := 2#32
  let v298 : BitVec 32 := Scalar.muli v233 c2_i32_199
  let c0_i32_200 : BitVec 32 := 0#32
  let v299 : BitVec 32 := Scalar.addi v298 c0_i32_200
  ![v299.toNat]
def k0_off12 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off13 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_585 : BitVec 32 := 0#32
  let c0_i32_586 : BitVec 32 := 0#32
  ![v2.toNat, 0, 0]
def k0_off14 (d0 : Dev nD) : Fin 2 → Nat :=
  let c0_i32_587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_150 : BitVec 32 := 0#32
  let v215 : BitVec 1 := Scalar.cmpi .sgt v2 c0_i32_150
  let v216 : BitVec 32 := Scalar.extui v215
  let c0_i32_151 : BitVec 32 := 0#32
  let v217 : BitVec 1 := Scalar.cmpi .slt v2 c0_i32_151
  let v218 : BitVec 32 := Scalar.extui v217
  let v219 : BitVec 32 := Scalar.subi v216 v218
  let c2_i32_149 : BitVec 32 := 2#32
  let c0_i32_152 : BitVec 32 := 0#32
  let v220 : BitVec 1 := Scalar.cmpi .sgt c2_i32_149 c0_i32_152
  let v221 : BitVec 32 := Scalar.extui v220
  let c0_i32_153 : BitVec 32 := 0#32
  let v222 : BitVec 1 := Scalar.cmpi .slt c2_i32_149 c0_i32_153
  let v223 : BitVec 32 := Scalar.extui v222
  let v224 : BitVec 32 := Scalar.subi v221 v223
  let v225 : BitVec 1 := Scalar.cmpi .ne v219 v224
  let v226 : BitVec 32 := Scalar.remsi v2 c2_i32_149
  let c0_i32_154 : BitVec 32 := 0#32
  let v227 : BitVec 1 := Scalar.cmpi .ne v226 c0_i32_154
  let v228 : BitVec 1 := Scalar.andi v225 v227
  let v214 : BitVec 32 := Scalar.divsi v2 c2_i32_149
  let c1_i32_155 : BitVec 32 := 1#32
  let v229 : BitVec 32 := Scalar.subi v214 c1_i32_155
  let v230 : BitVec 32 := Scalar.select v228 v229 v214
  let c1_i32_156 : BitVec 32 := 1#32
  let v231 : BitVec 32 := Scalar.addi v230 c1_i32_156
  let c1_i32_157 : BitVec 32 := 1#32
  let v232 : BitVec 32 := Scalar.addi v231 c1_i32_157
  let c8_i32_158 : BitVec 32 := 8#32
  let v233 : BitVec 32 := Scalar.remsi v232 c8_i32_158
  let c2_i32_199 : BitVec 32 := 2#32
  let v298 : BitVec 32 := Scalar.muli v233 c2_i32_199
  let c0_i32_200 : BitVec 32 := 0#32
  let v299 : BitVec 32 := Scalar.addi v298 c0_i32_200
  let c128_i32_582 : BitVec 32 := 128#32
  let v923 : BitVec 32 := Scalar.muli v299 c128_i32_582
  ![0, v923.toNat]
def k0_dev18 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_150 : BitVec 32 := 0#32
  let v215 : BitVec 1 := Scalar.cmpi .sgt v2 c0_i32_150
  let v216 : BitVec 32 := Scalar.extui v215
  let c0_i32_151 : BitVec 32 := 0#32
  let v217 : BitVec 1 := Scalar.cmpi .slt v2 c0_i32_151
  let v218 : BitVec 32 := Scalar.extui v217
  let v219 : BitVec 32 := Scalar.subi v216 v218
  let c2_i32_149 : BitVec 32 := 2#32
  let c0_i32_152 : BitVec 32 := 0#32
  let v220 : BitVec 1 := Scalar.cmpi .sgt c2_i32_149 c0_i32_152
  let v221 : BitVec 32 := Scalar.extui v220
  let c0_i32_153 : BitVec 32 := 0#32
  let v222 : BitVec 1 := Scalar.cmpi .slt c2_i32_149 c0_i32_153
  let v223 : BitVec 32 := Scalar.extui v222
  let v224 : BitVec 32 := Scalar.subi v221 v223
  let v225 : BitVec 1 := Scalar.cmpi .ne v219 v224
  let v226 : BitVec 32 := Scalar.remsi v2 c2_i32_149
  let c0_i32_154 : BitVec 32 := 0#32
  let v227 : BitVec 1 := Scalar.cmpi .ne v226 c0_i32_154
  let v228 : BitVec 1 := Scalar.andi v225 v227
  let v214 : BitVec 32 := Scalar.divsi v2 c2_i32_149
  let c1_i32_155 : BitVec 32 := 1#32
  let v229 : BitVec 32 := Scalar.subi v214 c1_i32_155
  let v230 : BitVec 32 := Scalar.select v228 v229 v214
  let c1_i32_156 : BitVec 32 := 1#32
  let v231 : BitVec 32 := Scalar.addi v230 c1_i32_156
  let c1_i32_157 : BitVec 32 := 1#32
  let v232 : BitVec 32 := Scalar.addi v231 c1_i32_157
  let c8_i32_158 : BitVec 32 := 8#32
  let v233 : BitVec 32 := Scalar.remsi v232 c8_i32_158
  let c2_i32_199 : BitVec 32 := 2#32
  let v298 : BitVec 32 := Scalar.muli v233 c2_i32_199
  let c0_i32_200 : BitVec 32 := 0#32
  let v299 : BitVec 32 := Scalar.addi v298 c0_i32_200
  let c1_i32_583 : BitVec 32 := 1#32
  let v924 : BitVec 32 := Scalar.muli v299 c1_i32_583
  let v925 : BitVec 32 := Scalar.addi c0_i32_584 v924
  v925.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_150 : BitVec 32 := 0#32
  let v215 : BitVec 1 := Scalar.cmpi .sgt v2 c0_i32_150
  let v216 : BitVec 32 := Scalar.extui v215
  let c0_i32_151 : BitVec 32 := 0#32
  let v217 : BitVec 1 := Scalar.cmpi .slt v2 c0_i32_151
  let v218 : BitVec 32 := Scalar.extui v217
  let v219 : BitVec 32 := Scalar.subi v216 v218
  let c2_i32_149 : BitVec 32 := 2#32
  let c0_i32_152 : BitVec 32 := 0#32
  let v220 : BitVec 1 := Scalar.cmpi .sgt c2_i32_149 c0_i32_152
  let v221 : BitVec 32 := Scalar.extui v220
  let c0_i32_153 : BitVec 32 := 0#32
  let v222 : BitVec 1 := Scalar.cmpi .slt c2_i32_149 c0_i32_153
  let v223 : BitVec 32 := Scalar.extui v222
  let v224 : BitVec 32 := Scalar.subi v221 v223
  let v225 : BitVec 1 := Scalar.cmpi .ne v219 v224
  let v226 : BitVec 32 := Scalar.remsi v2 c2_i32_149
  let c0_i32_154 : BitVec 32 := 0#32
  let v227 : BitVec 1 := Scalar.cmpi .ne v226 c0_i32_154
  let v228 : BitVec 1 := Scalar.andi v225 v227
  let v214 : BitVec 32 := Scalar.divsi v2 c2_i32_149
  let c1_i32_155 : BitVec 32 := 1#32
  let v229 : BitVec 32 := Scalar.subi v214 c1_i32_155
  let v230 : BitVec 32 := Scalar.select v228 v229 v214
  let c1_i32_156 : BitVec 32 := 1#32
  let v231 : BitVec 32 := Scalar.addi v230 c1_i32_156
  let c1_i32_157 : BitVec 32 := 1#32
  let v232 : BitVec 32 := Scalar.addi v231 c1_i32_157
  let c8_i32_158 : BitVec 32 := 8#32
  let v233 : BitVec 32 := Scalar.remsi v232 c8_i32_158
  let c2_i32_202 : BitVec 32 := 2#32
  let v303 : BitVec 32 := Scalar.muli v233 c2_i32_202
  let c1_i32_203 : BitVec 32 := 1#32
  let v304 : BitVec 32 := Scalar.addi v303 c1_i32_203
  let v305 : BitVec 1 := Scalar.cmpi .ne v304 v2
  let v306 : BitVec 32 := Scalar.extui v305
  let c0_i32_204 : BitVec 32 := 0#32
  let v307 : BitVec 1 := Scalar.cmpi .ne v306 c0_i32_204
  v307

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_150 : BitVec 32 := 0#32
  let v215 : BitVec 1 := Scalar.cmpi .sgt v2 c0_i32_150
  let v216 : BitVec 32 := Scalar.extui v215
  let c0_i32_151 : BitVec 32 := 0#32
  let v217 : BitVec 1 := Scalar.cmpi .slt v2 c0_i32_151
  let v218 : BitVec 32 := Scalar.extui v217
  let v219 : BitVec 32 := Scalar.subi v216 v218
  let c2_i32_149 : BitVec 32 := 2#32
  let c0_i32_152 : BitVec 32 := 0#32
  let v220 : BitVec 1 := Scalar.cmpi .sgt c2_i32_149 c0_i32_152
  let v221 : BitVec 32 := Scalar.extui v220
  let c0_i32_153 : BitVec 32 := 0#32
  let v222 : BitVec 1 := Scalar.cmpi .slt c2_i32_149 c0_i32_153
  let v223 : BitVec 32 := Scalar.extui v222
  let v224 : BitVec 32 := Scalar.subi v221 v223
  let v225 : BitVec 1 := Scalar.cmpi .ne v219 v224
  let v226 : BitVec 32 := Scalar.remsi v2 c2_i32_149
  let c0_i32_154 : BitVec 32 := 0#32
  let v227 : BitVec 1 := Scalar.cmpi .ne v226 c0_i32_154
  let v228 : BitVec 1 := Scalar.andi v225 v227
  let v214 : BitVec 32 := Scalar.divsi v2 c2_i32_149
  let c1_i32_155 : BitVec 32 := 1#32
  let v229 : BitVec 32 := Scalar.subi v214 c1_i32_155
  let v230 : BitVec 32 := Scalar.select v228 v229 v214
  let c1_i32_156 : BitVec 32 := 1#32
  let v231 : BitVec 32 := Scalar.addi v230 c1_i32_156
  let c1_i32_157 : BitVec 32 := 1#32
  let v232 : BitVec 32 := Scalar.addi v231 c1_i32_157
  let c8_i32_158 : BitVec 32 := 8#32
  let v233 : BitVec 32 := Scalar.remsi v232 c8_i32_158
  let c2_i32_202 : BitVec 32 := 2#32
  let v303 : BitVec 32 := Scalar.muli v233 c2_i32_202
  let c1_i32_203 : BitVec 32 := 1#32
  let v304 : BitVec 32 := Scalar.addi v303 c1_i32_203
  ![v304.toNat]
def k0_off16 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off17 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_585 : BitVec 32 := 0#32
  let c0_i32_586 : BitVec 32 := 0#32
  ![v2.toNat, 0, 0]
def k0_off18 (d0 : Dev nD) : Fin 2 → Nat :=
  let c0_i32_587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_150 : BitVec 32 := 0#32
  let v215 : BitVec 1 := Scalar.cmpi .sgt v2 c0_i32_150
  let v216 : BitVec 32 := Scalar.extui v215
  let c0_i32_151 : BitVec 32 := 0#32
  let v217 : BitVec 1 := Scalar.cmpi .slt v2 c0_i32_151
  let v218 : BitVec 32 := Scalar.extui v217
  let v219 : BitVec 32 := Scalar.subi v216 v218
  let c2_i32_149 : BitVec 32 := 2#32
  let c0_i32_152 : BitVec 32 := 0#32
  let v220 : BitVec 1 := Scalar.cmpi .sgt c2_i32_149 c0_i32_152
  let v221 : BitVec 32 := Scalar.extui v220
  let c0_i32_153 : BitVec 32 := 0#32
  let v222 : BitVec 1 := Scalar.cmpi .slt c2_i32_149 c0_i32_153
  let v223 : BitVec 32 := Scalar.extui v222
  let v224 : BitVec 32 := Scalar.subi v221 v223
  let v225 : BitVec 1 := Scalar.cmpi .ne v219 v224
  let v226 : BitVec 32 := Scalar.remsi v2 c2_i32_149
  let c0_i32_154 : BitVec 32 := 0#32
  let v227 : BitVec 1 := Scalar.cmpi .ne v226 c0_i32_154
  let v228 : BitVec 1 := Scalar.andi v225 v227
  let v214 : BitVec 32 := Scalar.divsi v2 c2_i32_149
  let c1_i32_155 : BitVec 32 := 1#32
  let v229 : BitVec 32 := Scalar.subi v214 c1_i32_155
  let v230 : BitVec 32 := Scalar.select v228 v229 v214
  let c1_i32_156 : BitVec 32 := 1#32
  let v231 : BitVec 32 := Scalar.addi v230 c1_i32_156
  let c1_i32_157 : BitVec 32 := 1#32
  let v232 : BitVec 32 := Scalar.addi v231 c1_i32_157
  let c8_i32_158 : BitVec 32 := 8#32
  let v233 : BitVec 32 := Scalar.remsi v232 c8_i32_158
  let c2_i32_202 : BitVec 32 := 2#32
  let v303 : BitVec 32 := Scalar.muli v233 c2_i32_202
  let c1_i32_203 : BitVec 32 := 1#32
  let v304 : BitVec 32 := Scalar.addi v303 c1_i32_203
  let c128_i32_582 : BitVec 32 := 128#32
  let v923 : BitVec 32 := Scalar.muli v304 c128_i32_582
  ![0, v923.toNat]
def k0_dev19 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_150 : BitVec 32 := 0#32
  let v215 : BitVec 1 := Scalar.cmpi .sgt v2 c0_i32_150
  let v216 : BitVec 32 := Scalar.extui v215
  let c0_i32_151 : BitVec 32 := 0#32
  let v217 : BitVec 1 := Scalar.cmpi .slt v2 c0_i32_151
  let v218 : BitVec 32 := Scalar.extui v217
  let v219 : BitVec 32 := Scalar.subi v216 v218
  let c2_i32_149 : BitVec 32 := 2#32
  let c0_i32_152 : BitVec 32 := 0#32
  let v220 : BitVec 1 := Scalar.cmpi .sgt c2_i32_149 c0_i32_152
  let v221 : BitVec 32 := Scalar.extui v220
  let c0_i32_153 : BitVec 32 := 0#32
  let v222 : BitVec 1 := Scalar.cmpi .slt c2_i32_149 c0_i32_153
  let v223 : BitVec 32 := Scalar.extui v222
  let v224 : BitVec 32 := Scalar.subi v221 v223
  let v225 : BitVec 1 := Scalar.cmpi .ne v219 v224
  let v226 : BitVec 32 := Scalar.remsi v2 c2_i32_149
  let c0_i32_154 : BitVec 32 := 0#32
  let v227 : BitVec 1 := Scalar.cmpi .ne v226 c0_i32_154
  let v228 : BitVec 1 := Scalar.andi v225 v227
  let v214 : BitVec 32 := Scalar.divsi v2 c2_i32_149
  let c1_i32_155 : BitVec 32 := 1#32
  let v229 : BitVec 32 := Scalar.subi v214 c1_i32_155
  let v230 : BitVec 32 := Scalar.select v228 v229 v214
  let c1_i32_156 : BitVec 32 := 1#32
  let v231 : BitVec 32 := Scalar.addi v230 c1_i32_156
  let c1_i32_157 : BitVec 32 := 1#32
  let v232 : BitVec 32 := Scalar.addi v231 c1_i32_157
  let c8_i32_158 : BitVec 32 := 8#32
  let v233 : BitVec 32 := Scalar.remsi v232 c8_i32_158
  let c2_i32_202 : BitVec 32 := 2#32
  let v303 : BitVec 32 := Scalar.muli v233 c2_i32_202
  let c1_i32_203 : BitVec 32 := 1#32
  let v304 : BitVec 32 := Scalar.addi v303 c1_i32_203
  let c1_i32_583 : BitVec 32 := 1#32
  let v924 : BitVec 32 := Scalar.muli v304 c1_i32_583
  let v925 : BitVec 32 := Scalar.addi c0_i32_584 v924
  v925.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_206 : BitVec 32 := 0#32
  let v309 : BitVec 1 := Scalar.cmpi .sgt v2 c0_i32_206
  let v310 : BitVec 32 := Scalar.extui v309
  let c0_i32_207 : BitVec 32 := 0#32
  let v311 : BitVec 1 := Scalar.cmpi .slt v2 c0_i32_207
  let v312 : BitVec 32 := Scalar.extui v311
  let v313 : BitVec 32 := Scalar.subi v310 v312
  let c2_i32_205 : BitVec 32 := 2#32
  let c0_i32_208 : BitVec 32 := 0#32
  let v314 : BitVec 1 := Scalar.cmpi .sgt c2_i32_205 c0_i32_208
  let v315 : BitVec 32 := Scalar.extui v314
  let c0_i32_209 : BitVec 32 := 0#32
  let v316 : BitVec 1 := Scalar.cmpi .slt c2_i32_205 c0_i32_209
  let v317 : BitVec 32 := Scalar.extui v316
  let v318 : BitVec 32 := Scalar.subi v315 v317
  let v319 : BitVec 1 := Scalar.cmpi .ne v313 v318
  let v320 : BitVec 32 := Scalar.remsi v2 c2_i32_205
  let c0_i32_210 : BitVec 32 := 0#32
  let v321 : BitVec 1 := Scalar.cmpi .ne v320 c0_i32_210
  let v322 : BitVec 1 := Scalar.andi v319 v321
  let v308 : BitVec 32 := Scalar.divsi v2 c2_i32_205
  let c1_i32_211 : BitVec 32 := 1#32
  let v323 : BitVec 32 := Scalar.subi v308 c1_i32_211
  let v324 : BitVec 32 := Scalar.select v322 v323 v308
  let c1_i32_212 : BitVec 32 := 1#32
  let v325 : BitVec 32 := Scalar.addi v324 c1_i32_212
  let c2_i32_213 : BitVec 32 := 2#32
  let v326 : BitVec 32 := Scalar.addi v325 c2_i32_213
  let c8_i32_214 : BitVec 32 := 8#32
  let v327 : BitVec 32 := Scalar.remsi v326 c8_i32_214
  let c2_i32_256 : BitVec 32 := 2#32
  let v392 : BitVec 32 := Scalar.muli v327 c2_i32_256
  let c0_i32_257 : BitVec 32 := 0#32
  let v393 : BitVec 32 := Scalar.addi v392 c0_i32_257
  let v394 : BitVec 1 := Scalar.cmpi .ne v393 v2
  let v395 : BitVec 32 := Scalar.extui v394
  let c0_i32_258 : BitVec 32 := 0#32
  let v396 : BitVec 1 := Scalar.cmpi .ne v395 c0_i32_258
  v396

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_206 : BitVec 32 := 0#32
  let v309 : BitVec 1 := Scalar.cmpi .sgt v2 c0_i32_206
  let v310 : BitVec 32 := Scalar.extui v309
  let c0_i32_207 : BitVec 32 := 0#32
  let v311 : BitVec 1 := Scalar.cmpi .slt v2 c0_i32_207
  let v312 : BitVec 32 := Scalar.extui v311
  let v313 : BitVec 32 := Scalar.subi v310 v312
  let c2_i32_205 : BitVec 32 := 2#32
  let c0_i32_208 : BitVec 32 := 0#32
  let v314 : BitVec 1 := Scalar.cmpi .sgt c2_i32_205 c0_i32_208
  let v315 : BitVec 32 := Scalar.extui v314
  let c0_i32_209 : BitVec 32 := 0#32
  let v316 : BitVec 1 := Scalar.cmpi .slt c2_i32_205 c0_i32_209
  let v317 : BitVec 32 := Scalar.extui v316
  let v318 : BitVec 32 := Scalar.subi v315 v317
  let v319 : BitVec 1 := Scalar.cmpi .ne v313 v318
  let v320 : BitVec 32 := Scalar.remsi v2 c2_i32_205
  let c0_i32_210 : BitVec 32 := 0#32
  let v321 : BitVec 1 := Scalar.cmpi .ne v320 c0_i32_210
  let v322 : BitVec 1 := Scalar.andi v319 v321
  let v308 : BitVec 32 := Scalar.divsi v2 c2_i32_205
  let c1_i32_211 : BitVec 32 := 1#32
  let v323 : BitVec 32 := Scalar.subi v308 c1_i32_211
  let v324 : BitVec 32 := Scalar.select v322 v323 v308
  let c1_i32_212 : BitVec 32 := 1#32
  let v325 : BitVec 32 := Scalar.addi v324 c1_i32_212
  let c2_i32_213 : BitVec 32 := 2#32
  let v326 : BitVec 32 := Scalar.addi v325 c2_i32_213
  let c8_i32_214 : BitVec 32 := 8#32
  let v327 : BitVec 32 := Scalar.remsi v326 c8_i32_214
  let c2_i32_256 : BitVec 32 := 2#32
  let v392 : BitVec 32 := Scalar.muli v327 c2_i32_256
  let c0_i32_257 : BitVec 32 := 0#32
  let v393 : BitVec 32 := Scalar.addi v392 c0_i32_257
  ![v393.toNat]
def k0_off20 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_585 : BitVec 32 := 0#32
  let c0_i32_586 : BitVec 32 := 0#32
  ![v2.toNat, 0, 0]
def k0_off22 (d0 : Dev nD) : Fin 2 → Nat :=
  let c0_i32_587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_206 : BitVec 32 := 0#32
  let v309 : BitVec 1 := Scalar.cmpi .sgt v2 c0_i32_206
  let v310 : BitVec 32 := Scalar.extui v309
  let c0_i32_207 : BitVec 32 := 0#32
  let v311 : BitVec 1 := Scalar.cmpi .slt v2 c0_i32_207
  let v312 : BitVec 32 := Scalar.extui v311
  let v313 : BitVec 32 := Scalar.subi v310 v312
  let c2_i32_205 : BitVec 32 := 2#32
  let c0_i32_208 : BitVec 32 := 0#32
  let v314 : BitVec 1 := Scalar.cmpi .sgt c2_i32_205 c0_i32_208
  let v315 : BitVec 32 := Scalar.extui v314
  let c0_i32_209 : BitVec 32 := 0#32
  let v316 : BitVec 1 := Scalar.cmpi .slt c2_i32_205 c0_i32_209
  let v317 : BitVec 32 := Scalar.extui v316
  let v318 : BitVec 32 := Scalar.subi v315 v317
  let v319 : BitVec 1 := Scalar.cmpi .ne v313 v318
  let v320 : BitVec 32 := Scalar.remsi v2 c2_i32_205
  let c0_i32_210 : BitVec 32 := 0#32
  let v321 : BitVec 1 := Scalar.cmpi .ne v320 c0_i32_210
  let v322 : BitVec 1 := Scalar.andi v319 v321
  let v308 : BitVec 32 := Scalar.divsi v2 c2_i32_205
  let c1_i32_211 : BitVec 32 := 1#32
  let v323 : BitVec 32 := Scalar.subi v308 c1_i32_211
  let v324 : BitVec 32 := Scalar.select v322 v323 v308
  let c1_i32_212 : BitVec 32 := 1#32
  let v325 : BitVec 32 := Scalar.addi v324 c1_i32_212
  let c2_i32_213 : BitVec 32 := 2#32
  let v326 : BitVec 32 := Scalar.addi v325 c2_i32_213
  let c8_i32_214 : BitVec 32 := 8#32
  let v327 : BitVec 32 := Scalar.remsi v326 c8_i32_214
  let c2_i32_256 : BitVec 32 := 2#32
  let v392 : BitVec 32 := Scalar.muli v327 c2_i32_256
  let c0_i32_257 : BitVec 32 := 0#32
  let v393 : BitVec 32 := Scalar.addi v392 c0_i32_257
  let c128_i32_582 : BitVec 32 := 128#32
  let v923 : BitVec 32 := Scalar.muli v393 c128_i32_582
  ![0, v923.toNat]
def k0_dev20 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_206 : BitVec 32 := 0#32
  let v309 : BitVec 1 := Scalar.cmpi .sgt v2 c0_i32_206
  let v310 : BitVec 32 := Scalar.extui v309
  let c0_i32_207 : BitVec 32 := 0#32
  let v311 : BitVec 1 := Scalar.cmpi .slt v2 c0_i32_207
  let v312 : BitVec 32 := Scalar.extui v311
  let v313 : BitVec 32 := Scalar.subi v310 v312
  let c2_i32_205 : BitVec 32 := 2#32
  let c0_i32_208 : BitVec 32 := 0#32
  let v314 : BitVec 1 := Scalar.cmpi .sgt c2_i32_205 c0_i32_208
  let v315 : BitVec 32 := Scalar.extui v314
  let c0_i32_209 : BitVec 32 := 0#32
  let v316 : BitVec 1 := Scalar.cmpi .slt c2_i32_205 c0_i32_209
  let v317 : BitVec 32 := Scalar.extui v316
  let v318 : BitVec 32 := Scalar.subi v315 v317
  let v319 : BitVec 1 := Scalar.cmpi .ne v313 v318
  let v320 : BitVec 32 := Scalar.remsi v2 c2_i32_205
  let c0_i32_210 : BitVec 32 := 0#32
  let v321 : BitVec 1 := Scalar.cmpi .ne v320 c0_i32_210
  let v322 : BitVec 1 := Scalar.andi v319 v321
  let v308 : BitVec 32 := Scalar.divsi v2 c2_i32_205
  let c1_i32_211 : BitVec 32 := 1#32
  let v323 : BitVec 32 := Scalar.subi v308 c1_i32_211
  let v324 : BitVec 32 := Scalar.select v322 v323 v308
  let c1_i32_212 : BitVec 32 := 1#32
  let v325 : BitVec 32 := Scalar.addi v324 c1_i32_212
  let c2_i32_213 : BitVec 32 := 2#32
  let v326 : BitVec 32 := Scalar.addi v325 c2_i32_213
  let c8_i32_214 : BitVec 32 := 8#32
  let v327 : BitVec 32 := Scalar.remsi v326 c8_i32_214
  let c2_i32_256 : BitVec 32 := 2#32
  let v392 : BitVec 32 := Scalar.muli v327 c2_i32_256
  let c0_i32_257 : BitVec 32 := 0#32
  let v393 : BitVec 32 := Scalar.addi v392 c0_i32_257
  let c1_i32_583 : BitVec 32 := 1#32
  let v924 : BitVec 32 := Scalar.muli v393 c1_i32_583
  let v925 : BitVec 32 := Scalar.addi c0_i32_584 v924
  v925.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_206 : BitVec 32 := 0#32
  let v309 : BitVec 1 := Scalar.cmpi .sgt v2 c0_i32_206
  let v310 : BitVec 32 := Scalar.extui v309
  let c0_i32_207 : BitVec 32 := 0#32
  let v311 : BitVec 1 := Scalar.cmpi .slt v2 c0_i32_207
  let v312 : BitVec 32 := Scalar.extui v311
  let v313 : BitVec 32 := Scalar.subi v310 v312
  let c2_i32_205 : BitVec 32 := 2#32
  let c0_i32_208 : BitVec 32 := 0#32
  let v314 : BitVec 1 := Scalar.cmpi .sgt c2_i32_205 c0_i32_208
  let v315 : BitVec 32 := Scalar.extui v314
  let c0_i32_209 : BitVec 32 := 0#32
  let v316 : BitVec 1 := Scalar.cmpi .slt c2_i32_205 c0_i32_209
  let v317 : BitVec 32 := Scalar.extui v316
  let v318 : BitVec 32 := Scalar.subi v315 v317
  let v319 : BitVec 1 := Scalar.cmpi .ne v313 v318
  let v320 : BitVec 32 := Scalar.remsi v2 c2_i32_205
  let c0_i32_210 : BitVec 32 := 0#32
  let v321 : BitVec 1 := Scalar.cmpi .ne v320 c0_i32_210
  let v322 : BitVec 1 := Scalar.andi v319 v321
  let v308 : BitVec 32 := Scalar.divsi v2 c2_i32_205
  let c1_i32_211 : BitVec 32 := 1#32
  let v323 : BitVec 32 := Scalar.subi v308 c1_i32_211
  let v324 : BitVec 32 := Scalar.select v322 v323 v308
  let c1_i32_212 : BitVec 32 := 1#32
  let v325 : BitVec 32 := Scalar.addi v324 c1_i32_212
  let c2_i32_213 : BitVec 32 := 2#32
  let v326 : BitVec 32 := Scalar.addi v325 c2_i32_213
  let c8_i32_214 : BitVec 32 := 8#32
  let v327 : BitVec 32 := Scalar.remsi v326 c8_i32_214
  let c2_i32_259 : BitVec 32 := 2#32
  let v397 : BitVec 32 := Scalar.muli v327 c2_i32_259
  let c1_i32_260 : BitVec 32 := 1#32
  let v398 : BitVec 32 := Scalar.addi v397 c1_i32_260
  let v399 : BitVec 1 := Scalar.cmpi .ne v398 v2
  let v400 : BitVec 32 := Scalar.extui v399
  let c0_i32_261 : BitVec 32 := 0#32
  let v401 : BitVec 1 := Scalar.cmpi .ne v400 c0_i32_261
  v401

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_206 : BitVec 32 := 0#32
  let v309 : BitVec 1 := Scalar.cmpi .sgt v2 c0_i32_206
  let v310 : BitVec 32 := Scalar.extui v309
  let c0_i32_207 : BitVec 32 := 0#32
  let v311 : BitVec 1 := Scalar.cmpi .slt v2 c0_i32_207
  let v312 : BitVec 32 := Scalar.extui v311
  let v313 : BitVec 32 := Scalar.subi v310 v312
  let c2_i32_205 : BitVec 32 := 2#32
  let c0_i32_208 : BitVec 32 := 0#32
  let v314 : BitVec 1 := Scalar.cmpi .sgt c2_i32_205 c0_i32_208
  let v315 : BitVec 32 := Scalar.extui v314
  let c0_i32_209 : BitVec 32 := 0#32
  let v316 : BitVec 1 := Scalar.cmpi .slt c2_i32_205 c0_i32_209
  let v317 : BitVec 32 := Scalar.extui v316
  let v318 : BitVec 32 := Scalar.subi v315 v317
  let v319 : BitVec 1 := Scalar.cmpi .ne v313 v318
  let v320 : BitVec 32 := Scalar.remsi v2 c2_i32_205
  let c0_i32_210 : BitVec 32 := 0#32
  let v321 : BitVec 1 := Scalar.cmpi .ne v320 c0_i32_210
  let v322 : BitVec 1 := Scalar.andi v319 v321
  let v308 : BitVec 32 := Scalar.divsi v2 c2_i32_205
  let c1_i32_211 : BitVec 32 := 1#32
  let v323 : BitVec 32 := Scalar.subi v308 c1_i32_211
  let v324 : BitVec 32 := Scalar.select v322 v323 v308
  let c1_i32_212 : BitVec 32 := 1#32
  let v325 : BitVec 32 := Scalar.addi v324 c1_i32_212
  let c2_i32_213 : BitVec 32 := 2#32
  let v326 : BitVec 32 := Scalar.addi v325 c2_i32_213
  let c8_i32_214 : BitVec 32 := 8#32
  let v327 : BitVec 32 := Scalar.remsi v326 c8_i32_214
  let c2_i32_259 : BitVec 32 := 2#32
  let v397 : BitVec 32 := Scalar.muli v327 c2_i32_259
  let c1_i32_260 : BitVec 32 := 1#32
  let v398 : BitVec 32 := Scalar.addi v397 c1_i32_260
  ![v398.toNat]
def k0_off24 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off25 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_585 : BitVec 32 := 0#32
  let c0_i32_586 : BitVec 32 := 0#32
  ![v2.toNat, 0, 0]
def k0_off26 (d0 : Dev nD) : Fin 2 → Nat :=
  let c0_i32_587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_206 : BitVec 32 := 0#32
  let v309 : BitVec 1 := Scalar.cmpi .sgt v2 c0_i32_206
  let v310 : BitVec 32 := Scalar.extui v309
  let c0_i32_207 : BitVec 32 := 0#32
  let v311 : BitVec 1 := Scalar.cmpi .slt v2 c0_i32_207
  let v312 : BitVec 32 := Scalar.extui v311
  let v313 : BitVec 32 := Scalar.subi v310 v312
  let c2_i32_205 : BitVec 32 := 2#32
  let c0_i32_208 : BitVec 32 := 0#32
  let v314 : BitVec 1 := Scalar.cmpi .sgt c2_i32_205 c0_i32_208
  let v315 : BitVec 32 := Scalar.extui v314
  let c0_i32_209 : BitVec 32 := 0#32
  let v316 : BitVec 1 := Scalar.cmpi .slt c2_i32_205 c0_i32_209
  let v317 : BitVec 32 := Scalar.extui v316
  let v318 : BitVec 32 := Scalar.subi v315 v317
  let v319 : BitVec 1 := Scalar.cmpi .ne v313 v318
  let v320 : BitVec 32 := Scalar.remsi v2 c2_i32_205
  let c0_i32_210 : BitVec 32 := 0#32
  let v321 : BitVec 1 := Scalar.cmpi .ne v320 c0_i32_210
  let v322 : BitVec 1 := Scalar.andi v319 v321
  let v308 : BitVec 32 := Scalar.divsi v2 c2_i32_205
  let c1_i32_211 : BitVec 32 := 1#32
  let v323 : BitVec 32 := Scalar.subi v308 c1_i32_211
  let v324 : BitVec 32 := Scalar.select v322 v323 v308
  let c1_i32_212 : BitVec 32 := 1#32
  let v325 : BitVec 32 := Scalar.addi v324 c1_i32_212
  let c2_i32_213 : BitVec 32 := 2#32
  let v326 : BitVec 32 := Scalar.addi v325 c2_i32_213
  let c8_i32_214 : BitVec 32 := 8#32
  let v327 : BitVec 32 := Scalar.remsi v326 c8_i32_214
  let c2_i32_259 : BitVec 32 := 2#32
  let v397 : BitVec 32 := Scalar.muli v327 c2_i32_259
  let c1_i32_260 : BitVec 32 := 1#32
  let v398 : BitVec 32 := Scalar.addi v397 c1_i32_260
  let c128_i32_582 : BitVec 32 := 128#32
  let v923 : BitVec 32 := Scalar.muli v398 c128_i32_582
  ![0, v923.toNat]
def k0_dev21 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_206 : BitVec 32 := 0#32
  let v309 : BitVec 1 := Scalar.cmpi .sgt v2 c0_i32_206
  let v310 : BitVec 32 := Scalar.extui v309
  let c0_i32_207 : BitVec 32 := 0#32
  let v311 : BitVec 1 := Scalar.cmpi .slt v2 c0_i32_207
  let v312 : BitVec 32 := Scalar.extui v311
  let v313 : BitVec 32 := Scalar.subi v310 v312
  let c2_i32_205 : BitVec 32 := 2#32
  let c0_i32_208 : BitVec 32 := 0#32
  let v314 : BitVec 1 := Scalar.cmpi .sgt c2_i32_205 c0_i32_208
  let v315 : BitVec 32 := Scalar.extui v314
  let c0_i32_209 : BitVec 32 := 0#32
  let v316 : BitVec 1 := Scalar.cmpi .slt c2_i32_205 c0_i32_209
  let v317 : BitVec 32 := Scalar.extui v316
  let v318 : BitVec 32 := Scalar.subi v315 v317
  let v319 : BitVec 1 := Scalar.cmpi .ne v313 v318
  let v320 : BitVec 32 := Scalar.remsi v2 c2_i32_205
  let c0_i32_210 : BitVec 32 := 0#32
  let v321 : BitVec 1 := Scalar.cmpi .ne v320 c0_i32_210
  let v322 : BitVec 1 := Scalar.andi v319 v321
  let v308 : BitVec 32 := Scalar.divsi v2 c2_i32_205
  let c1_i32_211 : BitVec 32 := 1#32
  let v323 : BitVec 32 := Scalar.subi v308 c1_i32_211
  let v324 : BitVec 32 := Scalar.select v322 v323 v308
  let c1_i32_212 : BitVec 32 := 1#32
  let v325 : BitVec 32 := Scalar.addi v324 c1_i32_212
  let c2_i32_213 : BitVec 32 := 2#32
  let v326 : BitVec 32 := Scalar.addi v325 c2_i32_213
  let c8_i32_214 : BitVec 32 := 8#32
  let v327 : BitVec 32 := Scalar.remsi v326 c8_i32_214
  let c2_i32_259 : BitVec 32 := 2#32
  let v397 : BitVec 32 := Scalar.muli v327 c2_i32_259
  let c1_i32_260 : BitVec 32 := 1#32
  let v398 : BitVec 32 := Scalar.addi v397 c1_i32_260
  let c1_i32_583 : BitVec 32 := 1#32
  let v924 : BitVec 32 := Scalar.muli v398 c1_i32_583
  let v925 : BitVec 32 := Scalar.addi c0_i32_584 v924
  v925.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_263 : BitVec 32 := 0#32
  let v403 : BitVec 1 := Scalar.cmpi .sgt v2 c0_i32_263
  let v404 : BitVec 32 := Scalar.extui v403
  let c0_i32_264 : BitVec 32 := 0#32
  let v405 : BitVec 1 := Scalar.cmpi .slt v2 c0_i32_264
  let v406 : BitVec 32 := Scalar.extui v405
  let v407 : BitVec 32 := Scalar.subi v404 v406
  let c2_i32_262 : BitVec 32 := 2#32
  let c0_i32_265 : BitVec 32 := 0#32
  let v408 : BitVec 1 := Scalar.cmpi .sgt c2_i32_262 c0_i32_265
  let v409 : BitVec 32 := Scalar.extui v408
  let c0_i32_266 : BitVec 32 := 0#32
  let v410 : BitVec 1 := Scalar.cmpi .slt c2_i32_262 c0_i32_266
  let v411 : BitVec 32 := Scalar.extui v410
  let v412 : BitVec 32 := Scalar.subi v409 v411
  let v413 : BitVec 1 := Scalar.cmpi .ne v407 v412
  let v414 : BitVec 32 := Scalar.remsi v2 c2_i32_262
  let c0_i32_267 : BitVec 32 := 0#32
  let v415 : BitVec 1 := Scalar.cmpi .ne v414 c0_i32_267
  let v416 : BitVec 1 := Scalar.andi v413 v415
  let v402 : BitVec 32 := Scalar.divsi v2 c2_i32_262
  let c1_i32_268 : BitVec 32 := 1#32
  let v417 : BitVec 32 := Scalar.subi v402 c1_i32_268
  let v418 : BitVec 32 := Scalar.select v416 v417 v402
  let c1_i32_269 : BitVec 32 := 1#32
  let v419 : BitVec 32 := Scalar.addi v418 c1_i32_269
  let c3_i32_270 : BitVec 32 := 3#32
  let v420 : BitVec 32 := Scalar.addi v419 c3_i32_270
  let c8_i32_271 : BitVec 32 := 8#32
  let v421 : BitVec 32 := Scalar.remsi v420 c8_i32_271
  let c2_i32_313 : BitVec 32 := 2#32
  let v486 : BitVec 32 := Scalar.muli v421 c2_i32_313
  let c0_i32_314 : BitVec 32 := 0#32
  let v487 : BitVec 32 := Scalar.addi v486 c0_i32_314
  let v488 : BitVec 1 := Scalar.cmpi .ne v487 v2
  let v489 : BitVec 32 := Scalar.extui v488
  let c0_i32_315 : BitVec 32 := 0#32
  let v490 : BitVec 1 := Scalar.cmpi .ne v489 c0_i32_315
  v490

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_263 : BitVec 32 := 0#32
  let v403 : BitVec 1 := Scalar.cmpi .sgt v2 c0_i32_263
  let v404 : BitVec 32 := Scalar.extui v403
  let c0_i32_264 : BitVec 32 := 0#32
  let v405 : BitVec 1 := Scalar.cmpi .slt v2 c0_i32_264
  let v406 : BitVec 32 := Scalar.extui v405
  let v407 : BitVec 32 := Scalar.subi v404 v406
  let c2_i32_262 : BitVec 32 := 2#32
  let c0_i32_265 : BitVec 32 := 0#32
  let v408 : BitVec 1 := Scalar.cmpi .sgt c2_i32_262 c0_i32_265
  let v409 : BitVec 32 := Scalar.extui v408
  let c0_i32_266 : BitVec 32 := 0#32
  let v410 : BitVec 1 := Scalar.cmpi .slt c2_i32_262 c0_i32_266
  let v411 : BitVec 32 := Scalar.extui v410
  let v412 : BitVec 32 := Scalar.subi v409 v411
  let v413 : BitVec 1 := Scalar.cmpi .ne v407 v412
  let v414 : BitVec 32 := Scalar.remsi v2 c2_i32_262
  let c0_i32_267 : BitVec 32 := 0#32
  let v415 : BitVec 1 := Scalar.cmpi .ne v414 c0_i32_267
  let v416 : BitVec 1 := Scalar.andi v413 v415
  let v402 : BitVec 32 := Scalar.divsi v2 c2_i32_262
  let c1_i32_268 : BitVec 32 := 1#32
  let v417 : BitVec 32 := Scalar.subi v402 c1_i32_268
  let v418 : BitVec 32 := Scalar.select v416 v417 v402
  let c1_i32_269 : BitVec 32 := 1#32
  let v419 : BitVec 32 := Scalar.addi v418 c1_i32_269
  let c3_i32_270 : BitVec 32 := 3#32
  let v420 : BitVec 32 := Scalar.addi v419 c3_i32_270
  let c8_i32_271 : BitVec 32 := 8#32
  let v421 : BitVec 32 := Scalar.remsi v420 c8_i32_271
  let c2_i32_313 : BitVec 32 := 2#32
  let v486 : BitVec 32 := Scalar.muli v421 c2_i32_313
  let c0_i32_314 : BitVec 32 := 0#32
  let v487 : BitVec 32 := Scalar.addi v486 c0_i32_314
  ![v487.toNat]
def k0_off28 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off29 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_585 : BitVec 32 := 0#32
  let c0_i32_586 : BitVec 32 := 0#32
  ![v2.toNat, 0, 0]
def k0_off30 (d0 : Dev nD) : Fin 2 → Nat :=
  let c0_i32_587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_263 : BitVec 32 := 0#32
  let v403 : BitVec 1 := Scalar.cmpi .sgt v2 c0_i32_263
  let v404 : BitVec 32 := Scalar.extui v403
  let c0_i32_264 : BitVec 32 := 0#32
  let v405 : BitVec 1 := Scalar.cmpi .slt v2 c0_i32_264
  let v406 : BitVec 32 := Scalar.extui v405
  let v407 : BitVec 32 := Scalar.subi v404 v406
  let c2_i32_262 : BitVec 32 := 2#32
  let c0_i32_265 : BitVec 32 := 0#32
  let v408 : BitVec 1 := Scalar.cmpi .sgt c2_i32_262 c0_i32_265
  let v409 : BitVec 32 := Scalar.extui v408
  let c0_i32_266 : BitVec 32 := 0#32
  let v410 : BitVec 1 := Scalar.cmpi .slt c2_i32_262 c0_i32_266
  let v411 : BitVec 32 := Scalar.extui v410
  let v412 : BitVec 32 := Scalar.subi v409 v411
  let v413 : BitVec 1 := Scalar.cmpi .ne v407 v412
  let v414 : BitVec 32 := Scalar.remsi v2 c2_i32_262
  let c0_i32_267 : BitVec 32 := 0#32
  let v415 : BitVec 1 := Scalar.cmpi .ne v414 c0_i32_267
  let v416 : BitVec 1 := Scalar.andi v413 v415
  let v402 : BitVec 32 := Scalar.divsi v2 c2_i32_262
  let c1_i32_268 : BitVec 32 := 1#32
  let v417 : BitVec 32 := Scalar.subi v402 c1_i32_268
  let v418 : BitVec 32 := Scalar.select v416 v417 v402
  let c1_i32_269 : BitVec 32 := 1#32
  let v419 : BitVec 32 := Scalar.addi v418 c1_i32_269
  let c3_i32_270 : BitVec 32 := 3#32
  let v420 : BitVec 32 := Scalar.addi v419 c3_i32_270
  let c8_i32_271 : BitVec 32 := 8#32
  let v421 : BitVec 32 := Scalar.remsi v420 c8_i32_271
  let c2_i32_313 : BitVec 32 := 2#32
  let v486 : BitVec 32 := Scalar.muli v421 c2_i32_313
  let c0_i32_314 : BitVec 32 := 0#32
  let v487 : BitVec 32 := Scalar.addi v486 c0_i32_314
  let c128_i32_582 : BitVec 32 := 128#32
  let v923 : BitVec 32 := Scalar.muli v487 c128_i32_582
  ![0, v923.toNat]
def k0_dev22 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_263 : BitVec 32 := 0#32
  let v403 : BitVec 1 := Scalar.cmpi .sgt v2 c0_i32_263
  let v404 : BitVec 32 := Scalar.extui v403
  let c0_i32_264 : BitVec 32 := 0#32
  let v405 : BitVec 1 := Scalar.cmpi .slt v2 c0_i32_264
  let v406 : BitVec 32 := Scalar.extui v405
  let v407 : BitVec 32 := Scalar.subi v404 v406
  let c2_i32_262 : BitVec 32 := 2#32
  let c0_i32_265 : BitVec 32 := 0#32
  let v408 : BitVec 1 := Scalar.cmpi .sgt c2_i32_262 c0_i32_265
  let v409 : BitVec 32 := Scalar.extui v408
  let c0_i32_266 : BitVec 32 := 0#32
  let v410 : BitVec 1 := Scalar.cmpi .slt c2_i32_262 c0_i32_266
  let v411 : BitVec 32 := Scalar.extui v410
  let v412 : BitVec 32 := Scalar.subi v409 v411
  let v413 : BitVec 1 := Scalar.cmpi .ne v407 v412
  let v414 : BitVec 32 := Scalar.remsi v2 c2_i32_262
  let c0_i32_267 : BitVec 32 := 0#32
  let v415 : BitVec 1 := Scalar.cmpi .ne v414 c0_i32_267
  let v416 : BitVec 1 := Scalar.andi v413 v415
  let v402 : BitVec 32 := Scalar.divsi v2 c2_i32_262
  let c1_i32_268 : BitVec 32 := 1#32
  let v417 : BitVec 32 := Scalar.subi v402 c1_i32_268
  let v418 : BitVec 32 := Scalar.select v416 v417 v402
  let c1_i32_269 : BitVec 32 := 1#32
  let v419 : BitVec 32 := Scalar.addi v418 c1_i32_269
  let c3_i32_270 : BitVec 32 := 3#32
  let v420 : BitVec 32 := Scalar.addi v419 c3_i32_270
  let c8_i32_271 : BitVec 32 := 8#32
  let v421 : BitVec 32 := Scalar.remsi v420 c8_i32_271
  let c2_i32_313 : BitVec 32 := 2#32
  let v486 : BitVec 32 := Scalar.muli v421 c2_i32_313
  let c0_i32_314 : BitVec 32 := 0#32
  let v487 : BitVec 32 := Scalar.addi v486 c0_i32_314
  let c1_i32_583 : BitVec 32 := 1#32
  let v924 : BitVec 32 := Scalar.muli v487 c1_i32_583
  let v925 : BitVec 32 := Scalar.addi c0_i32_584 v924
  v925.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_263 : BitVec 32 := 0#32
  let v403 : BitVec 1 := Scalar.cmpi .sgt v2 c0_i32_263
  let v404 : BitVec 32 := Scalar.extui v403
  let c0_i32_264 : BitVec 32 := 0#32
  let v405 : BitVec 1 := Scalar.cmpi .slt v2 c0_i32_264
  let v406 : BitVec 32 := Scalar.extui v405
  let v407 : BitVec 32 := Scalar.subi v404 v406
  let c2_i32_262 : BitVec 32 := 2#32
  let c0_i32_265 : BitVec 32 := 0#32
  let v408 : BitVec 1 := Scalar.cmpi .sgt c2_i32_262 c0_i32_265
  let v409 : BitVec 32 := Scalar.extui v408
  let c0_i32_266 : BitVec 32 := 0#32
  let v410 : BitVec 1 := Scalar.cmpi .slt c2_i32_262 c0_i32_266
  let v411 : BitVec 32 := Scalar.extui v410
  let v412 : BitVec 32 := Scalar.subi v409 v411
  let v413 : BitVec 1 := Scalar.cmpi .ne v407 v412
  let v414 : BitVec 32 := Scalar.remsi v2 c2_i32_262
  let c0_i32_267 : BitVec 32 := 0#32
  let v415 : BitVec 1 := Scalar.cmpi .ne v414 c0_i32_267
  let v416 : BitVec 1 := Scalar.andi v413 v415
  let v402 : BitVec 32 := Scalar.divsi v2 c2_i32_262
  let c1_i32_268 : BitVec 32 := 1#32
  let v417 : BitVec 32 := Scalar.subi v402 c1_i32_268
  let v418 : BitVec 32 := Scalar.select v416 v417 v402
  let c1_i32_269 : BitVec 32 := 1#32
  let v419 : BitVec 32 := Scalar.addi v418 c1_i32_269
  let c3_i32_270 : BitVec 32 := 3#32
  let v420 : BitVec 32 := Scalar.addi v419 c3_i32_270
  let c8_i32_271 : BitVec 32 := 8#32
  let v421 : BitVec 32 := Scalar.remsi v420 c8_i32_271
  let c2_i32_316 : BitVec 32 := 2#32
  let v491 : BitVec 32 := Scalar.muli v421 c2_i32_316
  let c1_i32_317 : BitVec 32 := 1#32
  let v492 : BitVec 32 := Scalar.addi v491 c1_i32_317
  let v493 : BitVec 1 := Scalar.cmpi .ne v492 v2
  let v494 : BitVec 32 := Scalar.extui v493
  let c0_i32_318 : BitVec 32 := 0#32
  let v495 : BitVec 1 := Scalar.cmpi .ne v494 c0_i32_318
  v495

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_263 : BitVec 32 := 0#32
  let v403 : BitVec 1 := Scalar.cmpi .sgt v2 c0_i32_263
  let v404 : BitVec 32 := Scalar.extui v403
  let c0_i32_264 : BitVec 32 := 0#32
  let v405 : BitVec 1 := Scalar.cmpi .slt v2 c0_i32_264
  let v406 : BitVec 32 := Scalar.extui v405
  let v407 : BitVec 32 := Scalar.subi v404 v406
  let c2_i32_262 : BitVec 32 := 2#32
  let c0_i32_265 : BitVec 32 := 0#32
  let v408 : BitVec 1 := Scalar.cmpi .sgt c2_i32_262 c0_i32_265
  let v409 : BitVec 32 := Scalar.extui v408
  let c0_i32_266 : BitVec 32 := 0#32
  let v410 : BitVec 1 := Scalar.cmpi .slt c2_i32_262 c0_i32_266
  let v411 : BitVec 32 := Scalar.extui v410
  let v412 : BitVec 32 := Scalar.subi v409 v411
  let v413 : BitVec 1 := Scalar.cmpi .ne v407 v412
  let v414 : BitVec 32 := Scalar.remsi v2 c2_i32_262
  let c0_i32_267 : BitVec 32 := 0#32
  let v415 : BitVec 1 := Scalar.cmpi .ne v414 c0_i32_267
  let v416 : BitVec 1 := Scalar.andi v413 v415
  let v402 : BitVec 32 := Scalar.divsi v2 c2_i32_262
  let c1_i32_268 : BitVec 32 := 1#32
  let v417 : BitVec 32 := Scalar.subi v402 c1_i32_268
  let v418 : BitVec 32 := Scalar.select v416 v417 v402
  let c1_i32_269 : BitVec 32 := 1#32
  let v419 : BitVec 32 := Scalar.addi v418 c1_i32_269
  let c3_i32_270 : BitVec 32 := 3#32
  let v420 : BitVec 32 := Scalar.addi v419 c3_i32_270
  let c8_i32_271 : BitVec 32 := 8#32
  let v421 : BitVec 32 := Scalar.remsi v420 c8_i32_271
  let c2_i32_316 : BitVec 32 := 2#32
  let v491 : BitVec 32 := Scalar.muli v421 c2_i32_316
  let c1_i32_317 : BitVec 32 := 1#32
  let v492 : BitVec 32 := Scalar.addi v491 c1_i32_317
  ![v492.toNat]
def k0_off32 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_585 : BitVec 32 := 0#32
  let c0_i32_586 : BitVec 32 := 0#32
  ![v2.toNat, 0, 0]
def k0_off34 (d0 : Dev nD) : Fin 2 → Nat :=
  let c0_i32_587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_263 : BitVec 32 := 0#32
  let v403 : BitVec 1 := Scalar.cmpi .sgt v2 c0_i32_263
  let v404 : BitVec 32 := Scalar.extui v403
  let c0_i32_264 : BitVec 32 := 0#32
  let v405 : BitVec 1 := Scalar.cmpi .slt v2 c0_i32_264
  let v406 : BitVec 32 := Scalar.extui v405
  let v407 : BitVec 32 := Scalar.subi v404 v406
  let c2_i32_262 : BitVec 32 := 2#32
  let c0_i32_265 : BitVec 32 := 0#32
  let v408 : BitVec 1 := Scalar.cmpi .sgt c2_i32_262 c0_i32_265
  let v409 : BitVec 32 := Scalar.extui v408
  let c0_i32_266 : BitVec 32 := 0#32
  let v410 : BitVec 1 := Scalar.cmpi .slt c2_i32_262 c0_i32_266
  let v411 : BitVec 32 := Scalar.extui v410
  let v412 : BitVec 32 := Scalar.subi v409 v411
  let v413 : BitVec 1 := Scalar.cmpi .ne v407 v412
  let v414 : BitVec 32 := Scalar.remsi v2 c2_i32_262
  let c0_i32_267 : BitVec 32 := 0#32
  let v415 : BitVec 1 := Scalar.cmpi .ne v414 c0_i32_267
  let v416 : BitVec 1 := Scalar.andi v413 v415
  let v402 : BitVec 32 := Scalar.divsi v2 c2_i32_262
  let c1_i32_268 : BitVec 32 := 1#32
  let v417 : BitVec 32 := Scalar.subi v402 c1_i32_268
  let v418 : BitVec 32 := Scalar.select v416 v417 v402
  let c1_i32_269 : BitVec 32 := 1#32
  let v419 : BitVec 32 := Scalar.addi v418 c1_i32_269
  let c3_i32_270 : BitVec 32 := 3#32
  let v420 : BitVec 32 := Scalar.addi v419 c3_i32_270
  let c8_i32_271 : BitVec 32 := 8#32
  let v421 : BitVec 32 := Scalar.remsi v420 c8_i32_271
  let c2_i32_316 : BitVec 32 := 2#32
  let v491 : BitVec 32 := Scalar.muli v421 c2_i32_316
  let c1_i32_317 : BitVec 32 := 1#32
  let v492 : BitVec 32 := Scalar.addi v491 c1_i32_317
  let c128_i32_582 : BitVec 32 := 128#32
  let v923 : BitVec 32 := Scalar.muli v492 c128_i32_582
  ![0, v923.toNat]
def k0_dev23 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_263 : BitVec 32 := 0#32
  let v403 : BitVec 1 := Scalar.cmpi .sgt v2 c0_i32_263
  let v404 : BitVec 32 := Scalar.extui v403
  let c0_i32_264 : BitVec 32 := 0#32
  let v405 : BitVec 1 := Scalar.cmpi .slt v2 c0_i32_264
  let v406 : BitVec 32 := Scalar.extui v405
  let v407 : BitVec 32 := Scalar.subi v404 v406
  let c2_i32_262 : BitVec 32 := 2#32
  let c0_i32_265 : BitVec 32 := 0#32
  let v408 : BitVec 1 := Scalar.cmpi .sgt c2_i32_262 c0_i32_265
  let v409 : BitVec 32 := Scalar.extui v408
  let c0_i32_266 : BitVec 32 := 0#32
  let v410 : BitVec 1 := Scalar.cmpi .slt c2_i32_262 c0_i32_266
  let v411 : BitVec 32 := Scalar.extui v410
  let v412 : BitVec 32 := Scalar.subi v409 v411
  let v413 : BitVec 1 := Scalar.cmpi .ne v407 v412
  let v414 : BitVec 32 := Scalar.remsi v2 c2_i32_262
  let c0_i32_267 : BitVec 32 := 0#32
  let v415 : BitVec 1 := Scalar.cmpi .ne v414 c0_i32_267
  let v416 : BitVec 1 := Scalar.andi v413 v415
  let v402 : BitVec 32 := Scalar.divsi v2 c2_i32_262
  let c1_i32_268 : BitVec 32 := 1#32
  let v417 : BitVec 32 := Scalar.subi v402 c1_i32_268
  let v418 : BitVec 32 := Scalar.select v416 v417 v402
  let c1_i32_269 : BitVec 32 := 1#32
  let v419 : BitVec 32 := Scalar.addi v418 c1_i32_269
  let c3_i32_270 : BitVec 32 := 3#32
  let v420 : BitVec 32 := Scalar.addi v419 c3_i32_270
  let c8_i32_271 : BitVec 32 := 8#32
  let v421 : BitVec 32 := Scalar.remsi v420 c8_i32_271
  let c2_i32_316 : BitVec 32 := 2#32
  let v491 : BitVec 32 := Scalar.muli v421 c2_i32_316
  let c1_i32_317 : BitVec 32 := 1#32
  let v492 : BitVec 32 := Scalar.addi v491 c1_i32_317
  let c1_i32_583 : BitVec 32 := 1#32
  let v924 : BitVec 32 := Scalar.muli v492 c1_i32_583
  let v925 : BitVec 32 := Scalar.addi c0_i32_584 v924
  v925.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_320 : BitVec 32 := 0#32
  let v497 : BitVec 1 := Scalar.cmpi .sgt v2 c0_i32_320
  let v498 : BitVec 32 := Scalar.extui v497
  let c0_i32_321 : BitVec 32 := 0#32
  let v499 : BitVec 1 := Scalar.cmpi .slt v2 c0_i32_321
  let v500 : BitVec 32 := Scalar.extui v499
  let v501 : BitVec 32 := Scalar.subi v498 v500
  let c2_i32_319 : BitVec 32 := 2#32
  let c0_i32_322 : BitVec 32 := 0#32
  let v502 : BitVec 1 := Scalar.cmpi .sgt c2_i32_319 c0_i32_322
  let v503 : BitVec 32 := Scalar.extui v502
  let c0_i32_323 : BitVec 32 := 0#32
  let v504 : BitVec 1 := Scalar.cmpi .slt c2_i32_319 c0_i32_323
  let v505 : BitVec 32 := Scalar.extui v504
  let v506 : BitVec 32 := Scalar.subi v503 v505
  let v507 : BitVec 1 := Scalar.cmpi .ne v501 v506
  let v508 : BitVec 32 := Scalar.remsi v2 c2_i32_319
  let c0_i32_324 : BitVec 32 := 0#32
  let v509 : BitVec 1 := Scalar.cmpi .ne v508 c0_i32_324
  let v510 : BitVec 1 := Scalar.andi v507 v509
  let v496 : BitVec 32 := Scalar.divsi v2 c2_i32_319
  let c1_i32_325 : BitVec 32 := 1#32
  let v511 : BitVec 32 := Scalar.subi v496 c1_i32_325
  let v512 : BitVec 32 := Scalar.select v510 v511 v496
  let c1_i32_326 : BitVec 32 := 1#32
  let v513 : BitVec 32 := Scalar.addi v512 c1_i32_326
  let c4_i32_327 : BitVec 32 := 4#32
  let v514 : BitVec 32 := Scalar.addi v513 c4_i32_327
  let c8_i32_328 : BitVec 32 := 8#32
  let v515 : BitVec 32 := Scalar.remsi v514 c8_i32_328
  let c2_i32_370 : BitVec 32 := 2#32
  let v580 : BitVec 32 := Scalar.muli v515 c2_i32_370
  let c0_i32_371 : BitVec 32 := 0#32
  let v581 : BitVec 32 := Scalar.addi v580 c0_i32_371
  let v582 : BitVec 1 := Scalar.cmpi .ne v581 v2
  let v583 : BitVec 32 := Scalar.extui v582
  let c0_i32_372 : BitVec 32 := 0#32
  let v584 : BitVec 1 := Scalar.cmpi .ne v583 c0_i32_372
  v584

def k0_off35 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_320 : BitVec 32 := 0#32
  let v497 : BitVec 1 := Scalar.cmpi .sgt v2 c0_i32_320
  let v498 : BitVec 32 := Scalar.extui v497
  let c0_i32_321 : BitVec 32 := 0#32
  let v499 : BitVec 1 := Scalar.cmpi .slt v2 c0_i32_321
  let v500 : BitVec 32 := Scalar.extui v499
  let v501 : BitVec 32 := Scalar.subi v498 v500
  let c2_i32_319 : BitVec 32 := 2#32
  let c0_i32_322 : BitVec 32 := 0#32
  let v502 : BitVec 1 := Scalar.cmpi .sgt c2_i32_319 c0_i32_322
  let v503 : BitVec 32 := Scalar.extui v502
  let c0_i32_323 : BitVec 32 := 0#32
  let v504 : BitVec 1 := Scalar.cmpi .slt c2_i32_319 c0_i32_323
  let v505 : BitVec 32 := Scalar.extui v504
  let v506 : BitVec 32 := Scalar.subi v503 v505
  let v507 : BitVec 1 := Scalar.cmpi .ne v501 v506
  let v508 : BitVec 32 := Scalar.remsi v2 c2_i32_319
  let c0_i32_324 : BitVec 32 := 0#32
  let v509 : BitVec 1 := Scalar.cmpi .ne v508 c0_i32_324
  let v510 : BitVec 1 := Scalar.andi v507 v509
  let v496 : BitVec 32 := Scalar.divsi v2 c2_i32_319
  let c1_i32_325 : BitVec 32 := 1#32
  let v511 : BitVec 32 := Scalar.subi v496 c1_i32_325
  let v512 : BitVec 32 := Scalar.select v510 v511 v496
  let c1_i32_326 : BitVec 32 := 1#32
  let v513 : BitVec 32 := Scalar.addi v512 c1_i32_326
  let c4_i32_327 : BitVec 32 := 4#32
  let v514 : BitVec 32 := Scalar.addi v513 c4_i32_327
  let c8_i32_328 : BitVec 32 := 8#32
  let v515 : BitVec 32 := Scalar.remsi v514 c8_i32_328
  let c2_i32_370 : BitVec 32 := 2#32
  let v580 : BitVec 32 := Scalar.muli v515 c2_i32_370
  let c0_i32_371 : BitVec 32 := 0#32
  let v581 : BitVec 32 := Scalar.addi v580 c0_i32_371
  ![v581.toNat]
def k0_off36 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_585 : BitVec 32 := 0#32
  let c0_i32_586 : BitVec 32 := 0#32
  ![v2.toNat, 0, 0]
def k0_off38 (d0 : Dev nD) : Fin 2 → Nat :=
  let c0_i32_587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_320 : BitVec 32 := 0#32
  let v497 : BitVec 1 := Scalar.cmpi .sgt v2 c0_i32_320
  let v498 : BitVec 32 := Scalar.extui v497
  let c0_i32_321 : BitVec 32 := 0#32
  let v499 : BitVec 1 := Scalar.cmpi .slt v2 c0_i32_321
  let v500 : BitVec 32 := Scalar.extui v499
  let v501 : BitVec 32 := Scalar.subi v498 v500
  let c2_i32_319 : BitVec 32 := 2#32
  let c0_i32_322 : BitVec 32 := 0#32
  let v502 : BitVec 1 := Scalar.cmpi .sgt c2_i32_319 c0_i32_322
  let v503 : BitVec 32 := Scalar.extui v502
  let c0_i32_323 : BitVec 32 := 0#32
  let v504 : BitVec 1 := Scalar.cmpi .slt c2_i32_319 c0_i32_323
  let v505 : BitVec 32 := Scalar.extui v504
  let v506 : BitVec 32 := Scalar.subi v503 v505
  let v507 : BitVec 1 := Scalar.cmpi .ne v501 v506
  let v508 : BitVec 32 := Scalar.remsi v2 c2_i32_319
  let c0_i32_324 : BitVec 32 := 0#32
  let v509 : BitVec 1 := Scalar.cmpi .ne v508 c0_i32_324
  let v510 : BitVec 1 := Scalar.andi v507 v509
  let v496 : BitVec 32 := Scalar.divsi v2 c2_i32_319
  let c1_i32_325 : BitVec 32 := 1#32
  let v511 : BitVec 32 := Scalar.subi v496 c1_i32_325
  let v512 : BitVec 32 := Scalar.select v510 v511 v496
  let c1_i32_326 : BitVec 32 := 1#32
  let v513 : BitVec 32 := Scalar.addi v512 c1_i32_326
  let c4_i32_327 : BitVec 32 := 4#32
  let v514 : BitVec 32 := Scalar.addi v513 c4_i32_327
  let c8_i32_328 : BitVec 32 := 8#32
  let v515 : BitVec 32 := Scalar.remsi v514 c8_i32_328
  let c2_i32_370 : BitVec 32 := 2#32
  let v580 : BitVec 32 := Scalar.muli v515 c2_i32_370
  let c0_i32_371 : BitVec 32 := 0#32
  let v581 : BitVec 32 := Scalar.addi v580 c0_i32_371
  let c128_i32_582 : BitVec 32 := 128#32
  let v923 : BitVec 32 := Scalar.muli v581 c128_i32_582
  ![0, v923.toNat]
def k0_dev24 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_320 : BitVec 32 := 0#32
  let v497 : BitVec 1 := Scalar.cmpi .sgt v2 c0_i32_320
  let v498 : BitVec 32 := Scalar.extui v497
  let c0_i32_321 : BitVec 32 := 0#32
  let v499 : BitVec 1 := Scalar.cmpi .slt v2 c0_i32_321
  let v500 : BitVec 32 := Scalar.extui v499
  let v501 : BitVec 32 := Scalar.subi v498 v500
  let c2_i32_319 : BitVec 32 := 2#32
  let c0_i32_322 : BitVec 32 := 0#32
  let v502 : BitVec 1 := Scalar.cmpi .sgt c2_i32_319 c0_i32_322
  let v503 : BitVec 32 := Scalar.extui v502
  let c0_i32_323 : BitVec 32 := 0#32
  let v504 : BitVec 1 := Scalar.cmpi .slt c2_i32_319 c0_i32_323
  let v505 : BitVec 32 := Scalar.extui v504
  let v506 : BitVec 32 := Scalar.subi v503 v505
  let v507 : BitVec 1 := Scalar.cmpi .ne v501 v506
  let v508 : BitVec 32 := Scalar.remsi v2 c2_i32_319
  let c0_i32_324 : BitVec 32 := 0#32
  let v509 : BitVec 1 := Scalar.cmpi .ne v508 c0_i32_324
  let v510 : BitVec 1 := Scalar.andi v507 v509
  let v496 : BitVec 32 := Scalar.divsi v2 c2_i32_319
  let c1_i32_325 : BitVec 32 := 1#32
  let v511 : BitVec 32 := Scalar.subi v496 c1_i32_325
  let v512 : BitVec 32 := Scalar.select v510 v511 v496
  let c1_i32_326 : BitVec 32 := 1#32
  let v513 : BitVec 32 := Scalar.addi v512 c1_i32_326
  let c4_i32_327 : BitVec 32 := 4#32
  let v514 : BitVec 32 := Scalar.addi v513 c4_i32_327
  let c8_i32_328 : BitVec 32 := 8#32
  let v515 : BitVec 32 := Scalar.remsi v514 c8_i32_328
  let c2_i32_370 : BitVec 32 := 2#32
  let v580 : BitVec 32 := Scalar.muli v515 c2_i32_370
  let c0_i32_371 : BitVec 32 := 0#32
  let v581 : BitVec 32 := Scalar.addi v580 c0_i32_371
  let c1_i32_583 : BitVec 32 := 1#32
  let v924 : BitVec 32 := Scalar.muli v581 c1_i32_583
  let v925 : BitVec 32 := Scalar.addi c0_i32_584 v924
  v925.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_320 : BitVec 32 := 0#32
  let v497 : BitVec 1 := Scalar.cmpi .sgt v2 c0_i32_320
  let v498 : BitVec 32 := Scalar.extui v497
  let c0_i32_321 : BitVec 32 := 0#32
  let v499 : BitVec 1 := Scalar.cmpi .slt v2 c0_i32_321
  let v500 : BitVec 32 := Scalar.extui v499
  let v501 : BitVec 32 := Scalar.subi v498 v500
  let c2_i32_319 : BitVec 32 := 2#32
  let c0_i32_322 : BitVec 32 := 0#32
  let v502 : BitVec 1 := Scalar.cmpi .sgt c2_i32_319 c0_i32_322
  let v503 : BitVec 32 := Scalar.extui v502
  let c0_i32_323 : BitVec 32 := 0#32
  let v504 : BitVec 1 := Scalar.cmpi .slt c2_i32_319 c0_i32_323
  let v505 : BitVec 32 := Scalar.extui v504
  let v506 : BitVec 32 := Scalar.subi v503 v505
  let v507 : BitVec 1 := Scalar.cmpi .ne v501 v506
  let v508 : BitVec 32 := Scalar.remsi v2 c2_i32_319
  let c0_i32_324 : BitVec 32 := 0#32
  let v509 : BitVec 1 := Scalar.cmpi .ne v508 c0_i32_324
  let v510 : BitVec 1 := Scalar.andi v507 v509
  let v496 : BitVec 32 := Scalar.divsi v2 c2_i32_319
  let c1_i32_325 : BitVec 32 := 1#32
  let v511 : BitVec 32 := Scalar.subi v496 c1_i32_325
  let v512 : BitVec 32 := Scalar.select v510 v511 v496
  let c1_i32_326 : BitVec 32 := 1#32
  let v513 : BitVec 32 := Scalar.addi v512 c1_i32_326
  let c4_i32_327 : BitVec 32 := 4#32
  let v514 : BitVec 32 := Scalar.addi v513 c4_i32_327
  let c8_i32_328 : BitVec 32 := 8#32
  let v515 : BitVec 32 := Scalar.remsi v514 c8_i32_328
  let c2_i32_373 : BitVec 32 := 2#32
  let v585 : BitVec 32 := Scalar.muli v515 c2_i32_373
  let c1_i32_374 : BitVec 32 := 1#32
  let v586 : BitVec 32 := Scalar.addi v585 c1_i32_374
  let v587 : BitVec 1 := Scalar.cmpi .ne v586 v2
  let v588 : BitVec 32 := Scalar.extui v587
  let c0_i32_375 : BitVec 32 := 0#32
  let v589 : BitVec 1 := Scalar.cmpi .ne v588 c0_i32_375
  v589

def k0_off39 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_320 : BitVec 32 := 0#32
  let v497 : BitVec 1 := Scalar.cmpi .sgt v2 c0_i32_320
  let v498 : BitVec 32 := Scalar.extui v497
  let c0_i32_321 : BitVec 32 := 0#32
  let v499 : BitVec 1 := Scalar.cmpi .slt v2 c0_i32_321
  let v500 : BitVec 32 := Scalar.extui v499
  let v501 : BitVec 32 := Scalar.subi v498 v500
  let c2_i32_319 : BitVec 32 := 2#32
  let c0_i32_322 : BitVec 32 := 0#32
  let v502 : BitVec 1 := Scalar.cmpi .sgt c2_i32_319 c0_i32_322
  let v503 : BitVec 32 := Scalar.extui v502
  let c0_i32_323 : BitVec 32 := 0#32
  let v504 : BitVec 1 := Scalar.cmpi .slt c2_i32_319 c0_i32_323
  let v505 : BitVec 32 := Scalar.extui v504
  let v506 : BitVec 32 := Scalar.subi v503 v505
  let v507 : BitVec 1 := Scalar.cmpi .ne v501 v506
  let v508 : BitVec 32 := Scalar.remsi v2 c2_i32_319
  let c0_i32_324 : BitVec 32 := 0#32
  let v509 : BitVec 1 := Scalar.cmpi .ne v508 c0_i32_324
  let v510 : BitVec 1 := Scalar.andi v507 v509
  let v496 : BitVec 32 := Scalar.divsi v2 c2_i32_319
  let c1_i32_325 : BitVec 32 := 1#32
  let v511 : BitVec 32 := Scalar.subi v496 c1_i32_325
  let v512 : BitVec 32 := Scalar.select v510 v511 v496
  let c1_i32_326 : BitVec 32 := 1#32
  let v513 : BitVec 32 := Scalar.addi v512 c1_i32_326
  let c4_i32_327 : BitVec 32 := 4#32
  let v514 : BitVec 32 := Scalar.addi v513 c4_i32_327
  let c8_i32_328 : BitVec 32 := 8#32
  let v515 : BitVec 32 := Scalar.remsi v514 c8_i32_328
  let c2_i32_373 : BitVec 32 := 2#32
  let v585 : BitVec 32 := Scalar.muli v515 c2_i32_373
  let c1_i32_374 : BitVec 32 := 1#32
  let v586 : BitVec 32 := Scalar.addi v585 c1_i32_374
  ![v586.toNat]
def k0_off40 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_585 : BitVec 32 := 0#32
  let c0_i32_586 : BitVec 32 := 0#32
  ![v2.toNat, 0, 0]
def k0_off42 (d0 : Dev nD) : Fin 2 → Nat :=
  let c0_i32_587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_320 : BitVec 32 := 0#32
  let v497 : BitVec 1 := Scalar.cmpi .sgt v2 c0_i32_320
  let v498 : BitVec 32 := Scalar.extui v497
  let c0_i32_321 : BitVec 32 := 0#32
  let v499 : BitVec 1 := Scalar.cmpi .slt v2 c0_i32_321
  let v500 : BitVec 32 := Scalar.extui v499
  let v501 : BitVec 32 := Scalar.subi v498 v500
  let c2_i32_319 : BitVec 32 := 2#32
  let c0_i32_322 : BitVec 32 := 0#32
  let v502 : BitVec 1 := Scalar.cmpi .sgt c2_i32_319 c0_i32_322
  let v503 : BitVec 32 := Scalar.extui v502
  let c0_i32_323 : BitVec 32 := 0#32
  let v504 : BitVec 1 := Scalar.cmpi .slt c2_i32_319 c0_i32_323
  let v505 : BitVec 32 := Scalar.extui v504
  let v506 : BitVec 32 := Scalar.subi v503 v505
  let v507 : BitVec 1 := Scalar.cmpi .ne v501 v506
  let v508 : BitVec 32 := Scalar.remsi v2 c2_i32_319
  let c0_i32_324 : BitVec 32 := 0#32
  let v509 : BitVec 1 := Scalar.cmpi .ne v508 c0_i32_324
  let v510 : BitVec 1 := Scalar.andi v507 v509
  let v496 : BitVec 32 := Scalar.divsi v2 c2_i32_319
  let c1_i32_325 : BitVec 32 := 1#32
  let v511 : BitVec 32 := Scalar.subi v496 c1_i32_325
  let v512 : BitVec 32 := Scalar.select v510 v511 v496
  let c1_i32_326 : BitVec 32 := 1#32
  let v513 : BitVec 32 := Scalar.addi v512 c1_i32_326
  let c4_i32_327 : BitVec 32 := 4#32
  let v514 : BitVec 32 := Scalar.addi v513 c4_i32_327
  let c8_i32_328 : BitVec 32 := 8#32
  let v515 : BitVec 32 := Scalar.remsi v514 c8_i32_328
  let c2_i32_373 : BitVec 32 := 2#32
  let v585 : BitVec 32 := Scalar.muli v515 c2_i32_373
  let c1_i32_374 : BitVec 32 := 1#32
  let v586 : BitVec 32 := Scalar.addi v585 c1_i32_374
  let c128_i32_582 : BitVec 32 := 128#32
  let v923 : BitVec 32 := Scalar.muli v586 c128_i32_582
  ![0, v923.toNat]
def k0_dev25 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_320 : BitVec 32 := 0#32
  let v497 : BitVec 1 := Scalar.cmpi .sgt v2 c0_i32_320
  let v498 : BitVec 32 := Scalar.extui v497
  let c0_i32_321 : BitVec 32 := 0#32
  let v499 : BitVec 1 := Scalar.cmpi .slt v2 c0_i32_321
  let v500 : BitVec 32 := Scalar.extui v499
  let v501 : BitVec 32 := Scalar.subi v498 v500
  let c2_i32_319 : BitVec 32 := 2#32
  let c0_i32_322 : BitVec 32 := 0#32
  let v502 : BitVec 1 := Scalar.cmpi .sgt c2_i32_319 c0_i32_322
  let v503 : BitVec 32 := Scalar.extui v502
  let c0_i32_323 : BitVec 32 := 0#32
  let v504 : BitVec 1 := Scalar.cmpi .slt c2_i32_319 c0_i32_323
  let v505 : BitVec 32 := Scalar.extui v504
  let v506 : BitVec 32 := Scalar.subi v503 v505
  let v507 : BitVec 1 := Scalar.cmpi .ne v501 v506
  let v508 : BitVec 32 := Scalar.remsi v2 c2_i32_319
  let c0_i32_324 : BitVec 32 := 0#32
  let v509 : BitVec 1 := Scalar.cmpi .ne v508 c0_i32_324
  let v510 : BitVec 1 := Scalar.andi v507 v509
  let v496 : BitVec 32 := Scalar.divsi v2 c2_i32_319
  let c1_i32_325 : BitVec 32 := 1#32
  let v511 : BitVec 32 := Scalar.subi v496 c1_i32_325
  let v512 : BitVec 32 := Scalar.select v510 v511 v496
  let c1_i32_326 : BitVec 32 := 1#32
  let v513 : BitVec 32 := Scalar.addi v512 c1_i32_326
  let c4_i32_327 : BitVec 32 := 4#32
  let v514 : BitVec 32 := Scalar.addi v513 c4_i32_327
  let c8_i32_328 : BitVec 32 := 8#32
  let v515 : BitVec 32 := Scalar.remsi v514 c8_i32_328
  let c2_i32_373 : BitVec 32 := 2#32
  let v585 : BitVec 32 := Scalar.muli v515 c2_i32_373
  let c1_i32_374 : BitVec 32 := 1#32
  let v586 : BitVec 32 := Scalar.addi v585 c1_i32_374
  let c1_i32_583 : BitVec 32 := 1#32
  let v924 : BitVec 32 := Scalar.muli v586 c1_i32_583
  let v925 : BitVec 32 := Scalar.addi c0_i32_584 v924
  v925.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let v591 : BitVec 1 := Scalar.cmpi .sgt v2 c0_i32_377
  let v592 : BitVec 32 := Scalar.extui v591
  let c0_i32_378 : BitVec 32 := 0#32
  let v593 : BitVec 1 := Scalar.cmpi .slt v2 c0_i32_378
  let v594 : BitVec 32 := Scalar.extui v593
  let v595 : BitVec 32 := Scalar.subi v592 v594
  let c2_i32_376 : BitVec 32 := 2#32
  let c0_i32_379 : BitVec 32 := 0#32
  let v596 : BitVec 1 := Scalar.cmpi .sgt c2_i32_376 c0_i32_379
  let v597 : BitVec 32 := Scalar.extui v596
  let c0_i32_380 : BitVec 32 := 0#32
  let v598 : BitVec 1 := Scalar.cmpi .slt c2_i32_376 c0_i32_380
  let v599 : BitVec 32 := Scalar.extui v598
  let v600 : BitVec 32 := Scalar.subi v597 v599
  let v601 : BitVec 1 := Scalar.cmpi .ne v595 v600
  let v602 : BitVec 32 := Scalar.remsi v2 c2_i32_376
  let c0_i32_381 : BitVec 32 := 0#32
  let v603 : BitVec 1 := Scalar.cmpi .ne v602 c0_i32_381
  let v604 : BitVec 1 := Scalar.andi v601 v603
  let v590 : BitVec 32 := Scalar.divsi v2 c2_i32_376
  let c1_i32_382 : BitVec 32 := 1#32
  let v605 : BitVec 32 := Scalar.subi v590 c1_i32_382
  let v606 : BitVec 32 := Scalar.select v604 v605 v590
  let c1_i32_383 : BitVec 32 := 1#32
  let v607 : BitVec 32 := Scalar.addi v606 c1_i32_383
  let c5_i32_384 : BitVec 32 := 5#32
  let v608 : BitVec 32 := Scalar.addi v607 c5_i32_384
  let c8_i32_385 : BitVec 32 := 8#32
  let v609 : BitVec 32 := Scalar.remsi v608 c8_i32_385
  let c2_i32_427 : BitVec 32 := 2#32
  let v674 : BitVec 32 := Scalar.muli v609 c2_i32_427
  let c0_i32_428 : BitVec 32 := 0#32
  let v675 : BitVec 32 := Scalar.addi v674 c0_i32_428
  let v676 : BitVec 1 := Scalar.cmpi .ne v675 v2
  let v677 : BitVec 32 := Scalar.extui v676
  let c0_i32_429 : BitVec 32 := 0#32
  let v678 : BitVec 1 := Scalar.cmpi .ne v677 c0_i32_429
  v678

def k0_off43 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let v591 : BitVec 1 := Scalar.cmpi .sgt v2 c0_i32_377
  let v592 : BitVec 32 := Scalar.extui v591
  let c0_i32_378 : BitVec 32 := 0#32
  let v593 : BitVec 1 := Scalar.cmpi .slt v2 c0_i32_378
  let v594 : BitVec 32 := Scalar.extui v593
  let v595 : BitVec 32 := Scalar.subi v592 v594
  let c2_i32_376 : BitVec 32 := 2#32
  let c0_i32_379 : BitVec 32 := 0#32
  let v596 : BitVec 1 := Scalar.cmpi .sgt c2_i32_376 c0_i32_379
  let v597 : BitVec 32 := Scalar.extui v596
  let c0_i32_380 : BitVec 32 := 0#32
  let v598 : BitVec 1 := Scalar.cmpi .slt c2_i32_376 c0_i32_380
  let v599 : BitVec 32 := Scalar.extui v598
  let v600 : BitVec 32 := Scalar.subi v597 v599
  let v601 : BitVec 1 := Scalar.cmpi .ne v595 v600
  let v602 : BitVec 32 := Scalar.remsi v2 c2_i32_376
  let c0_i32_381 : BitVec 32 := 0#32
  let v603 : BitVec 1 := Scalar.cmpi .ne v602 c0_i32_381
  let v604 : BitVec 1 := Scalar.andi v601 v603
  let v590 : BitVec 32 := Scalar.divsi v2 c2_i32_376
  let c1_i32_382 : BitVec 32 := 1#32
  let v605 : BitVec 32 := Scalar.subi v590 c1_i32_382
  let v606 : BitVec 32 := Scalar.select v604 v605 v590
  let c1_i32_383 : BitVec 32 := 1#32
  let v607 : BitVec 32 := Scalar.addi v606 c1_i32_383
  let c5_i32_384 : BitVec 32 := 5#32
  let v608 : BitVec 32 := Scalar.addi v607 c5_i32_384
  let c8_i32_385 : BitVec 32 := 8#32
  let v609 : BitVec 32 := Scalar.remsi v608 c8_i32_385
  let c2_i32_427 : BitVec 32 := 2#32
  let v674 : BitVec 32 := Scalar.muli v609 c2_i32_427
  let c0_i32_428 : BitVec 32 := 0#32
  let v675 : BitVec 32 := Scalar.addi v674 c0_i32_428
  ![v675.toNat]
def k0_off44 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_585 : BitVec 32 := 0#32
  let c0_i32_586 : BitVec 32 := 0#32
  ![v2.toNat, 0, 0]
def k0_off46 (d0 : Dev nD) : Fin 2 → Nat :=
  let c0_i32_587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let v591 : BitVec 1 := Scalar.cmpi .sgt v2 c0_i32_377
  let v592 : BitVec 32 := Scalar.extui v591
  let c0_i32_378 : BitVec 32 := 0#32
  let v593 : BitVec 1 := Scalar.cmpi .slt v2 c0_i32_378
  let v594 : BitVec 32 := Scalar.extui v593
  let v595 : BitVec 32 := Scalar.subi v592 v594
  let c2_i32_376 : BitVec 32 := 2#32
  let c0_i32_379 : BitVec 32 := 0#32
  let v596 : BitVec 1 := Scalar.cmpi .sgt c2_i32_376 c0_i32_379
  let v597 : BitVec 32 := Scalar.extui v596
  let c0_i32_380 : BitVec 32 := 0#32
  let v598 : BitVec 1 := Scalar.cmpi .slt c2_i32_376 c0_i32_380
  let v599 : BitVec 32 := Scalar.extui v598
  let v600 : BitVec 32 := Scalar.subi v597 v599
  let v601 : BitVec 1 := Scalar.cmpi .ne v595 v600
  let v602 : BitVec 32 := Scalar.remsi v2 c2_i32_376
  let c0_i32_381 : BitVec 32 := 0#32
  let v603 : BitVec 1 := Scalar.cmpi .ne v602 c0_i32_381
  let v604 : BitVec 1 := Scalar.andi v601 v603
  let v590 : BitVec 32 := Scalar.divsi v2 c2_i32_376
  let c1_i32_382 : BitVec 32 := 1#32
  let v605 : BitVec 32 := Scalar.subi v590 c1_i32_382
  let v606 : BitVec 32 := Scalar.select v604 v605 v590
  let c1_i32_383 : BitVec 32 := 1#32
  let v607 : BitVec 32 := Scalar.addi v606 c1_i32_383
  let c5_i32_384 : BitVec 32 := 5#32
  let v608 : BitVec 32 := Scalar.addi v607 c5_i32_384
  let c8_i32_385 : BitVec 32 := 8#32
  let v609 : BitVec 32 := Scalar.remsi v608 c8_i32_385
  let c2_i32_427 : BitVec 32 := 2#32
  let v674 : BitVec 32 := Scalar.muli v609 c2_i32_427
  let c0_i32_428 : BitVec 32 := 0#32
  let v675 : BitVec 32 := Scalar.addi v674 c0_i32_428
  let c128_i32_582 : BitVec 32 := 128#32
  let v923 : BitVec 32 := Scalar.muli v675 c128_i32_582
  ![0, v923.toNat]
def k0_dev26 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let v591 : BitVec 1 := Scalar.cmpi .sgt v2 c0_i32_377
  let v592 : BitVec 32 := Scalar.extui v591
  let c0_i32_378 : BitVec 32 := 0#32
  let v593 : BitVec 1 := Scalar.cmpi .slt v2 c0_i32_378
  let v594 : BitVec 32 := Scalar.extui v593
  let v595 : BitVec 32 := Scalar.subi v592 v594
  let c2_i32_376 : BitVec 32 := 2#32
  let c0_i32_379 : BitVec 32 := 0#32
  let v596 : BitVec 1 := Scalar.cmpi .sgt c2_i32_376 c0_i32_379
  let v597 : BitVec 32 := Scalar.extui v596
  let c0_i32_380 : BitVec 32 := 0#32
  let v598 : BitVec 1 := Scalar.cmpi .slt c2_i32_376 c0_i32_380
  let v599 : BitVec 32 := Scalar.extui v598
  let v600 : BitVec 32 := Scalar.subi v597 v599
  let v601 : BitVec 1 := Scalar.cmpi .ne v595 v600
  let v602 : BitVec 32 := Scalar.remsi v2 c2_i32_376
  let c0_i32_381 : BitVec 32 := 0#32
  let v603 : BitVec 1 := Scalar.cmpi .ne v602 c0_i32_381
  let v604 : BitVec 1 := Scalar.andi v601 v603
  let v590 : BitVec 32 := Scalar.divsi v2 c2_i32_376
  let c1_i32_382 : BitVec 32 := 1#32
  let v605 : BitVec 32 := Scalar.subi v590 c1_i32_382
  let v606 : BitVec 32 := Scalar.select v604 v605 v590
  let c1_i32_383 : BitVec 32 := 1#32
  let v607 : BitVec 32 := Scalar.addi v606 c1_i32_383
  let c5_i32_384 : BitVec 32 := 5#32
  let v608 : BitVec 32 := Scalar.addi v607 c5_i32_384
  let c8_i32_385 : BitVec 32 := 8#32
  let v609 : BitVec 32 := Scalar.remsi v608 c8_i32_385
  let c2_i32_427 : BitVec 32 := 2#32
  let v674 : BitVec 32 := Scalar.muli v609 c2_i32_427
  let c0_i32_428 : BitVec 32 := 0#32
  let v675 : BitVec 32 := Scalar.addi v674 c0_i32_428
  let c1_i32_583 : BitVec 32 := 1#32
  let v924 : BitVec 32 := Scalar.muli v675 c1_i32_583
  let v925 : BitVec 32 := Scalar.addi c0_i32_584 v924
  v925.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let v591 : BitVec 1 := Scalar.cmpi .sgt v2 c0_i32_377
  let v592 : BitVec 32 := Scalar.extui v591
  let c0_i32_378 : BitVec 32 := 0#32
  let v593 : BitVec 1 := Scalar.cmpi .slt v2 c0_i32_378
  let v594 : BitVec 32 := Scalar.extui v593
  let v595 : BitVec 32 := Scalar.subi v592 v594
  let c2_i32_376 : BitVec 32 := 2#32
  let c0_i32_379 : BitVec 32 := 0#32
  let v596 : BitVec 1 := Scalar.cmpi .sgt c2_i32_376 c0_i32_379
  let v597 : BitVec 32 := Scalar.extui v596
  let c0_i32_380 : BitVec 32 := 0#32
  let v598 : BitVec 1 := Scalar.cmpi .slt c2_i32_376 c0_i32_380
  let v599 : BitVec 32 := Scalar.extui v598
  let v600 : BitVec 32 := Scalar.subi v597 v599
  let v601 : BitVec 1 := Scalar.cmpi .ne v595 v600
  let v602 : BitVec 32 := Scalar.remsi v2 c2_i32_376
  let c0_i32_381 : BitVec 32 := 0#32
  let v603 : BitVec 1 := Scalar.cmpi .ne v602 c0_i32_381
  let v604 : BitVec 1 := Scalar.andi v601 v603
  let v590 : BitVec 32 := Scalar.divsi v2 c2_i32_376
  let c1_i32_382 : BitVec 32 := 1#32
  let v605 : BitVec 32 := Scalar.subi v590 c1_i32_382
  let v606 : BitVec 32 := Scalar.select v604 v605 v590
  let c1_i32_383 : BitVec 32 := 1#32
  let v607 : BitVec 32 := Scalar.addi v606 c1_i32_383
  let c5_i32_384 : BitVec 32 := 5#32
  let v608 : BitVec 32 := Scalar.addi v607 c5_i32_384
  let c8_i32_385 : BitVec 32 := 8#32
  let v609 : BitVec 32 := Scalar.remsi v608 c8_i32_385
  let c2_i32_430 : BitVec 32 := 2#32
  let v679 : BitVec 32 := Scalar.muli v609 c2_i32_430
  let c1_i32_431 : BitVec 32 := 1#32
  let v680 : BitVec 32 := Scalar.addi v679 c1_i32_431
  let v681 : BitVec 1 := Scalar.cmpi .ne v680 v2
  let v682 : BitVec 32 := Scalar.extui v681
  let c0_i32_432 : BitVec 32 := 0#32
  let v683 : BitVec 1 := Scalar.cmpi .ne v682 c0_i32_432
  v683

def k0_off47 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let v591 : BitVec 1 := Scalar.cmpi .sgt v2 c0_i32_377
  let v592 : BitVec 32 := Scalar.extui v591
  let c0_i32_378 : BitVec 32 := 0#32
  let v593 : BitVec 1 := Scalar.cmpi .slt v2 c0_i32_378
  let v594 : BitVec 32 := Scalar.extui v593
  let v595 : BitVec 32 := Scalar.subi v592 v594
  let c2_i32_376 : BitVec 32 := 2#32
  let c0_i32_379 : BitVec 32 := 0#32
  let v596 : BitVec 1 := Scalar.cmpi .sgt c2_i32_376 c0_i32_379
  let v597 : BitVec 32 := Scalar.extui v596
  let c0_i32_380 : BitVec 32 := 0#32
  let v598 : BitVec 1 := Scalar.cmpi .slt c2_i32_376 c0_i32_380
  let v599 : BitVec 32 := Scalar.extui v598
  let v600 : BitVec 32 := Scalar.subi v597 v599
  let v601 : BitVec 1 := Scalar.cmpi .ne v595 v600
  let v602 : BitVec 32 := Scalar.remsi v2 c2_i32_376
  let c0_i32_381 : BitVec 32 := 0#32
  let v603 : BitVec 1 := Scalar.cmpi .ne v602 c0_i32_381
  let v604 : BitVec 1 := Scalar.andi v601 v603
  let v590 : BitVec 32 := Scalar.divsi v2 c2_i32_376
  let c1_i32_382 : BitVec 32 := 1#32
  let v605 : BitVec 32 := Scalar.subi v590 c1_i32_382
  let v606 : BitVec 32 := Scalar.select v604 v605 v590
  let c1_i32_383 : BitVec 32 := 1#32
  let v607 : BitVec 32 := Scalar.addi v606 c1_i32_383
  let c5_i32_384 : BitVec 32 := 5#32
  let v608 : BitVec 32 := Scalar.addi v607 c5_i32_384
  let c8_i32_385 : BitVec 32 := 8#32
  let v609 : BitVec 32 := Scalar.remsi v608 c8_i32_385
  let c2_i32_430 : BitVec 32 := 2#32
  let v679 : BitVec 32 := Scalar.muli v609 c2_i32_430
  let c1_i32_431 : BitVec 32 := 1#32
  let v680 : BitVec 32 := Scalar.addi v679 c1_i32_431
  ![v680.toNat]
def k0_off48 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off49 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_585 : BitVec 32 := 0#32
  let c0_i32_586 : BitVec 32 := 0#32
  ![v2.toNat, 0, 0]
def k0_off50 (d0 : Dev nD) : Fin 2 → Nat :=
  let c0_i32_587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let v591 : BitVec 1 := Scalar.cmpi .sgt v2 c0_i32_377
  let v592 : BitVec 32 := Scalar.extui v591
  let c0_i32_378 : BitVec 32 := 0#32
  let v593 : BitVec 1 := Scalar.cmpi .slt v2 c0_i32_378
  let v594 : BitVec 32 := Scalar.extui v593
  let v595 : BitVec 32 := Scalar.subi v592 v594
  let c2_i32_376 : BitVec 32 := 2#32
  let c0_i32_379 : BitVec 32 := 0#32
  let v596 : BitVec 1 := Scalar.cmpi .sgt c2_i32_376 c0_i32_379
  let v597 : BitVec 32 := Scalar.extui v596
  let c0_i32_380 : BitVec 32 := 0#32
  let v598 : BitVec 1 := Scalar.cmpi .slt c2_i32_376 c0_i32_380
  let v599 : BitVec 32 := Scalar.extui v598
  let v600 : BitVec 32 := Scalar.subi v597 v599
  let v601 : BitVec 1 := Scalar.cmpi .ne v595 v600
  let v602 : BitVec 32 := Scalar.remsi v2 c2_i32_376
  let c0_i32_381 : BitVec 32 := 0#32
  let v603 : BitVec 1 := Scalar.cmpi .ne v602 c0_i32_381
  let v604 : BitVec 1 := Scalar.andi v601 v603
  let v590 : BitVec 32 := Scalar.divsi v2 c2_i32_376
  let c1_i32_382 : BitVec 32 := 1#32
  let v605 : BitVec 32 := Scalar.subi v590 c1_i32_382
  let v606 : BitVec 32 := Scalar.select v604 v605 v590
  let c1_i32_383 : BitVec 32 := 1#32
  let v607 : BitVec 32 := Scalar.addi v606 c1_i32_383
  let c5_i32_384 : BitVec 32 := 5#32
  let v608 : BitVec 32 := Scalar.addi v607 c5_i32_384
  let c8_i32_385 : BitVec 32 := 8#32
  let v609 : BitVec 32 := Scalar.remsi v608 c8_i32_385
  let c2_i32_430 : BitVec 32 := 2#32
  let v679 : BitVec 32 := Scalar.muli v609 c2_i32_430
  let c1_i32_431 : BitVec 32 := 1#32
  let v680 : BitVec 32 := Scalar.addi v679 c1_i32_431
  let c128_i32_582 : BitVec 32 := 128#32
  let v923 : BitVec 32 := Scalar.muli v680 c128_i32_582
  ![0, v923.toNat]
def k0_dev27 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let v591 : BitVec 1 := Scalar.cmpi .sgt v2 c0_i32_377
  let v592 : BitVec 32 := Scalar.extui v591
  let c0_i32_378 : BitVec 32 := 0#32
  let v593 : BitVec 1 := Scalar.cmpi .slt v2 c0_i32_378
  let v594 : BitVec 32 := Scalar.extui v593
  let v595 : BitVec 32 := Scalar.subi v592 v594
  let c2_i32_376 : BitVec 32 := 2#32
  let c0_i32_379 : BitVec 32 := 0#32
  let v596 : BitVec 1 := Scalar.cmpi .sgt c2_i32_376 c0_i32_379
  let v597 : BitVec 32 := Scalar.extui v596
  let c0_i32_380 : BitVec 32 := 0#32
  let v598 : BitVec 1 := Scalar.cmpi .slt c2_i32_376 c0_i32_380
  let v599 : BitVec 32 := Scalar.extui v598
  let v600 : BitVec 32 := Scalar.subi v597 v599
  let v601 : BitVec 1 := Scalar.cmpi .ne v595 v600
  let v602 : BitVec 32 := Scalar.remsi v2 c2_i32_376
  let c0_i32_381 : BitVec 32 := 0#32
  let v603 : BitVec 1 := Scalar.cmpi .ne v602 c0_i32_381
  let v604 : BitVec 1 := Scalar.andi v601 v603
  let v590 : BitVec 32 := Scalar.divsi v2 c2_i32_376
  let c1_i32_382 : BitVec 32 := 1#32
  let v605 : BitVec 32 := Scalar.subi v590 c1_i32_382
  let v606 : BitVec 32 := Scalar.select v604 v605 v590
  let c1_i32_383 : BitVec 32 := 1#32
  let v607 : BitVec 32 := Scalar.addi v606 c1_i32_383
  let c5_i32_384 : BitVec 32 := 5#32
  let v608 : BitVec 32 := Scalar.addi v607 c5_i32_384
  let c8_i32_385 : BitVec 32 := 8#32
  let v609 : BitVec 32 := Scalar.remsi v608 c8_i32_385
  let c2_i32_430 : BitVec 32 := 2#32
  let v679 : BitVec 32 := Scalar.muli v609 c2_i32_430
  let c1_i32_431 : BitVec 32 := 1#32
  let v680 : BitVec 32 := Scalar.addi v679 c1_i32_431
  let c1_i32_583 : BitVec 32 := 1#32
  let v924 : BitVec 32 := Scalar.muli v680 c1_i32_583
  let v925 : BitVec 32 := Scalar.addi c0_i32_584 v924
  v925.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_434 : BitVec 32 := 0#32
  let v685 : BitVec 1 := Scalar.cmpi .sgt v2 c0_i32_434
  let v686 : BitVec 32 := Scalar.extui v685
  let c0_i32_435 : BitVec 32 := 0#32
  let v687 : BitVec 1 := Scalar.cmpi .slt v2 c0_i32_435
  let v688 : BitVec 32 := Scalar.extui v687
  let v689 : BitVec 32 := Scalar.subi v686 v688
  let c2_i32_433 : BitVec 32 := 2#32
  let c0_i32_436 : BitVec 32 := 0#32
  let v690 : BitVec 1 := Scalar.cmpi .sgt c2_i32_433 c0_i32_436
  let v691 : BitVec 32 := Scalar.extui v690
  let c0_i32_437 : BitVec 32 := 0#32
  let v692 : BitVec 1 := Scalar.cmpi .slt c2_i32_433 c0_i32_437
  let v693 : BitVec 32 := Scalar.extui v692
  let v694 : BitVec 32 := Scalar.subi v691 v693
  let v695 : BitVec 1 := Scalar.cmpi .ne v689 v694
  let v696 : BitVec 32 := Scalar.remsi v2 c2_i32_433
  let c0_i32_438 : BitVec 32 := 0#32
  let v697 : BitVec 1 := Scalar.cmpi .ne v696 c0_i32_438
  let v698 : BitVec 1 := Scalar.andi v695 v697
  let v684 : BitVec 32 := Scalar.divsi v2 c2_i32_433
  let c1_i32_439 : BitVec 32 := 1#32
  let v699 : BitVec 32 := Scalar.subi v684 c1_i32_439
  let v700 : BitVec 32 := Scalar.select v698 v699 v684
  let c1_i32_440 : BitVec 32 := 1#32
  let v701 : BitVec 32 := Scalar.addi v700 c1_i32_440
  let c6_i32_441 : BitVec 32 := 6#32
  let v702 : BitVec 32 := Scalar.addi v701 c6_i32_441
  let c8_i32_442 : BitVec 32 := 8#32
  let v703 : BitVec 32 := Scalar.remsi v702 c8_i32_442
  let c2_i32_468 : BitVec 32 := 2#32
  let v742 : BitVec 32 := Scalar.muli v703 c2_i32_468
  let c0_i32_469 : BitVec 32 := 0#32
  let v743 : BitVec 32 := Scalar.addi v742 c0_i32_469
  let v744 : BitVec 1 := Scalar.cmpi .ne v743 v2
  let v745 : BitVec 32 := Scalar.extui v744
  let c0_i32_470 : BitVec 32 := 0#32
  let v746 : BitVec 1 := Scalar.cmpi .ne v745 c0_i32_470
  v746

def k0_off51 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_434 : BitVec 32 := 0#32
  let v685 : BitVec 1 := Scalar.cmpi .sgt v2 c0_i32_434
  let v686 : BitVec 32 := Scalar.extui v685
  let c0_i32_435 : BitVec 32 := 0#32
  let v687 : BitVec 1 := Scalar.cmpi .slt v2 c0_i32_435
  let v688 : BitVec 32 := Scalar.extui v687
  let v689 : BitVec 32 := Scalar.subi v686 v688
  let c2_i32_433 : BitVec 32 := 2#32
  let c0_i32_436 : BitVec 32 := 0#32
  let v690 : BitVec 1 := Scalar.cmpi .sgt c2_i32_433 c0_i32_436
  let v691 : BitVec 32 := Scalar.extui v690
  let c0_i32_437 : BitVec 32 := 0#32
  let v692 : BitVec 1 := Scalar.cmpi .slt c2_i32_433 c0_i32_437
  let v693 : BitVec 32 := Scalar.extui v692
  let v694 : BitVec 32 := Scalar.subi v691 v693
  let v695 : BitVec 1 := Scalar.cmpi .ne v689 v694
  let v696 : BitVec 32 := Scalar.remsi v2 c2_i32_433
  let c0_i32_438 : BitVec 32 := 0#32
  let v697 : BitVec 1 := Scalar.cmpi .ne v696 c0_i32_438
  let v698 : BitVec 1 := Scalar.andi v695 v697
  let v684 : BitVec 32 := Scalar.divsi v2 c2_i32_433
  let c1_i32_439 : BitVec 32 := 1#32
  let v699 : BitVec 32 := Scalar.subi v684 c1_i32_439
  let v700 : BitVec 32 := Scalar.select v698 v699 v684
  let c1_i32_440 : BitVec 32 := 1#32
  let v701 : BitVec 32 := Scalar.addi v700 c1_i32_440
  let c6_i32_441 : BitVec 32 := 6#32
  let v702 : BitVec 32 := Scalar.addi v701 c6_i32_441
  let c8_i32_442 : BitVec 32 := 8#32
  let v703 : BitVec 32 := Scalar.remsi v702 c8_i32_442
  let c2_i32_468 : BitVec 32 := 2#32
  let v742 : BitVec 32 := Scalar.muli v703 c2_i32_468
  let c0_i32_469 : BitVec 32 := 0#32
  let v743 : BitVec 32 := Scalar.addi v742 c0_i32_469
  ![v743.toNat]
def k0_off52 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off53 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_585 : BitVec 32 := 0#32
  let c0_i32_586 : BitVec 32 := 0#32
  ![v2.toNat, 0, 0]
def k0_off54 (d0 : Dev nD) : Fin 2 → Nat :=
  let c0_i32_587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_434 : BitVec 32 := 0#32
  let v685 : BitVec 1 := Scalar.cmpi .sgt v2 c0_i32_434
  let v686 : BitVec 32 := Scalar.extui v685
  let c0_i32_435 : BitVec 32 := 0#32
  let v687 : BitVec 1 := Scalar.cmpi .slt v2 c0_i32_435
  let v688 : BitVec 32 := Scalar.extui v687
  let v689 : BitVec 32 := Scalar.subi v686 v688
  let c2_i32_433 : BitVec 32 := 2#32
  let c0_i32_436 : BitVec 32 := 0#32
  let v690 : BitVec 1 := Scalar.cmpi .sgt c2_i32_433 c0_i32_436
  let v691 : BitVec 32 := Scalar.extui v690
  let c0_i32_437 : BitVec 32 := 0#32
  let v692 : BitVec 1 := Scalar.cmpi .slt c2_i32_433 c0_i32_437
  let v693 : BitVec 32 := Scalar.extui v692
  let v694 : BitVec 32 := Scalar.subi v691 v693
  let v695 : BitVec 1 := Scalar.cmpi .ne v689 v694
  let v696 : BitVec 32 := Scalar.remsi v2 c2_i32_433
  let c0_i32_438 : BitVec 32 := 0#32
  let v697 : BitVec 1 := Scalar.cmpi .ne v696 c0_i32_438
  let v698 : BitVec 1 := Scalar.andi v695 v697
  let v684 : BitVec 32 := Scalar.divsi v2 c2_i32_433
  let c1_i32_439 : BitVec 32 := 1#32
  let v699 : BitVec 32 := Scalar.subi v684 c1_i32_439
  let v700 : BitVec 32 := Scalar.select v698 v699 v684
  let c1_i32_440 : BitVec 32 := 1#32
  let v701 : BitVec 32 := Scalar.addi v700 c1_i32_440
  let c6_i32_441 : BitVec 32 := 6#32
  let v702 : BitVec 32 := Scalar.addi v701 c6_i32_441
  let c8_i32_442 : BitVec 32 := 8#32
  let v703 : BitVec 32 := Scalar.remsi v702 c8_i32_442
  let c2_i32_468 : BitVec 32 := 2#32
  let v742 : BitVec 32 := Scalar.muli v703 c2_i32_468
  let c0_i32_469 : BitVec 32 := 0#32
  let v743 : BitVec 32 := Scalar.addi v742 c0_i32_469
  let c128_i32_582 : BitVec 32 := 128#32
  let v923 : BitVec 32 := Scalar.muli v743 c128_i32_582
  ![0, v923.toNat]
def k0_dev28 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_434 : BitVec 32 := 0#32
  let v685 : BitVec 1 := Scalar.cmpi .sgt v2 c0_i32_434
  let v686 : BitVec 32 := Scalar.extui v685
  let c0_i32_435 : BitVec 32 := 0#32
  let v687 : BitVec 1 := Scalar.cmpi .slt v2 c0_i32_435
  let v688 : BitVec 32 := Scalar.extui v687
  let v689 : BitVec 32 := Scalar.subi v686 v688
  let c2_i32_433 : BitVec 32 := 2#32
  let c0_i32_436 : BitVec 32 := 0#32
  let v690 : BitVec 1 := Scalar.cmpi .sgt c2_i32_433 c0_i32_436
  let v691 : BitVec 32 := Scalar.extui v690
  let c0_i32_437 : BitVec 32 := 0#32
  let v692 : BitVec 1 := Scalar.cmpi .slt c2_i32_433 c0_i32_437
  let v693 : BitVec 32 := Scalar.extui v692
  let v694 : BitVec 32 := Scalar.subi v691 v693
  let v695 : BitVec 1 := Scalar.cmpi .ne v689 v694
  let v696 : BitVec 32 := Scalar.remsi v2 c2_i32_433
  let c0_i32_438 : BitVec 32 := 0#32
  let v697 : BitVec 1 := Scalar.cmpi .ne v696 c0_i32_438
  let v698 : BitVec 1 := Scalar.andi v695 v697
  let v684 : BitVec 32 := Scalar.divsi v2 c2_i32_433
  let c1_i32_439 : BitVec 32 := 1#32
  let v699 : BitVec 32 := Scalar.subi v684 c1_i32_439
  let v700 : BitVec 32 := Scalar.select v698 v699 v684
  let c1_i32_440 : BitVec 32 := 1#32
  let v701 : BitVec 32 := Scalar.addi v700 c1_i32_440
  let c6_i32_441 : BitVec 32 := 6#32
  let v702 : BitVec 32 := Scalar.addi v701 c6_i32_441
  let c8_i32_442 : BitVec 32 := 8#32
  let v703 : BitVec 32 := Scalar.remsi v702 c8_i32_442
  let c2_i32_468 : BitVec 32 := 2#32
  let v742 : BitVec 32 := Scalar.muli v703 c2_i32_468
  let c0_i32_469 : BitVec 32 := 0#32
  let v743 : BitVec 32 := Scalar.addi v742 c0_i32_469
  let c1_i32_583 : BitVec 32 := 1#32
  let v924 : BitVec 32 := Scalar.muli v743 c1_i32_583
  let v925 : BitVec 32 := Scalar.addi c0_i32_584 v924
  v925.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_434 : BitVec 32 := 0#32
  let v685 : BitVec 1 := Scalar.cmpi .sgt v2 c0_i32_434
  let v686 : BitVec 32 := Scalar.extui v685
  let c0_i32_435 : BitVec 32 := 0#32
  let v687 : BitVec 1 := Scalar.cmpi .slt v2 c0_i32_435
  let v688 : BitVec 32 := Scalar.extui v687
  let v689 : BitVec 32 := Scalar.subi v686 v688
  let c2_i32_433 : BitVec 32 := 2#32
  let c0_i32_436 : BitVec 32 := 0#32
  let v690 : BitVec 1 := Scalar.cmpi .sgt c2_i32_433 c0_i32_436
  let v691 : BitVec 32 := Scalar.extui v690
  let c0_i32_437 : BitVec 32 := 0#32
  let v692 : BitVec 1 := Scalar.cmpi .slt c2_i32_433 c0_i32_437
  let v693 : BitVec 32 := Scalar.extui v692
  let v694 : BitVec 32 := Scalar.subi v691 v693
  let v695 : BitVec 1 := Scalar.cmpi .ne v689 v694
  let v696 : BitVec 32 := Scalar.remsi v2 c2_i32_433
  let c0_i32_438 : BitVec 32 := 0#32
  let v697 : BitVec 1 := Scalar.cmpi .ne v696 c0_i32_438
  let v698 : BitVec 1 := Scalar.andi v695 v697
  let v684 : BitVec 32 := Scalar.divsi v2 c2_i32_433
  let c1_i32_439 : BitVec 32 := 1#32
  let v699 : BitVec 32 := Scalar.subi v684 c1_i32_439
  let v700 : BitVec 32 := Scalar.select v698 v699 v684
  let c1_i32_440 : BitVec 32 := 1#32
  let v701 : BitVec 32 := Scalar.addi v700 c1_i32_440
  let c6_i32_441 : BitVec 32 := 6#32
  let v702 : BitVec 32 := Scalar.addi v701 c6_i32_441
  let c8_i32_442 : BitVec 32 := 8#32
  let v703 : BitVec 32 := Scalar.remsi v702 c8_i32_442
  let c2_i32_471 : BitVec 32 := 2#32
  let v747 : BitVec 32 := Scalar.muli v703 c2_i32_471
  let c1_i32_472 : BitVec 32 := 1#32
  let v748 : BitVec 32 := Scalar.addi v747 c1_i32_472
  let v749 : BitVec 1 := Scalar.cmpi .ne v748 v2
  let v750 : BitVec 32 := Scalar.extui v749
  let c0_i32_473 : BitVec 32 := 0#32
  let v751 : BitVec 1 := Scalar.cmpi .ne v750 c0_i32_473
  v751

def k0_off55 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_434 : BitVec 32 := 0#32
  let v685 : BitVec 1 := Scalar.cmpi .sgt v2 c0_i32_434
  let v686 : BitVec 32 := Scalar.extui v685
  let c0_i32_435 : BitVec 32 := 0#32
  let v687 : BitVec 1 := Scalar.cmpi .slt v2 c0_i32_435
  let v688 : BitVec 32 := Scalar.extui v687
  let v689 : BitVec 32 := Scalar.subi v686 v688
  let c2_i32_433 : BitVec 32 := 2#32
  let c0_i32_436 : BitVec 32 := 0#32
  let v690 : BitVec 1 := Scalar.cmpi .sgt c2_i32_433 c0_i32_436
  let v691 : BitVec 32 := Scalar.extui v690
  let c0_i32_437 : BitVec 32 := 0#32
  let v692 : BitVec 1 := Scalar.cmpi .slt c2_i32_433 c0_i32_437
  let v693 : BitVec 32 := Scalar.extui v692
  let v694 : BitVec 32 := Scalar.subi v691 v693
  let v695 : BitVec 1 := Scalar.cmpi .ne v689 v694
  let v696 : BitVec 32 := Scalar.remsi v2 c2_i32_433
  let c0_i32_438 : BitVec 32 := 0#32
  let v697 : BitVec 1 := Scalar.cmpi .ne v696 c0_i32_438
  let v698 : BitVec 1 := Scalar.andi v695 v697
  let v684 : BitVec 32 := Scalar.divsi v2 c2_i32_433
  let c1_i32_439 : BitVec 32 := 1#32
  let v699 : BitVec 32 := Scalar.subi v684 c1_i32_439
  let v700 : BitVec 32 := Scalar.select v698 v699 v684
  let c1_i32_440 : BitVec 32 := 1#32
  let v701 : BitVec 32 := Scalar.addi v700 c1_i32_440
  let c6_i32_441 : BitVec 32 := 6#32
  let v702 : BitVec 32 := Scalar.addi v701 c6_i32_441
  let c8_i32_442 : BitVec 32 := 8#32
  let v703 : BitVec 32 := Scalar.remsi v702 c8_i32_442
  let c2_i32_471 : BitVec 32 := 2#32
  let v747 : BitVec 32 := Scalar.muli v703 c2_i32_471
  let c1_i32_472 : BitVec 32 := 1#32
  let v748 : BitVec 32 := Scalar.addi v747 c1_i32_472
  ![v748.toNat]
def k0_off56 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off57 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_585 : BitVec 32 := 0#32
  let c0_i32_586 : BitVec 32 := 0#32
  ![v2.toNat, 0, 0]
def k0_off58 (d0 : Dev nD) : Fin 2 → Nat :=
  let c0_i32_587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_434 : BitVec 32 := 0#32
  let v685 : BitVec 1 := Scalar.cmpi .sgt v2 c0_i32_434
  let v686 : BitVec 32 := Scalar.extui v685
  let c0_i32_435 : BitVec 32 := 0#32
  let v687 : BitVec 1 := Scalar.cmpi .slt v2 c0_i32_435
  let v688 : BitVec 32 := Scalar.extui v687
  let v689 : BitVec 32 := Scalar.subi v686 v688
  let c2_i32_433 : BitVec 32 := 2#32
  let c0_i32_436 : BitVec 32 := 0#32
  let v690 : BitVec 1 := Scalar.cmpi .sgt c2_i32_433 c0_i32_436
  let v691 : BitVec 32 := Scalar.extui v690
  let c0_i32_437 : BitVec 32 := 0#32
  let v692 : BitVec 1 := Scalar.cmpi .slt c2_i32_433 c0_i32_437
  let v693 : BitVec 32 := Scalar.extui v692
  let v694 : BitVec 32 := Scalar.subi v691 v693
  let v695 : BitVec 1 := Scalar.cmpi .ne v689 v694
  let v696 : BitVec 32 := Scalar.remsi v2 c2_i32_433
  let c0_i32_438 : BitVec 32 := 0#32
  let v697 : BitVec 1 := Scalar.cmpi .ne v696 c0_i32_438
  let v698 : BitVec 1 := Scalar.andi v695 v697
  let v684 : BitVec 32 := Scalar.divsi v2 c2_i32_433
  let c1_i32_439 : BitVec 32 := 1#32
  let v699 : BitVec 32 := Scalar.subi v684 c1_i32_439
  let v700 : BitVec 32 := Scalar.select v698 v699 v684
  let c1_i32_440 : BitVec 32 := 1#32
  let v701 : BitVec 32 := Scalar.addi v700 c1_i32_440
  let c6_i32_441 : BitVec 32 := 6#32
  let v702 : BitVec 32 := Scalar.addi v701 c6_i32_441
  let c8_i32_442 : BitVec 32 := 8#32
  let v703 : BitVec 32 := Scalar.remsi v702 c8_i32_442
  let c2_i32_471 : BitVec 32 := 2#32
  let v747 : BitVec 32 := Scalar.muli v703 c2_i32_471
  let c1_i32_472 : BitVec 32 := 1#32
  let v748 : BitVec 32 := Scalar.addi v747 c1_i32_472
  let c128_i32_582 : BitVec 32 := 128#32
  let v923 : BitVec 32 := Scalar.muli v748 c128_i32_582
  ![0, v923.toNat]
def k0_dev29 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_434 : BitVec 32 := 0#32
  let v685 : BitVec 1 := Scalar.cmpi .sgt v2 c0_i32_434
  let v686 : BitVec 32 := Scalar.extui v685
  let c0_i32_435 : BitVec 32 := 0#32
  let v687 : BitVec 1 := Scalar.cmpi .slt v2 c0_i32_435
  let v688 : BitVec 32 := Scalar.extui v687
  let v689 : BitVec 32 := Scalar.subi v686 v688
  let c2_i32_433 : BitVec 32 := 2#32
  let c0_i32_436 : BitVec 32 := 0#32
  let v690 : BitVec 1 := Scalar.cmpi .sgt c2_i32_433 c0_i32_436
  let v691 : BitVec 32 := Scalar.extui v690
  let c0_i32_437 : BitVec 32 := 0#32
  let v692 : BitVec 1 := Scalar.cmpi .slt c2_i32_433 c0_i32_437
  let v693 : BitVec 32 := Scalar.extui v692
  let v694 : BitVec 32 := Scalar.subi v691 v693
  let v695 : BitVec 1 := Scalar.cmpi .ne v689 v694
  let v696 : BitVec 32 := Scalar.remsi v2 c2_i32_433
  let c0_i32_438 : BitVec 32 := 0#32
  let v697 : BitVec 1 := Scalar.cmpi .ne v696 c0_i32_438
  let v698 : BitVec 1 := Scalar.andi v695 v697
  let v684 : BitVec 32 := Scalar.divsi v2 c2_i32_433
  let c1_i32_439 : BitVec 32 := 1#32
  let v699 : BitVec 32 := Scalar.subi v684 c1_i32_439
  let v700 : BitVec 32 := Scalar.select v698 v699 v684
  let c1_i32_440 : BitVec 32 := 1#32
  let v701 : BitVec 32 := Scalar.addi v700 c1_i32_440
  let c6_i32_441 : BitVec 32 := 6#32
  let v702 : BitVec 32 := Scalar.addi v701 c6_i32_441
  let c8_i32_442 : BitVec 32 := 8#32
  let v703 : BitVec 32 := Scalar.remsi v702 c8_i32_442
  let c2_i32_471 : BitVec 32 := 2#32
  let v747 : BitVec 32 := Scalar.muli v703 c2_i32_471
  let c1_i32_472 : BitVec 32 := 1#32
  let v748 : BitVec 32 := Scalar.addi v747 c1_i32_472
  let c1_i32_583 : BitVec 32 := 1#32
  let v924 : BitVec 32 := Scalar.muli v748 c1_i32_583
  let v925 : BitVec 32 := Scalar.addi c0_i32_584 v924
  v925.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_475 : BitVec 32 := 0#32
  let v753 : BitVec 1 := Scalar.cmpi .sgt v2 c0_i32_475
  let v754 : BitVec 32 := Scalar.extui v753
  let c0_i32_476 : BitVec 32 := 0#32
  let v755 : BitVec 1 := Scalar.cmpi .slt v2 c0_i32_476
  let v756 : BitVec 32 := Scalar.extui v755
  let v757 : BitVec 32 := Scalar.subi v754 v756
  let c2_i32_474 : BitVec 32 := 2#32
  let c0_i32_477 : BitVec 32 := 0#32
  let v758 : BitVec 1 := Scalar.cmpi .sgt c2_i32_474 c0_i32_477
  let v759 : BitVec 32 := Scalar.extui v758
  let c0_i32_478 : BitVec 32 := 0#32
  let v760 : BitVec 1 := Scalar.cmpi .slt c2_i32_474 c0_i32_478
  let v761 : BitVec 32 := Scalar.extui v760
  let v762 : BitVec 32 := Scalar.subi v759 v761
  let v763 : BitVec 1 := Scalar.cmpi .ne v757 v762
  let v764 : BitVec 32 := Scalar.remsi v2 c2_i32_474
  let c0_i32_479 : BitVec 32 := 0#32
  let v765 : BitVec 1 := Scalar.cmpi .ne v764 c0_i32_479
  let v766 : BitVec 1 := Scalar.andi v763 v765
  let v752 : BitVec 32 := Scalar.divsi v2 c2_i32_474
  let c1_i32_480 : BitVec 32 := 1#32
  let v767 : BitVec 32 := Scalar.subi v752 c1_i32_480
  let v768 : BitVec 32 := Scalar.select v766 v767 v752
  let c1_i32_481 : BitVec 32 := 1#32
  let v769 : BitVec 32 := Scalar.addi v768 c1_i32_481
  let c7_i32_482 : BitVec 32 := 7#32
  let v770 : BitVec 32 := Scalar.addi v769 c7_i32_482
  let c8_i32_483 : BitVec 32 := 8#32
  let v771 : BitVec 32 := Scalar.remsi v770 c8_i32_483
  let c2_i32_509 : BitVec 32 := 2#32
  let v810 : BitVec 32 := Scalar.muli v771 c2_i32_509
  let c0_i32_510 : BitVec 32 := 0#32
  let v811 : BitVec 32 := Scalar.addi v810 c0_i32_510
  let v812 : BitVec 1 := Scalar.cmpi .ne v811 v2
  let v813 : BitVec 32 := Scalar.extui v812
  let c0_i32_511 : BitVec 32 := 0#32
  let v814 : BitVec 1 := Scalar.cmpi .ne v813 c0_i32_511
  v814

def k0_off59 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_475 : BitVec 32 := 0#32
  let v753 : BitVec 1 := Scalar.cmpi .sgt v2 c0_i32_475
  let v754 : BitVec 32 := Scalar.extui v753
  let c0_i32_476 : BitVec 32 := 0#32
  let v755 : BitVec 1 := Scalar.cmpi .slt v2 c0_i32_476
  let v756 : BitVec 32 := Scalar.extui v755
  let v757 : BitVec 32 := Scalar.subi v754 v756
  let c2_i32_474 : BitVec 32 := 2#32
  let c0_i32_477 : BitVec 32 := 0#32
  let v758 : BitVec 1 := Scalar.cmpi .sgt c2_i32_474 c0_i32_477
  let v759 : BitVec 32 := Scalar.extui v758
  let c0_i32_478 : BitVec 32 := 0#32
  let v760 : BitVec 1 := Scalar.cmpi .slt c2_i32_474 c0_i32_478
  let v761 : BitVec 32 := Scalar.extui v760
  let v762 : BitVec 32 := Scalar.subi v759 v761
  let v763 : BitVec 1 := Scalar.cmpi .ne v757 v762
  let v764 : BitVec 32 := Scalar.remsi v2 c2_i32_474
  let c0_i32_479 : BitVec 32 := 0#32
  let v765 : BitVec 1 := Scalar.cmpi .ne v764 c0_i32_479
  let v766 : BitVec 1 := Scalar.andi v763 v765
  let v752 : BitVec 32 := Scalar.divsi v2 c2_i32_474
  let c1_i32_480 : BitVec 32 := 1#32
  let v767 : BitVec 32 := Scalar.subi v752 c1_i32_480
  let v768 : BitVec 32 := Scalar.select v766 v767 v752
  let c1_i32_481 : BitVec 32 := 1#32
  let v769 : BitVec 32 := Scalar.addi v768 c1_i32_481
  let c7_i32_482 : BitVec 32 := 7#32
  let v770 : BitVec 32 := Scalar.addi v769 c7_i32_482
  let c8_i32_483 : BitVec 32 := 8#32
  let v771 : BitVec 32 := Scalar.remsi v770 c8_i32_483
  let c2_i32_509 : BitVec 32 := 2#32
  let v810 : BitVec 32 := Scalar.muli v771 c2_i32_509
  let c0_i32_510 : BitVec 32 := 0#32
  let v811 : BitVec 32 := Scalar.addi v810 c0_i32_510
  ![v811.toNat]
def k0_off60 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off61 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_585 : BitVec 32 := 0#32
  let c0_i32_586 : BitVec 32 := 0#32
  ![v2.toNat, 0, 0]
def k0_off62 (d0 : Dev nD) : Fin 2 → Nat :=
  let c0_i32_587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_475 : BitVec 32 := 0#32
  let v753 : BitVec 1 := Scalar.cmpi .sgt v2 c0_i32_475
  let v754 : BitVec 32 := Scalar.extui v753
  let c0_i32_476 : BitVec 32 := 0#32
  let v755 : BitVec 1 := Scalar.cmpi .slt v2 c0_i32_476
  let v756 : BitVec 32 := Scalar.extui v755
  let v757 : BitVec 32 := Scalar.subi v754 v756
  let c2_i32_474 : BitVec 32 := 2#32
  let c0_i32_477 : BitVec 32 := 0#32
  let v758 : BitVec 1 := Scalar.cmpi .sgt c2_i32_474 c0_i32_477
  let v759 : BitVec 32 := Scalar.extui v758
  let c0_i32_478 : BitVec 32 := 0#32
  let v760 : BitVec 1 := Scalar.cmpi .slt c2_i32_474 c0_i32_478
  let v761 : BitVec 32 := Scalar.extui v760
  let v762 : BitVec 32 := Scalar.subi v759 v761
  let v763 : BitVec 1 := Scalar.cmpi .ne v757 v762
  let v764 : BitVec 32 := Scalar.remsi v2 c2_i32_474
  let c0_i32_479 : BitVec 32 := 0#32
  let v765 : BitVec 1 := Scalar.cmpi .ne v764 c0_i32_479
  let v766 : BitVec 1 := Scalar.andi v763 v765
  let v752 : BitVec 32 := Scalar.divsi v2 c2_i32_474
  let c1_i32_480 : BitVec 32 := 1#32
  let v767 : BitVec 32 := Scalar.subi v752 c1_i32_480
  let v768 : BitVec 32 := Scalar.select v766 v767 v752
  let c1_i32_481 : BitVec 32 := 1#32
  let v769 : BitVec 32 := Scalar.addi v768 c1_i32_481
  let c7_i32_482 : BitVec 32 := 7#32
  let v770 : BitVec 32 := Scalar.addi v769 c7_i32_482
  let c8_i32_483 : BitVec 32 := 8#32
  let v771 : BitVec 32 := Scalar.remsi v770 c8_i32_483
  let c2_i32_509 : BitVec 32 := 2#32
  let v810 : BitVec 32 := Scalar.muli v771 c2_i32_509
  let c0_i32_510 : BitVec 32 := 0#32
  let v811 : BitVec 32 := Scalar.addi v810 c0_i32_510
  let c128_i32_582 : BitVec 32 := 128#32
  let v923 : BitVec 32 := Scalar.muli v811 c128_i32_582
  ![0, v923.toNat]
def k0_dev30 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_475 : BitVec 32 := 0#32
  let v753 : BitVec 1 := Scalar.cmpi .sgt v2 c0_i32_475
  let v754 : BitVec 32 := Scalar.extui v753
  let c0_i32_476 : BitVec 32 := 0#32
  let v755 : BitVec 1 := Scalar.cmpi .slt v2 c0_i32_476
  let v756 : BitVec 32 := Scalar.extui v755
  let v757 : BitVec 32 := Scalar.subi v754 v756
  let c2_i32_474 : BitVec 32 := 2#32
  let c0_i32_477 : BitVec 32 := 0#32
  let v758 : BitVec 1 := Scalar.cmpi .sgt c2_i32_474 c0_i32_477
  let v759 : BitVec 32 := Scalar.extui v758
  let c0_i32_478 : BitVec 32 := 0#32
  let v760 : BitVec 1 := Scalar.cmpi .slt c2_i32_474 c0_i32_478
  let v761 : BitVec 32 := Scalar.extui v760
  let v762 : BitVec 32 := Scalar.subi v759 v761
  let v763 : BitVec 1 := Scalar.cmpi .ne v757 v762
  let v764 : BitVec 32 := Scalar.remsi v2 c2_i32_474
  let c0_i32_479 : BitVec 32 := 0#32
  let v765 : BitVec 1 := Scalar.cmpi .ne v764 c0_i32_479
  let v766 : BitVec 1 := Scalar.andi v763 v765
  let v752 : BitVec 32 := Scalar.divsi v2 c2_i32_474
  let c1_i32_480 : BitVec 32 := 1#32
  let v767 : BitVec 32 := Scalar.subi v752 c1_i32_480
  let v768 : BitVec 32 := Scalar.select v766 v767 v752
  let c1_i32_481 : BitVec 32 := 1#32
  let v769 : BitVec 32 := Scalar.addi v768 c1_i32_481
  let c7_i32_482 : BitVec 32 := 7#32
  let v770 : BitVec 32 := Scalar.addi v769 c7_i32_482
  let c8_i32_483 : BitVec 32 := 8#32
  let v771 : BitVec 32 := Scalar.remsi v770 c8_i32_483
  let c2_i32_509 : BitVec 32 := 2#32
  let v810 : BitVec 32 := Scalar.muli v771 c2_i32_509
  let c0_i32_510 : BitVec 32 := 0#32
  let v811 : BitVec 32 := Scalar.addi v810 c0_i32_510
  let c1_i32_583 : BitVec 32 := 1#32
  let v924 : BitVec 32 := Scalar.muli v811 c1_i32_583
  let v925 : BitVec 32 := Scalar.addi c0_i32_584 v924
  v925.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_475 : BitVec 32 := 0#32
  let v753 : BitVec 1 := Scalar.cmpi .sgt v2 c0_i32_475
  let v754 : BitVec 32 := Scalar.extui v753
  let c0_i32_476 : BitVec 32 := 0#32
  let v755 : BitVec 1 := Scalar.cmpi .slt v2 c0_i32_476
  let v756 : BitVec 32 := Scalar.extui v755
  let v757 : BitVec 32 := Scalar.subi v754 v756
  let c2_i32_474 : BitVec 32 := 2#32
  let c0_i32_477 : BitVec 32 := 0#32
  let v758 : BitVec 1 := Scalar.cmpi .sgt c2_i32_474 c0_i32_477
  let v759 : BitVec 32 := Scalar.extui v758
  let c0_i32_478 : BitVec 32 := 0#32
  let v760 : BitVec 1 := Scalar.cmpi .slt c2_i32_474 c0_i32_478
  let v761 : BitVec 32 := Scalar.extui v760
  let v762 : BitVec 32 := Scalar.subi v759 v761
  let v763 : BitVec 1 := Scalar.cmpi .ne v757 v762
  let v764 : BitVec 32 := Scalar.remsi v2 c2_i32_474
  let c0_i32_479 : BitVec 32 := 0#32
  let v765 : BitVec 1 := Scalar.cmpi .ne v764 c0_i32_479
  let v766 : BitVec 1 := Scalar.andi v763 v765
  let v752 : BitVec 32 := Scalar.divsi v2 c2_i32_474
  let c1_i32_480 : BitVec 32 := 1#32
  let v767 : BitVec 32 := Scalar.subi v752 c1_i32_480
  let v768 : BitVec 32 := Scalar.select v766 v767 v752
  let c1_i32_481 : BitVec 32 := 1#32
  let v769 : BitVec 32 := Scalar.addi v768 c1_i32_481
  let c7_i32_482 : BitVec 32 := 7#32
  let v770 : BitVec 32 := Scalar.addi v769 c7_i32_482
  let c8_i32_483 : BitVec 32 := 8#32
  let v771 : BitVec 32 := Scalar.remsi v770 c8_i32_483
  let c2_i32_512 : BitVec 32 := 2#32
  let v815 : BitVec 32 := Scalar.muli v771 c2_i32_512
  let c1_i32_513 : BitVec 32 := 1#32
  let v816 : BitVec 32 := Scalar.addi v815 c1_i32_513
  let v817 : BitVec 1 := Scalar.cmpi .ne v816 v2
  let v818 : BitVec 32 := Scalar.extui v817
  let c0_i32_514 : BitVec 32 := 0#32
  let v819 : BitVec 1 := Scalar.cmpi .ne v818 c0_i32_514
  v819

def k0_off63 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_475 : BitVec 32 := 0#32
  let v753 : BitVec 1 := Scalar.cmpi .sgt v2 c0_i32_475
  let v754 : BitVec 32 := Scalar.extui v753
  let c0_i32_476 : BitVec 32 := 0#32
  let v755 : BitVec 1 := Scalar.cmpi .slt v2 c0_i32_476
  let v756 : BitVec 32 := Scalar.extui v755
  let v757 : BitVec 32 := Scalar.subi v754 v756
  let c2_i32_474 : BitVec 32 := 2#32
  let c0_i32_477 : BitVec 32 := 0#32
  let v758 : BitVec 1 := Scalar.cmpi .sgt c2_i32_474 c0_i32_477
  let v759 : BitVec 32 := Scalar.extui v758
  let c0_i32_478 : BitVec 32 := 0#32
  let v760 : BitVec 1 := Scalar.cmpi .slt c2_i32_474 c0_i32_478
  let v761 : BitVec 32 := Scalar.extui v760
  let v762 : BitVec 32 := Scalar.subi v759 v761
  let v763 : BitVec 1 := Scalar.cmpi .ne v757 v762
  let v764 : BitVec 32 := Scalar.remsi v2 c2_i32_474
  let c0_i32_479 : BitVec 32 := 0#32
  let v765 : BitVec 1 := Scalar.cmpi .ne v764 c0_i32_479
  let v766 : BitVec 1 := Scalar.andi v763 v765
  let v752 : BitVec 32 := Scalar.divsi v2 c2_i32_474
  let c1_i32_480 : BitVec 32 := 1#32
  let v767 : BitVec 32 := Scalar.subi v752 c1_i32_480
  let v768 : BitVec 32 := Scalar.select v766 v767 v752
  let c1_i32_481 : BitVec 32 := 1#32
  let v769 : BitVec 32 := Scalar.addi v768 c1_i32_481
  let c7_i32_482 : BitVec 32 := 7#32
  let v770 : BitVec 32 := Scalar.addi v769 c7_i32_482
  let c8_i32_483 : BitVec 32 := 8#32
  let v771 : BitVec 32 := Scalar.remsi v770 c8_i32_483
  let c2_i32_512 : BitVec 32 := 2#32
  let v815 : BitVec 32 := Scalar.muli v771 c2_i32_512
  let c1_i32_513 : BitVec 32 := 1#32
  let v816 : BitVec 32 := Scalar.addi v815 c1_i32_513
  ![v816.toNat]
def k0_off64 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off65 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_585 : BitVec 32 := 0#32
  let c0_i32_586 : BitVec 32 := 0#32
  ![v2.toNat, 0, 0]
def k0_off66 (d0 : Dev nD) : Fin 2 → Nat :=
  let c0_i32_587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_475 : BitVec 32 := 0#32
  let v753 : BitVec 1 := Scalar.cmpi .sgt v2 c0_i32_475
  let v754 : BitVec 32 := Scalar.extui v753
  let c0_i32_476 : BitVec 32 := 0#32
  let v755 : BitVec 1 := Scalar.cmpi .slt v2 c0_i32_476
  let v756 : BitVec 32 := Scalar.extui v755
  let v757 : BitVec 32 := Scalar.subi v754 v756
  let c2_i32_474 : BitVec 32 := 2#32
  let c0_i32_477 : BitVec 32 := 0#32
  let v758 : BitVec 1 := Scalar.cmpi .sgt c2_i32_474 c0_i32_477
  let v759 : BitVec 32 := Scalar.extui v758
  let c0_i32_478 : BitVec 32 := 0#32
  let v760 : BitVec 1 := Scalar.cmpi .slt c2_i32_474 c0_i32_478
  let v761 : BitVec 32 := Scalar.extui v760
  let v762 : BitVec 32 := Scalar.subi v759 v761
  let v763 : BitVec 1 := Scalar.cmpi .ne v757 v762
  let v764 : BitVec 32 := Scalar.remsi v2 c2_i32_474
  let c0_i32_479 : BitVec 32 := 0#32
  let v765 : BitVec 1 := Scalar.cmpi .ne v764 c0_i32_479
  let v766 : BitVec 1 := Scalar.andi v763 v765
  let v752 : BitVec 32 := Scalar.divsi v2 c2_i32_474
  let c1_i32_480 : BitVec 32 := 1#32
  let v767 : BitVec 32 := Scalar.subi v752 c1_i32_480
  let v768 : BitVec 32 := Scalar.select v766 v767 v752
  let c1_i32_481 : BitVec 32 := 1#32
  let v769 : BitVec 32 := Scalar.addi v768 c1_i32_481
  let c7_i32_482 : BitVec 32 := 7#32
  let v770 : BitVec 32 := Scalar.addi v769 c7_i32_482
  let c8_i32_483 : BitVec 32 := 8#32
  let v771 : BitVec 32 := Scalar.remsi v770 c8_i32_483
  let c2_i32_512 : BitVec 32 := 2#32
  let v815 : BitVec 32 := Scalar.muli v771 c2_i32_512
  let c1_i32_513 : BitVec 32 := 1#32
  let v816 : BitVec 32 := Scalar.addi v815 c1_i32_513
  let c128_i32_582 : BitVec 32 := 128#32
  let v923 : BitVec 32 := Scalar.muli v816 c128_i32_582
  ![0, v923.toNat]
def k0_dev31 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_475 : BitVec 32 := 0#32
  let v753 : BitVec 1 := Scalar.cmpi .sgt v2 c0_i32_475
  let v754 : BitVec 32 := Scalar.extui v753
  let c0_i32_476 : BitVec 32 := 0#32
  let v755 : BitVec 1 := Scalar.cmpi .slt v2 c0_i32_476
  let v756 : BitVec 32 := Scalar.extui v755
  let v757 : BitVec 32 := Scalar.subi v754 v756
  let c2_i32_474 : BitVec 32 := 2#32
  let c0_i32_477 : BitVec 32 := 0#32
  let v758 : BitVec 1 := Scalar.cmpi .sgt c2_i32_474 c0_i32_477
  let v759 : BitVec 32 := Scalar.extui v758
  let c0_i32_478 : BitVec 32 := 0#32
  let v760 : BitVec 1 := Scalar.cmpi .slt c2_i32_474 c0_i32_478
  let v761 : BitVec 32 := Scalar.extui v760
  let v762 : BitVec 32 := Scalar.subi v759 v761
  let v763 : BitVec 1 := Scalar.cmpi .ne v757 v762
  let v764 : BitVec 32 := Scalar.remsi v2 c2_i32_474
  let c0_i32_479 : BitVec 32 := 0#32
  let v765 : BitVec 1 := Scalar.cmpi .ne v764 c0_i32_479
  let v766 : BitVec 1 := Scalar.andi v763 v765
  let v752 : BitVec 32 := Scalar.divsi v2 c2_i32_474
  let c1_i32_480 : BitVec 32 := 1#32
  let v767 : BitVec 32 := Scalar.subi v752 c1_i32_480
  let v768 : BitVec 32 := Scalar.select v766 v767 v752
  let c1_i32_481 : BitVec 32 := 1#32
  let v769 : BitVec 32 := Scalar.addi v768 c1_i32_481
  let c7_i32_482 : BitVec 32 := 7#32
  let v770 : BitVec 32 := Scalar.addi v769 c7_i32_482
  let c8_i32_483 : BitVec 32 := 8#32
  let v771 : BitVec 32 := Scalar.remsi v770 c8_i32_483
  let c2_i32_512 : BitVec 32 := 2#32
  let v815 : BitVec 32 := Scalar.muli v771 c2_i32_512
  let c1_i32_513 : BitVec 32 := 1#32
  let v816 : BitVec 32 := Scalar.addi v815 c1_i32_513
  let c1_i32_583 : BitVec 32 := 1#32
  let v924 : BitVec 32 := Scalar.muli v816 c1_i32_583
  let v925 : BitVec 32 := Scalar.addi c0_i32_584 v924
  v925.toNat
def k0_off67 (d0 : Dev nD) : Fin 2 → Nat :=
  let c0_515 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v820 : BitVec 32 := Scalar.muli v2 c128_i32
  let v821 : Index := Scalar.indexCast v820
  ![0, v821.toNat]
def k0_off68 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_516 : BitVec 32 := 128#32
  let v824 : BitVec 32 := Scalar.muli v2 c128_i32_516
  let v825 : Index := Scalar.indexCast v824
  let c0_517 : Index := 0#32
  ![v825.toNat, 0]
abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Facts.lean ====
/-
# The offsets and devices of the kernel, in closed form

The kernel walks the sixteen column blocks of its product in an order that depends on the device: chunk
`chk c r` (two blocks wide) at step `r`, block `tgt c i` as its `i`-th transfer.
-/
module

public import proofs.«01_k».proof.Proof.Gen.KernelIdeal
public import proofs.«01_k».proof.Proof.Gen.KernelIdeal.Skeleton

@[expose] public section

namespace Cert.Scatter

open Cert.KernelIdeal Cert.KernelIdeal.Gen
open Idealize.ShloMosaic Idealize.SL.Sem

/-- The chunk of 256 columns device `c` computes at its step `r`: it starts after its own pair's chunk. -/
def chk (c : Dev nD) (r : Fin 8) : Fin 8 := ⟨(c.val / 2 + 1 + r.val) % 8, Nat.mod_lt _ (by decide)⟩

/-- The column block, and so the device, of device `c`'s `i`-th transfer. -/
def tgt (c : Dev nD) (i : Fin 16) : Dev nD :=
  ⟨2 * ((c.val / 2 + 1 + i.val / 2) % 8) + i.val % 2, by
    have := Nat.mod_lt (c.val / 2 + 1 + i.val / 2) (by decide : 0 < 8); have := Nat.mod_lt i.val (by decide : 0 < 2)
    show _ < 16; omega⟩

/-- Device `c`'s `k`-th neighbour round the ring. -/
def nbr (c : Dev nD) (k : Fin 16) : Dev nD := ⟨(c.val + k.val) % 16, Nat.mod_lt _ (by decide)⟩

theorem tgt_bijective (c : Dev nD) : Function.Bijective (tgt c) := by
  rw [Fintype.bijective_iff_injective_and_card]; exact ⟨by revert c; decide +kernel, rfl⟩
theorem chk_bijective (c : Dev nD) : Function.Bijective (chk c) := by
  rw [Fintype.bijective_iff_injective_and_card]; exact ⟨by revert c; decide +kernel, rfl⟩
theorem nbr_bijective (c : Dev nD) : Function.Bijective (nbr c) := by
  rw [Fintype.bijective_iff_injective_and_card]; exact ⟨by revert c; decide +kernel, rfl⟩

/-- The transfers' order as a permutation. -/
noncomputable def tgtE (c : Dev nD) : Fin 16 ≃ Dev nD := Equiv.ofBijective _ (tgt_bijective c)
/-- The chunks' order as a permutation. -/
noncomputable def chkE (c : Dev nD) : Fin 8 ≃ Fin 8 := Equiv.ofBijective _ (chk_bijective c)
/-- The signals' order as a permutation. -/
noncomputable def nbrE (c : Dev nD) : Fin 16 ≃ Dev nD := Equiv.ofBijective _ (nbr_bijective c)

theorem nbr_zero (c : Dev nD) : nbr c 0 = c := by revert c; decide
theorem nbr_ne (c : Dev nD) (k : Fin 16) (hk : k ≠ 0) : nbr c k ≠ c := by revert c k; decide

/-- What one conditional transfer's words compute: its condition, its send and receive semaphores, its landing slot,
    its column block and its device. -/
def SendFacts (i : Fin 16) (cond : Dev nD → BitVec 1) (oS oR : Dev nD → Fin 1 → Nat) (oB : Dev nD → Fin 3 → Nat)
    (oY : Dev nD → Fin 2 → Nat) : Prop :=
  ∀ c, (cond c = 1#1 ↔ tgt c i ≠ c) ∧ oS c = ![(tgt c i).val] ∧ oR c = ![c.val] ∧ oB c = ![c.val, 0, 0]
    ∧ oY c = ![0, 128 * (tgt c i).val]

instance (i cond oS oR oB oY) : Decidable (SendFacts i cond oS oR oB oY) := by unfold SendFacts; infer_instance

theorem send0 : SendFacts 0 k0_cond1 k0_off3 k0_off4 k0_off5 k0_off6 := by decide +kernel
theorem send1 : SendFacts 1 k0_cond2 k0_off7 k0_off8 k0_off9 k0_off10 := by decide +kernel
theorem send2 : SendFacts 2 k0_cond3 k0_off11 k0_off12 k0_off13 k0_off14 := by decide +kernel
theorem send3 : SendFacts 3 k0_cond4 k0_off15 k0_off16 k0_off17 k0_off18 := by decide +kernel
theorem send4 : SendFacts 4 k0_cond5 k0_off19 k0_off20 k0_off21 k0_off22 := by decide +kernel
theorem send5 : SendFacts 5 k0_cond6 k0_off23 k0_off24 k0_off25 k0_off26 := by decide +kernel
theorem send6 : SendFacts 6 k0_cond7 k0_off27 k0_off28 k0_off29 k0_off30 := by decide +kernel
theorem send7 : SendFacts 7 k0_cond8 k0_off31 k0_off32 k0_off33 k0_off34 := by decide +kernel
theorem send8 : SendFacts 8 k0_cond9 k0_off35 k0_off36 k0_off37 k0_off38 := by decide +kernel
theorem send9 : SendFacts 9 k0_cond10 k0_off39 k0_off40 k0_off41 k0_off42 := by decide +kernel
theorem send10 : SendFacts 10 k0_cond11 k0_off43 k0_off44 k0_off45 k0_off46 := by decide +kernel
theorem send11 : SendFacts 11 k0_cond12 k0_off47 k0_off48 k0_off49 k0_off50 := by decide +kernel
theorem send12 : SendFacts 12 k0_cond13 k0_off51 k0_off52 k0_off53 k0_off54 := by decide +kernel
theorem send13 : SendFacts 13 k0_cond14 k0_off55 k0_off56 k0_off57 k0_off58 := by decide +kernel
theorem send14 : SendFacts 14 k0_cond15 k0_off59 k0_off60 k0_off61 k0_off62 := by decide +kernel
theorem send15 : SendFacts 15 k0_cond16 k0_off63 k0_off64 k0_off65 k0_off66 := by decide +kernel

/-- The devices the transfers name. -/
theorem dev_send (c : Dev nD) :
    (k0_dev16 c = tgt c 0 ∧ k0_dev17 c = tgt c 1 ∧ k0_dev18 c = tgt c 2 ∧ k0_dev19 c = tgt c 3)
    ∧ (k0_dev20 c = tgt c 4 ∧ k0_dev21 c = tgt c 5 ∧ k0_dev22 c = tgt c 6 ∧ k0_dev23 c = tgt c 7)
    ∧ (k0_dev24 c = tgt c 8 ∧ k0_dev25 c = tgt c 9 ∧ k0_dev26 c = tgt c 10 ∧ k0_dev27 c = tgt c 11)
    ∧ (k0_dev28 c = tgt c 12 ∧ k0_dev29 c = tgt c 13 ∧ k0_dev30 c = tgt c 14 ∧ k0_dev31 c = tgt c 15) := by
  revert c; decide +kernel

/-- The devices the barrier signals name. -/
theorem dev_nbr (c : Dev nD) :
    (k0_dev1 c = nbr c 1 ∧ k0_dev2 c = nbr c 2 ∧ k0_dev3 c = nbr c 3 ∧ k0_dev4 c = nbr c 4 ∧ k0_dev5 c = nbr c 5)
    ∧ (k0_dev6 c = nbr c 6 ∧ k0_dev7 c = nbr c 7 ∧ k0_dev8 c = nbr c 8 ∧ k0_dev9 c = nbr c 9 ∧ k0_dev10 c = nbr c 10)
    ∧ (k0_dev11 c = nbr c 11 ∧ k0_dev12 c = nbr c 12 ∧ k0_dev13 c = nbr c 13 ∧ k0_dev14 c = nbr c 14 ∧ k0_dev15 c = nbr c 15) := by
  revert c; decide +kernel

/-- The weight's columns a chunk reads. -/
theorem off1_eq (c : Dev nD) (r : Fin 8) : k0_off1 c (BitVec.ofNat 32 r.val) = ![0, 256 * (chk c r).val] := by
  revert c r; decide +kernel
/-- The product's columns a chunk writes. -/
theorem off2_eq (c : Dev nD) (r : Fin 8) : k0_off2 c (BitVec.ofNat 32 r.val) = ![0, 256 * (chk c r).val] := by
  revert c r; decide +kernel
/-- The device's own column block. -/
theorem off67_eq (c : Dev nD) : k0_off67 c = ![0, 128 * c.val] := by revert c; decide +kernel
/-- The device's own rows of the result. -/
theorem off68_eq (c : Dev nD) : k0_off68 c = ![128 * c.val, 0] := by revert c; decide +kernel

/-- The word of the device's position along the mesh axis. -/
def posWord (c : Dev nD) : BitVec 32 := Scalar.remsi (Scalar.divsi (Dev.word c) 1#32) 16#32

/-- A receive or a send wait is skipped exactly at the device's own index. -/
theorem skip_iff (c p : Dev nD) :
    (Scalar.cmpi .ne ((Scalar.extui (Scalar.cmpi .ne (BitVec.ofNat 32 p.val) (posWord c)) : BitVec 32)) 0#32 = 1#1) ↔ p ≠ c := by
  revert c p; decide +kernel

end Cert.Scatter
-- ==== Proof.Protocol.lean ====
/-
# The protocol between the devices

Each device multiplies its rows of `x` by the whole weight, sixteen column blocks in all, and sends block `t` to
device `t`, into the landing slot that bears the sender's number. Three families of semaphores carry this:

* the barrier of device `c`: every other device `d` raises it once, handing `c` the right to write slot `c` of `d`;
* the send semaphore `(c, t)`: raised when block `t` has left device `c`, handing the block back;
* the receive semaphore `(c, p)`: raised when device `p`'s block has landed in slot `p` of device `c`, with its contents.

Each is used for one round. The semaphores `(c, c)` are never raised.
-/
module

public import proofs.«01_k».proof.Proof.Facts
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds of this protocol: a duty is named by the device that pays it. -/
abbrev UB : Type := Rounds.URounds (GSem nD τ sig) (Dev nD)
/-- The user algebra: the pipeline's rounds, this protocol's rounds, and the local copies' counters. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

variable (m : (ℓ : Loc nD τ sig) → Buf (Elt F) ℓ) (ρ : Dev nD → PrngReg)

/-! ## The memrefs -/

abbrev xH : Memref sig .tc .hbm S128x2048 .f32 := Memref.whole main_arg0
abbrev wH : Memref sig .tc .hbm S2048x2048 .f32 := Memref.whole main_arg1
abbrev oM : Memref sig .tc .vmem S2048x128 .f32 := Memref.whole cc0_stg0_0
abbrev xM : Memref sig .tc .vmem S128x2048 .f32 := Memref.whole cc0_scratch0
abbrev yM : Memref sig .tc .vmem S128x2048 .bf16 := Memref.whole cc0_scratch1
abbrev rM : Memref sig .tc .vmem S16x128x128 .bf16 := Memref.whole cc0_scratch2
abbrev wM : Memref sig .tc .vmem S2x2048x256 .f32 := Memref.whole cc0_scratch3

theorem inb_chunkH (k : Fin 8) : ∀ a, (![0, 256 * k.val] : Fin 2 → Nat) a + S2048x256.size a ≤ S2048x2048.size a := by revert k; decide
theorem inb_chunkY (k : Fin 8) : ∀ a, (![0, 256 * k.val] : Fin 2 → Nat) a + S128x256.size a ≤ S128x2048.size a := by revert k; decide
theorem inb_blkY (t : Dev nD) : ∀ a, (![0, 128 * t.val] : Fin 2 → Nat) a + S128x128.size a ≤ S128x2048.size a := by revert t; decide
theorem inb_rowsO (p : Dev nD) : ∀ a, (![128 * p.val, 0] : Fin 2 → Nat) a + S128x128.size a ≤ S2048x128.size a := by revert p; decide
theorem inb_slotR (p : Dev nD) : ∀ a, (![p.val, 0, 0] : Fin 3 → Nat) a + S1x128x128.size a ≤ S16x128x128.size a := by revert p; decide
theorem inb_slotW (b : Fin 2) : ∀ a, (![b.val, 0, 0] : Fin 3 → Nat) a + S1x2048x256.size a ≤ S2x2048x256.size a := by revert b; decide
theorem inb_half (h : Fin 2) : ∀ a, (![0, 128 * h.val] : Fin 2 → Nat) a + S128x128.size a ≤ S128x256.size a := by revert h; decide
theorem inb_sem (t : Dev nD) : ∀ a, (![t.val] : Fin 1 → Nat) a + S1.size a ≤ S16.size a := by revert t; decide

abbrev chunkHR (k : Fin 8) : Rect S2048x2048 := Rect.unit (s := S2048x2048) ![0, 256 * k.val] S2048x256.size (inb_chunkH k)
abbrev chunkYR (k : Fin 8) : Rect S128x2048 := Rect.unit (s := S128x2048) ![0, 256 * k.val] S128x256.size (inb_chunkY k)
abbrev blkYR (t : Dev nD) : Rect S128x2048 := Rect.unit (s := S128x2048) ![0, 128 * t.val] S128x128.size (inb_blkY t)
abbrev rowsOR (p : Dev nD) : Rect S2048x128 := Rect.unit (s := S2048x128) ![128 * p.val, 0] S128x128.size (inb_rowsO p)
abbrev slotRR (p : Dev nD) : Rect S16x128x128 := Rect.unit (s := S16x128x128) ![p.val, 0, 0] S1x128x128.size (inb_slotR p)
abbrev slotWR (b : Fin 2) : Rect S2x2048x256 := Rect.unit (s := S2x2048x256) ![b.val, 0, 0] S1x2048x256.size (inb_slotW b)
/-- Left or right half of a chunk of the product. -/
abbrev halfR (h : Fin 2) : Rect S128x256 := Rect.unit (s := S128x256) ![0, 128 * h.val] S128x128.size (inb_half h)

/-- A chunk of the weight in its array. -/
abbrev chunkH (k : Fin 8) : Memref sig .tc .hbm S2048x256 .f32 := wH.slice (chunkHR k) (fun _ => rfl)
/-- A chunk of the product. -/
abbrev chunkY (k : Fin 8) : Memref sig .tc .vmem S128x256 .bf16 := yM.slice (chunkYR k) (fun _ => rfl)
/-- A column block of the product. -/
abbrev blkY (t : Dev nD) : Memref sig .tc .vmem S128x128 .bf16 := yM.slice (blkYR t) (fun _ => rfl)
/-- A block of rows of the result. -/
abbrev rowsO (p : Dev nD) : Memref sig .tc .vmem S128x128 .f32 := oM.slice (rowsOR p) (fun _ => rfl)
/-- A landing slot. -/
abbrev slotR (p : Dev nD) : Memref sig .tc .vmem S128x128 .bf16 :=
  (rM.slice (slotRR p) (fun _ => rfl)).squeeze S128x128 squeezes_S1x128x128_S128x128
/-- A slot of the weight's double buffer. -/
abbrev slotW (b : Fin 2) : Memref sig .tc .vmem S2048x256 .f32 :=
  (wM.slice (slotWR b) (fun _ => rfl)).squeeze S2048x256 squeezes_S1x2048x256_S2048x256

/-! ## The semaphores -/

abbrev barS : Sem sig := barrier0
/-- The semaphores of the local copies: two for the weight's slots, one for `x`. -/
def copySem (k : Fin 3) : DmaSem sig := ⟨1 + k.val, by have := k.isLt; show _ < 36; omega⟩
def sendSem (t : Dev nD) : DmaSem sig := ⟨4 + t.val, by have : t.val < 16 := t.isLt; show _ < 36; omega⟩
def recvSem (p : Dev nD) : DmaSem sig := ⟨20 + p.val, by have : p.val < 16 := p.isLt; show _ < 36; omega⟩

theorem sem_copy0 : ((cc0_scratch4.slice (Rect.unit (s := S3) ![0] S1.size inb_S3_S1_0)).squeeze S_ squeezes_S1_S_).sem = copySem 0 := rfl
theorem sem_copy1 : ((cc0_scratch4.slice (Rect.unit (s := S3) ![1] S1.size inb_S3_S1_1)).squeeze S_ squeezes_S1_S_).sem = copySem 1 := rfl
theorem sem_copy2 : ((cc0_scratch4.slice (Rect.unit (s := S3) ![2] S1.size inb_S3_S1_2)).squeeze S_ squeezes_S1_S_).sem = copySem 2 := rfl

/-- The printed send semaphore is the family's. -/
theorem sem_send (t : Dev nD) (h) : ((cc0_scratch5.slice (Rect.unit (s := S16) ![t.val] S1.size h)).squeeze S_ squeezes_S1_S_).sem = sendSem t := by
  have : ∀ t : Dev nD, ((cc0_scratch5.slice (Rect.unit (s := S16) ![t.val] S1.size (inb_sem t))).squeeze S_ squeezes_S1_S_).sem = sendSem t := by decide +kernel
  exact this t
/-- The printed receive semaphore is the family's. -/
theorem sem_recv (t : Dev nD) (h) : ((cc0_scratch6.slice (Rect.unit (s := S16) ![t.val] S1.size h)).squeeze S_ squeezes_S1_S_).sem = recvSem t := by
  have : ∀ t : Dev nD, ((cc0_scratch6.slice (Rect.unit (s := S16) ![t.val] S1.size (inb_sem t))).squeeze S_ squeezes_S1_S_).sem = recvSem t := by decide +kernel
  exact this t

abbrev barCell (c : Dev nD) : GSem nD τ sig := ((c : Thread nD τ), .reg barS)
abbrev sendCell (c t : Dev nD) : GSem nD τ sig := ((c : Thread nD τ), .dma (sendSem t))
abbrev recvCell (c p : Dev nD) : GSem nD τ sig := ((c : Thread nD τ), .dma (recvSem p))

/-- The cells one device owns. -/
abbrev KI : Type := Unit ⊕ (Dev nD ⊕ Dev nD)
/-- Their semaphores. -/
abbrev ksem : KI → SemLoc sig
  | .inl _ => .reg barS
  | .inr (.inl t) => .dma (sendSem t)
  | .inr (.inr p) => .dma (recvSem p)
abbrev kcell (ck : Dev nD × KI) : GSem nD τ sig := ((ck.1 : Thread nD τ), ksem ck.2)

/-- What one block's landing adds to its semaphore. -/
abbrev N : ℕ := (slotR 0).view.dmaCredit
theorem N_pos : 0 < N := View.dmaCredit_pos _ (by decide)
theorem N_slot (p : Dev nD) : (slotR p).view.dmaCredit = N := rfl
theorem N_blk (t : Dev nD) : (blkY t).view.dmaCredit = N := rfl

/-! ## The contents -/

/-- A chunk of the product: the rows times the chunk of the weight, no less than zero, in the narrow format. -/
def chunkOf (x : Vec F S128x2048 .f32) (w : FVec F S2048x256 .f32) : FVec F S128x256 .bf16 :=
  k0_pay6 x w (constant S128x256 .f32 0x00000000#32)

/-- Device `c`'s rows of `x`. -/
def xOf (c : Dev nD) : S128x2048.Idx → Elt F .f32 := m ((c : Thread nD τ).loc main_arg0)
/-- A chunk of device `c`'s weight. -/
def wOf (c : Dev nD) (k : Fin 8) : S2048x256.Idx → Elt F .f32 :=
  (chunkH k).view.read (Elt F) (m ((c : Thread nD τ).loc main_arg1))
/-- A chunk of device `c`'s product. -/
def chunkVal (c : Dev nD) (k : Fin 8) : S128x256.Idx → Elt F .bf16 := chunkOf (xOf m c) (wOf m c k)

def chunkIx (t : Dev nD) : Fin 8 := ⟨t.val / 2, by have : t.val < 16 := t.isLt; omega⟩
def halfIx (t : Dev nD) : Fin 2 := ⟨t.val % 2, Nat.mod_lt _ (by decide)⟩

/-- Column block `t` of device `c`'s product. -/
def blkVal (c t : Dev nD) : S128x128.Idx → Elt F .bf16 := fun j => chunkVal m c (chunkIx t) ((halfR (halfIx t)).emb j)
/-- Block of rows `p` of device `c`'s result: column block `c` of device `p`'s product. -/
def rowsVal (c p : Dev nD) : S128x128.Idx → Elt F .f32 := k0_pay10 (blkVal m p c)

/-! ## The schedule -/

/-- A slot of the landing buffer, at some contents. -/
def slotAny (c p : Dev nD) : sProp 𝕄 := iprop(∃ X, owns (c : Thread nD τ) (slotR p) fullShare X)
/-- A slot of the landing buffer, holding its sender's block. -/
def slotGot (c p : Dev nD) : sProp 𝕄 := owns (c : Thread nD τ) (slotR p) fullShare (blkVal m p c)
/-- A column block of the product, computed. -/
def blkDone (c t : Dev nD) : sProp 𝕄 := owns (c : Thread nD τ) (blkY t) fullShare (blkVal m c t)

instance slotAny_storable (c p : Dev nD) : BI.Storable (upEmb : UEmb _ 𝕄) (slotAny (F := F) c p) := by unfold slotAny; infer_instance
instance slotGot_storable (c p : Dev nD) : BI.Storable (upEmb : UEmb _ 𝕄) (slotGot m c p) := by unfold slotGot; infer_instance
instance blkDone_storable (c t : Dev nD) : BI.Storable (upEmb : UEmb _ 𝕄) (blkDone m c t) := by unfold blkDone; infer_instance

/-- Which semaphore a DMA index names: a send, a receive, or neither. -/
def dmaKind (q : DmaSem sig) : Option (Dev nD ⊕ Dev nD) :=
  if h : 4 ≤ q.val ∧ q.val < 20 then some (.inl ⟨q.val - 4, by show _ < 16; omega⟩)
  else if h : 20 ≤ q.val ∧ q.val < 36 then some (.inr ⟨q.val - 20, by show _ < 16; omega⟩) else none

theorem dmaKind_send (t : Dev nD) : dmaKind (sendSem t) = some (.inl t) := by revert t; decide
theorem dmaKind_recv (p : Dev nD) : dmaKind (recvSem p) = some (.inr p) := by revert p; decide

/-- The duties of a cell in its one round. -/
def duties (g : GSem nD τ sig) : Finset (Dev nD) :=
  match g.2 with
  | .reg _ => Finset.univ.erase g.1.1
  | .dma q => match dmaKind q with
    | some (.inl t) => if t = g.1.1 then ∅ else {0}
    | some (.inr p) => if p = g.1.1 then ∅ else {0}
    | none => ∅

def amount (g : GSem nD τ sig) : ℕ := match g.2 with | .reg _ => 1 | .dma _ => N

def payload (g : GSem nD τ sig) (d : Dev nD) : sProp 𝕄 :=
  match g.2 with
  | .reg _ => slotAny d g.1.1
  | .dma q => match dmaKind q with
    | some (.inl t) => blkDone m g.1.1 t
    | some (.inr p) => slotGot m g.1.1 p
    | none => iprop(emp)

def Rd : Rounds.Schedule (GSem nD τ sig) (Dev nD) 𝕄 where
  duties g r := if r = 0 ∧ g.1.2 = .tc then duties g else ∅
  unitless _ := False
  amount g _ _ := amount g
  payload g _ d := payload m g d
  amount_pos g _ _ _ := by unfold amount; split; exacts [Nat.one_pos, N_pos]

instance Rd_payload_storable (g : GSem nD τ sig) (r : ℕ) (d : Dev nD) : BI.Storable (upEmb : UEmb _ 𝕄) ((Rd (F := F) m).payload g r d) := by
  show BI.Storable upEmb (payload m g d)
  unfold payload
  (repeat' split) <;> infer_instance

section Tables
variable (c t p d : Dev nD)

theorem duties_bar : (Rd (F := F) m).duties (barCell c) 0 = Finset.univ.erase c := by dsimp only [Rd]; exact if_pos ⟨rfl, rfl⟩
theorem duties_send (h : t ≠ c) : (Rd (F := F) m).duties (sendCell c t) 0 = {0} := by
  dsimp only [Rd]; rw [if_pos ⟨rfl, rfl⟩]; unfold duties; dsimp only; rw [dmaKind_send]; exact if_neg h
theorem duties_recv (h : p ≠ c) : (Rd (F := F) m).duties (recvCell c p) 0 = {0} := by
  dsimp only [Rd]; rw [if_pos ⟨rfl, rfl⟩]; unfold duties; dsimp only; rw [dmaKind_recv]; exact if_neg h
theorem duties_later (g : GSem nD τ sig) : ∀ r, 1 ≤ r → (Rd (F := F) m).duties g r = ∅ :=
  fun r hr => by dsimp only [Rd]; exact if_neg fun h => by omega
/-- A device's own send and receive semaphores have no duty at all. -/
theorem duties_send_self : ∀ r, 0 ≤ r → (Rd (F := F) m).duties (sendCell c c) r = ∅ := fun r _ => by
  dsimp only [Rd]; split
  · unfold duties; dsimp only; rw [dmaKind_send]; exact if_pos rfl
  · rfl
theorem duties_recv_self : ∀ r, 0 ≤ r → (Rd (F := F) m).duties (recvCell c c) r = ∅ := fun r _ => by
  dsimp only [Rd]; split
  · unfold duties; dsimp only; rw [dmaKind_recv]; exact if_pos rfl
  · rfl

theorem amount_bar : (Rd (F := F) m).amount (barCell c) 0 d = 1 := rfl
theorem amount_send : (Rd (F := F) m).amount (sendCell c t) 0 d = N := rfl
theorem amount_recv : (Rd (F := F) m).amount (recvCell c p) 0 d = N := rfl

theorem expect_bar : (Rd (F := F) m).expect (barCell c) 0 = 15 := by
  unfold Schedule.expect Schedule.amountOf
  rw [duties_bar, Finset.sum_congr rfl (fun d _ => amount_bar m c d), Finset.sum_const, Finset.card_erase_of_mem (Finset.mem_univ _)]
  rfl
theorem expect_send (h : t ≠ c) : (Rd (F := F) m).expect (sendCell c t) 0 = N := by
  unfold Schedule.expect Schedule.amountOf; rw [duties_send m c t h, Finset.sum_singleton, amount_send]
theorem expect_recv (h : p ≠ c) : (Rd (F := F) m).expect (recvCell c p) 0 = N := by
  unfold Schedule.expect Schedule.amountOf; rw [duties_recv m c p h, Finset.sum_singleton, amount_recv]

theorem payload_bar : (Rd (F := F) m).payload (barCell c) 0 d = slotAny d c := rfl
theorem payload_send : (Rd (F := F) m).payload (sendCell c t) 0 d = blkDone m c t := by
  show payload m (sendCell c t) d = _; unfold payload; dsimp only; rw [dmaKind_send]
theorem payload_recv : (Rd (F := F) m).payload (recvCell c p) 0 d = slotGot m c p := by
  show payload m (recvCell c p) d = _; unfold payload; dsimp only; rw [dmaKind_recv]

theorem rest_bar : bigSep ((Rd (F := F) m).duties (barCell c) 0 \ ∅) (fun d => (Rd (F := F) m).payload (barCell c) 0 d)
    = bigSep (Finset.univ.erase c) fun d => slotAny d c := by rw [Finset.sdiff_empty, duties_bar]; rfl
theorem rest_send (h : t ≠ c) : bigSep ((Rd (F := F) m).duties (sendCell c t) 0 \ ∅) (fun d => (Rd (F := F) m).payload (sendCell c t) 0 d)
    = blkDone m c t := by rw [Finset.sdiff_empty, duties_send m c t h, bigSep_singleton, payload_send]
theorem rest_recv (h : p ≠ c) : bigSep ((Rd (F := F) m).duties (recvCell c p) 0 \ ∅) (fun d => (Rd (F := F) m).payload (recvCell c p) 0 d)
    = slotGot m c p := by rw [Finset.sdiff_empty, duties_recv m c p h, bigSep_singleton, payload_recv]

end Tables

/-! ## What each device owes, and the levels -/

/-- What device `c` still owes when its signals up to `n₁` and its transfers up to `n₂` are made. -/
def O (c : Dev nD) (n₁ n₂ : ℕ) : CellTallies nD τ sig Unit :=
  (∑ i ∈ Finset.univ.filter (fun i : Fin 16 => n₂ ≤ i.val), if tgt c i = c then 0 else tallyAt (recvCell (tgt c i) c) () N)
    + ∑ k ∈ Finset.univ.filter (fun k : Fin 16 => n₁ ≤ k.val), tallyAt (barCell (nbr c k)) () 1

theorem filter_step (i : Fin 16) :
    (Finset.univ.filter fun j : Fin 16 => i.val ≤ j.val) = insert i (Finset.univ.filter fun j : Fin 16 => i.val + 1 ≤ j.val) := by
  revert i; decide

/-- The next signal, taken off. -/
theorem O_signal (c : Dev nD) (k : Fin 16) (n₂ : ℕ) : O c k.val n₂ = O c (k.val + 1) n₂ + tallyAt (barCell (nbr c k)) () 1 := by
  unfold O
  rw [filter_step k, Finset.sum_insert (by simp), add_assoc, add_comm (tallyAt _ _ _)]
/-- The next transfer, taken off. -/
theorem O_send (c : Dev nD) (i : Fin 16) (n₁ : ℕ) :
    O c n₁ i.val = O c n₁ (i.val + 1) + if tgt c i = c then 0 else tallyAt (recvCell (tgt c i) c) () N := by
  unfold O
  rw [filter_step i, Finset.sum_insert (by simp), add_assoc, add_comm (ite _ _ _)]
theorem O_end (c : Dev nD) : O c 16 16 = 0 := by
  unfold O
  rw [Finset.filter_false_of_mem (fun k _ => by have := k.isLt; omega)]
  exact add_zero _

def L (g : GSem nD τ sig) : Finset Unit := if g.1.2 = .tc then {()} else ∅
/-- Barriers below receives, everything else below both. -/
def lv (g : GSem nD τ sig) (_ : Unit) : ℕ :=
  match g.2 with
  | .reg _ => 1
  | .dma q => match dmaKind q with | some (.inr _) => 2 | _ => 0
theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c p : Dev nD) : lv (recvCell c p) () = 2 := by unfold lv; dsimp only; rw [dmaKind_recv]

theorem O_pos {c : Dev nD} {n₁ n₂ : ℕ} {g : GSem nD τ sig} {u : Unit} (h : 0 < O c n₁ n₂ g u) :
    (∃ p, g = recvCell p c) ∨ (n₁ < 16 ∧ ∃ d, g = barCell d) := by
  unfold O at h
  rw [Pi.add_apply, Finsupp.add_apply] at h
  rcases Nat.add_pos_iff_pos_or_pos.mp h with h | h <;> replace h := Nat.pos_iff_ne_zero.mp h
  · left
    rw [Finset.sum_apply, Finsupp.finset_sum_apply] at h
    obtain ⟨i, -, hi⟩ := Finset.exists_ne_zero_of_sum_ne_zero h
    split at hi
    · exact absurd rfl hi
    · rw [tallyAt_apply] at hi
      by_contra hn
      rw [if_neg (fun h' => hn ⟨_, h'.1⟩)] at hi; exact hi rfl
  · right
    rw [Finset.sum_apply, Finsupp.finset_sum_apply] at h
    obtain ⟨i, hm, hi⟩ := Finset.exists_ne_zero_of_sum_ne_zero h
    refine ⟨lt_of_le_of_lt (Finset.mem_filter.mp hm).2 i.isLt, ?_⟩
    rw [tallyAt_apply] at hi
    by_contra hn
    rw [if_neg (fun h' => hn ⟨_, h'.1⟩)] at hi; exact hi rfl

/-- A wait on a semaphore of the lowest level is allowed whatever is owed. -/
theorem mayWait_low (c : Dev nD) (sm : SemLoc sig) (hl : lv ((c : Thread nD τ), sm) () = 0) (n₁ n₂ : ℕ) :
    (levAts L lv : sProp 𝕄) ⊢ MayWait (c : Thread nD τ) sm () (O c n₁ n₂) := by
  refine MayOwe.of_cut (L := L) (lev := lv) 0 (fun p hp => by rw [Finset.mem_singleton.mp hp, L_tc]; exact Finset.mem_singleton_self _)
      (fun g u hg => by rcases O_pos hg with ⟨p, rfl⟩ | ⟨-, d, rfl⟩ <;> exact Finset.mem_singleton_self _)
      (fun p hp => by rw [Finset.mem_singleton.mp hp]; exact hl.le)
      (fun g u hg => by
        rcases O_pos hg with ⟨p, rfl⟩ | ⟨-, d, rfl⟩
        · show 0 < lv (recvCell p c) (); rw [lv_recv]; decide
        · exact Nat.one_pos)

/-- The wait on the barrier is allowed once every signal is made. -/
theorem mayWait_bar (c : Dev nD) (n₂ : ℕ) :
    (levAts L lv : sProp 𝕄) ⊢ MayWait (c : Thread nD τ) (.reg barS) () (O c 16 n₂) := by
  refine MayOwe.of_cut (L := L) (lev := lv) 1 (fun p hp => by rw [Finset.mem_singleton.mp hp, L_tc]; exact Finset.mem_singleton_self _)
      (fun g u hg => by rcases O_pos hg with ⟨p, rfl⟩ | ⟨-, d, rfl⟩ <;> exact Finset.mem_singleton_self _)
      (fun p hp => by rw [Finset.mem_singleton.mp hp]; exact le_rfl)
      (fun g u hg => by
        rcases O_pos hg with ⟨p, rfl⟩ | ⟨h, -⟩
        · show 1 < lv (recvCell p c) (); rw [lv_recv]; decide
        · exact absurd h (Nat.lt_irrefl _))

end Cert.Scatter
-- ==== Proof.Views.lean ====
/-
# Owned blocks

The rules for one operation, told for memory held as blocks at known contents, and the few ways a block is cut or joined.
-/
module

public import proofs.«01_k».proof.Proof.Protocol

@[expose] public section

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- What a program at a device's core does. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Ops
variable (c : Dev nD) {α : Type}
variable {cs : CoreSpace} {s : Shape} {e : EltTy}

/-- Loading an owned block reads its contents. -/
theorem wp_load_owns {mm : Memref sig .tc cs s e} {r : Rect s} (hr : ∀ a, r.stride a = 1) {hl : mm.view.LoadsAt r.toLoadRect}
    {k : (r.shape.Idx → Elt F e) → Prog (TpuEff nD τ sig (Elt F) Λ₀ .tc) α} {q : PosShare TreeShare} {X : r.shape.Idx → Elt F e} {Q : α → sProp 𝕄} :
    (owns (c : Thread nD τ) (mm.slice r hr) q X : sProp 𝕄)
      ⊢ iprop((owns (c : Thread nD τ) (mm.slice r hr) q X -∗ run c (k X) Q) -∗ run c (.op (.load mm r.toLoadRect hl) k) Q) := by
  unfold owns
  iintro ⟨%f, %hf, H⟩ Hk
  iapply (wp_load_rect 𝒱₀ (c : Thread nD τ) none Set.univ (m := mm) (r := r) (q := q) (f := f) (S := (mm.slice r hr).view.set) (Finset.Subset.refl _)) $$ H
  iintro H
  rw [show (mm.access r).read (Elt F) f = X from hf]
  iapply Hk
  iexists f
  isplitr
  · ipureintro; exact hf
  · iexact H

/-- Storing over an owned block leaves what was stored. -/
theorem wp_store_owns {mm : Memref sig .tc cs s e} {r : Rect s} (hr : ∀ a, r.stride a = 1) {w : r.shape.Idx → Elt F e}
    {hx : (mm.access r).Stores Finset.univ} {hm : (Finset.univ : Finset r.shape.Idx) = Finset.univ ∨ ∀ a, r.stride a = 1}
    {k : PUnit → Prog (TpuEff nD τ sig (Elt F) Λ₀ .tc) α} {X : r.shape.Idx → Elt F e} {Q : α → sProp 𝕄} :
    (owns (c : Thread nD τ) (mm.slice r hr) fullShare X : sProp 𝕄)
      ⊢ iprop((owns (c : Thread nD τ) (mm.slice r hr) fullShare w -∗ run c (k ⟨⟩) Q)
          -∗ run c (.op (.store mm r w Finset.univ hx hm) k) Q) := by
  unfold owns
  iintro ⟨%f, %hf, H⟩ Hk
  iapply (wp_store 𝒱₀ (c : Thread nD τ) none Set.univ (m := mm) (r := r) (w := w) (f := f) (S := (mm.slice r hr).view.set) (Finset.Subset.refl _)) $$ H
  iintro H
  iapply Hk
  iexists ((mm.access r).write (Elt F) f w Finset.univ)
  isplitr
  · ipureintro
    exact View.read_write_univ (v := mm.access r) ..
  · iexact H

end Ops

/-- A block and the block without its unit axes hold the same, read through either shape. -/
theorem owns_squeeze (c : Dev nD) {sp : Space} {s s' : Shape} {e : EltTy} (mm : Memref sig .tc sp s e) (h : s.Squeezes s')
    (hc : s.ShapeCasts s') (q : PosShare TreeShare) (X : s.Idx → Elt F e) :
    (owns (c : Thread nD τ) mm q X : sProp 𝕄) ⊢ owns (c : Thread nD τ) (mm.squeeze s' h) q (shapeCast s' X hc) := by
  unfold owns
  iintro ⟨%f, %hf, H⟩
  iexists f
  isplitr
  · ipureintro; subst hf; rfl
  · rw [show (mm.squeeze s' h).view.set = mm.view.set from View.set_reshape ..]
    iexact H

theorem owns_unsqueeze (c : Dev nD) {sp : Space} {s s' : Shape} {e : EltTy} (mm : Memref sig .tc sp s e) (h : s.Squeezes s')
    (hc : s.ShapeCasts s') (q : PosShare TreeShare) (X : s'.Idx → Elt F e) :
    (owns (c : Thread nD τ) (mm.squeeze s' h) q X : sProp 𝕄) ⊢ iprop(∃ Y, ⌜shapeCast s' Y hc = X⌝ ∗ owns (c : Thread nD τ) mm q Y) := by
  unfold owns
  iintro ⟨%f, %hf, H⟩
  iexists (mm.view.read (Elt F) f)
  isplitr
  · ipureintro; subst hf; rfl
  · iexists f
    isplitr
    · ipureintro; rfl
    · rw [show (mm.squeeze s' h).view.set = mm.view.set from View.set_reshape ..]
      iexact H

/-- A block named by an offset is the block named by an equal one. -/
theorem owns_off (c : Dev nD) {sp : Space} {s : Shape} {e : EltTy} (mm : Memref sig .tc sp s e) {off off' size : Fin s.rank → ℕ} (h : off = off')
    (p : ∀ a, off a + size a ≤ s.size a) (p' : ∀ a, off' a + size a ≤ s.size a) (hs hs') (q : PosShare TreeShare)
    (X : (Shape.Idx ⟨s.rank, size⟩) → Elt F e) :
    (owns (c : Thread nD τ) (mm.slice (Rect.unit off size p) hs) q X : sProp 𝕄)
      = owns (c : Thread nD τ) (mm.slice (Rect.unit off' size p') hs') q X := by subst h; rfl

/-! ## Cutting and joining -/

theorem half_disj : ∀ h h' : Fin 2, h ≠ h' → Disjoint (halfR h).set (halfR h').set := by
  intro h h' hn
  refine Rect.disjoint_of_separated _ _ 1 ?_
  revert h h'; decide

theorem half_cov : Finset.univ.biUnion (fun h : Fin 2 => (halfR h).set) = Finset.univ := by
  ext i
  simp only [Finset.mem_biUnion, Finset.mem_univ, true_and, iff_true, Rect.mem_set_unit, Fin.forall_fin_two]
  have h1 : (i 1).val < 256 := (i 1).isLt
  have h0 : (i 0).val < 128 := (i 0).isLt
  refine ⟨⟨(i 1).val / 128, by omega⟩, ⟨Nat.zero_le _, ?_⟩, ?_, ?_⟩
  · show (i 0).val < 0 + 128; omega
  · show 128 * ((i 1).val / 128) ≤ (i 1).val; omega
  · show (i 1).val < 128 * ((i 1).val / 128) + 128; omega

theorem chunkH_disj : ∀ k k' : Fin 8, k ≠ k' → Disjoint (chunkHR k).set (chunkHR k').set := by
  intro k k' hn
  refine Rect.disjoint_of_separated _ _ 1 ?_
  revert k k'; decide

theorem chunkH_cov : Finset.univ.biUnion (fun k : Fin 8 => (chunkHR k).set) = Finset.univ := by
  ext i
  simp only [Finset.mem_biUnion, Finset.mem_univ, true_and, iff_true, Rect.mem_set_unit, Fin.forall_fin_two]
  have h1 : (i 1).val < 2048 := (i 1).isLt
  have h0 : (i 0).val < 2048 := (i 0).isLt
  refine ⟨⟨(i 1).val / 256, by omega⟩, ⟨Nat.zero_le _, ?_⟩, ?_, ?_⟩
  · show (i 0).val < 0 + 2048; omega
  · show 256 * ((i 1).val / 256) ≤ (i 1).val; omega
  · show (i 1).val < 256 * ((i 1).val / 256) + 256; omega

theorem chunkY_disj : ∀ k k' : Fin 8, k ≠ k' → Disjoint (chunkYR k).set (chunkYR k').set := by
  intro k k' hn
  refine Rect.disjoint_of_separated _ _ 1 ?_
  revert k k'; decide

theorem chunkY_cov : Finset.univ.biUnion (fun k : Fin 8 => (chunkYR k).set) = Finset.univ := by
  ext i
  simp only [Finset.mem_biUnion, Finset.mem_univ, true_and, iff_true, Rect.mem_set_unit, Fin.forall_fin_two]
  have h1 : (i 1).val < 2048 := (i 1).isLt
  have h0 : (i 0).val < 128 := (i 0).isLt
  refine ⟨⟨(i 1).val / 256, by omega⟩, ⟨Nat.zero_le _, ?_⟩, ?_, ?_⟩
  · show (i 0).val < 0 + 128; omega
  · show 256 * ((i 1).val / 256) ≤ (i 1).val; omega
  · show (i 1).val < 256 * ((i 1).val / 256) + 256; omega

theorem blkY_disj : ∀ t t' : Dev nD, t ≠ t' → Disjoint (blkYR t).set (blkYR t').set := by
  intro k k' hn
  refine Rect.disjoint_of_separated _ _ 1 ?_
  revert k k'; decide

theorem blkY_cov : Finset.univ.biUnion (fun t : Dev nD => (blkYR t).set) = Finset.univ := by
  ext i
  simp only [Finset.mem_biUnion, Finset.mem_univ, true_and, iff_true, Rect.mem_set_unit, Fin.forall_fin_two]
  have h1 : (i 1).val < 2048 := (i 1).isLt
  have h0 : (i 0).val < 128 := (i 0).isLt
  refine ⟨(⟨(i 1).val / 128, by omega⟩ : Fin 16), ⟨Nat.zero_le _, ?_⟩, ?_, ?_⟩
  · show (i 0).val < 0 + 128; omega
  · show 128 * ((i 1).val / 128) ≤ (i 1).val; omega
  · show (i 1).val < 128 * ((i 1).val / 128) + 128; omega

theorem rowsO_disj : ∀ t t' : Dev nD, t ≠ t' → Disjoint (rowsOR t).set (rowsOR t').set := by
  intro k k' hn
  refine Rect.disjoint_of_separated _ _ 0 ?_
  revert k k'; decide

theorem rowsO_cov : Finset.univ.biUnion (fun t : Dev nD => (rowsOR t).set) = Finset.univ := by
  ext i
  simp only [Finset.mem_biUnion, Finset.mem_univ, true_and, iff_true, Rect.mem_set_unit, Fin.forall_fin_two]
  have h1 : (i 1).val < 128 := (i 1).isLt
  have h0 : (i 0).val < 2048 := (i 0).isLt
  refine ⟨(⟨(i 0).val / 128, by omega⟩ : Fin 16), ⟨?_, ?_⟩, Nat.zero_le _, ?_⟩
  · show 128 * ((i 0).val / 128) ≤ (i 0).val; omega
  · show (i 0).val < 128 * ((i 0).val / 128) + 128; omega
  · show (i 1).val < 0 + 128; omega

theorem slotR_disj : ∀ t t' : Dev nD, t ≠ t' → Disjoint (slotRR t).set (slotRR t').set := by
  intro k k' hn
  refine Rect.disjoint_of_separated _ _ 0 ?_
  revert k k'; decide

theorem slotR_cov : Finset.univ.biUnion (fun t : Dev nD => (slotRR t).set) = Finset.univ := by
  ext i
  simp only [Finset.mem_biUnion, Finset.mem_univ, true_and, iff_true, Rect.mem_set_unit, Fin.forall_fin_succ, Fin.forall_fin_zero_pi]
  have h0 : (i 0).val < 16 := (i 0).isLt
  have h1 : (i 1).val < 128 := (i 1).isLt
  have h2 : (i 2).val < 128 := (i 2).isLt
  refine ⟨(⟨(i 0).val, h0⟩ : Fin 16), ⟨?_, ?_⟩, ⟨Nat.zero_le _, ?_⟩, ⟨Nat.zero_le _, ?_⟩, fun a => a.elim0⟩
  · show (i 0).val ≤ (i 0).val; omega
  · show (i 0).val < (i 0).val + 1; omega
  · show (i 1).val < 0 + 128; omega
  · show (i 2).val < 0 + 128; omega

theorem slotW_disj : ∀ t t' : Fin 2, t ≠ t' → Disjoint (slotWR t).set (slotWR t').set := by
  intro k k' hn
  refine Rect.disjoint_of_separated _ _ 0 ?_
  revert k k'; decide

theorem slotW_cov : Finset.univ.biUnion (fun t : Fin 2 => (slotWR t).set) = Finset.univ := by
  ext i
  simp only [Finset.mem_biUnion, Finset.mem_univ, true_and, iff_true, Rect.mem_set_unit, Fin.forall_fin_succ, Fin.forall_fin_zero_pi]
  have h0 : (i 0).val < 2 := (i 0).isLt
  have h1 : (i 1).val < 2048 := (i 1).isLt
  have h2 : (i 2).val < 256 := (i 2).isLt
  refine ⟨(⟨(i 0).val, h0⟩ : Fin 2), ⟨?_, ?_⟩, ⟨Nat.zero_le _, ?_⟩, ⟨Nat.zero_le _, ?_⟩, fun a => a.elim0⟩
  · show (i 0).val ≤ (i 0).val; omega
  · show (i 0).val < (i 0).val + 1; omega
  · show (i 1).val < 0 + 2048; omega
  · show (i 2).val < 0 + 256; omega

/-- The device whose block is half `h` of chunk `k`. -/
def pairIx (k : Fin 8) (h : Fin 2) : Dev nD := ⟨2 * k.val + h.val, by have := k.isLt; have := h.isLt; show _ < 16; omega⟩
theorem chunkIx_pairIx (k : Fin 8) (h : Fin 2) : chunkIx (pairIx k h) = k := by revert k h; decide
theorem halfIx_pairIx (k : Fin 8) (h : Fin 2) : halfIx (pairIx k h) = h := by revert k h; decide
/-- Send `2r` goes to the left half of the chunk computed `r`-th, send `2r + 1` to the right half. -/
theorem tgt_pair (c : Dev nD) (r : Fin 8) (h : Fin 2) (i : Fin 16) (hi : i.val = 2 * r.val + h.val) : tgt c i = pairIx (chk c r) h := by
  revert c r h i; decide

/-- Half a chunk of the product is a column block. -/
theorem half_blk (k : Fin 8) (h : Fin 2) : ((chunkY k).slice (halfR h) (fun _ => rfl)).view.emb = (blkY (pairIx k h)).view.emb := by
  apply Function.Embedding.ext
  intro j
  funext a
  refine Fin.ext ?_
  change Fin 2 at a
  revert a
  refine Fin.forall_fin_two.mpr ⟨?_, ?_⟩
  · show 0 + 1 * (0 + 1 * (j 0).val) = 0 + 1 * (j 0).val; omega
  · show 256 * k.val + 1 * (128 * h.val + 1 * (j 1).val) = 128 * (2 * k.val + h.val) + 1 * (j 1).val; omega

theorem owns_half (c : Dev nD) (k : Fin 8) (h : Fin 2) (X : S128x128.Idx → Elt F .bf16) :
    (owns (c : Thread nD τ) ((chunkY k).slice (halfR h) (fun _ => rfl)) fullShare X : sProp 𝕄) ⊢ owns (c : Thread nD τ) (blkY (pairIx k h)) fullShare X := by
  unfold owns
  iintro ⟨%f, %hf, H⟩
  iexists f
  isplitr
  · ipureintro
    rw [← hf]
    funext j
    show f ((blkY (pairIx k h)).view.emb j) = f (((chunkY k).slice (halfR h) (fun _ => rfl)).view.emb j)
    rw [half_blk]
  · rw [show (blkY (pairIx k h)).view.set = ((chunkY k).slice (halfR h) (fun _ => rfl)).view.set from by
      unfold View.set; rw [half_blk]]
    iexact H

/-- A computed chunk is its two computed column blocks. -/
theorem chunk_blks (m : (ℓ : Loc nD τ sig) → Buf (Elt F) ℓ) (c : Dev nD) (k : Fin 8) :
    (owns (c : Thread nD τ) (chunkY k) fullShare (chunkVal m c k) : sProp 𝕄)
      ⊢ iprop(blkDone m c (pairIx k 0) ∗ blkDone m c (pairIx k 1)) := by
  refine (owns_rects (c : Thread nD τ) (chunkY k) fullShare halfR (fun _ _ => rfl) half_disj half_cov (chunkVal m c k)).trans ?_
  refine (bigSep_mono fun h _ => owns_half c k h _).trans ?_
  have hv : ∀ h : Fin 2, (fun j => chunkVal m c k ((halfR h).emb j)) = blkVal m c (pairIx k h) := fun h => by
    funext j; unfold blkVal; rw [chunkIx_pairIx, halfIx_pairIx]
  rw [bigSep_univ_two, hv 0, hv 1]
  exact Idealize.SL.BI.Entails.refl _

/-- A fresh chunk, its contents unknown. -/
def chunkAny (c : Dev nD) (k : Fin 8) : sProp 𝕄 := iprop(∃ X, owns (c : Thread nD τ) (chunkY k) fullShare X)
/-- A slot of the weight's double buffer, its contents unknown. -/
def slotWAny (c : Dev nD) (b : Fin 2) : sProp 𝕄 := iprop(∃ X, owns (c : Thread nD τ) (slotW b) fullShare X)
/-- A block of rows of the result, its contents unknown. -/
def rowsAny (c p : Dev nD) : sProp 𝕄 := iprop(∃ X, owns (c : Thread nD τ) (rowsO p) fullShare X)

/-- A buffer at known contents, cut along rectangles that tile it, is a family of blocks at some contents. -/
theorem split_any (c : Dev nD) {T : Type} [Fintype T] [DecidableEq T] {sp : Space} {s : Shape} {e : EltTy} (mm : Memref sig .tc sp s e)
    (r : T → Rect s) (hr : ∀ t a, (r t).stride a = 1) (hd : ∀ t t', t ≠ t' → Disjoint (r t).set (r t').set)
    (hcov : Finset.univ.biUnion (fun t => (r t).set) = Finset.univ) (X : s.Idx → Elt F e) :
    (owns (c : Thread nD τ) mm fullShare X : sProp 𝕄)
      ⊢ bigSep Finset.univ fun t => iprop(∃ Y, owns (c : Thread nD τ) (mm.slice (r t) (hr t)) fullShare Y) := by
  refine (owns_rects (c : Thread nD τ) mm fullShare r hr hd hcov X).trans (bigSep_mono fun t _ => ?_)
  show (owns (c : Thread nD τ) (mm.slice (r t) (hr t)) fullShare (fun j => X ((r t).emb j)) : sProp 𝕄) ⊢ iprop(∃ Y, owns (c : Thread nD τ) (mm.slice (r t) (hr t)) fullShare Y)
  iintro H
  iexists _
  iexact H

/-- Pieces of one buffer at some contents are their union at some contents. -/
theorem join_any {T : Type} [DecidableEq T] (ℓ : Loc nD τ sig) (f₀ : Buf (Elt F) ℓ) (A : T → Finset (Idx ℓ)) (hd : ∀ t t', t ≠ t' → Disjoint (A t) (A t'))
    (S : Finset T) :
    bigSep S (fun t => iprop(∃ f, ℓ ↦[A t]{fullShare} f)) ⊢ (iprop(∃ f, ℓ ↦[S.biUnion A]{fullShare} f) : sProp 𝕄) := by
  classical
  induction S using Finset.induction_on with
  | empty =>
    rw [bigSep_empty, Finset.biUnion_empty]
    iintro -
    iexists f₀
    rw [pointsTo_empty]
    iempintro
  | insert t S ht ih =>
    rw [show bigSep (insert t S) (fun t => iprop(∃ f, ℓ ↦[A t]{fullShare} f))
      = (iprop((∃ f, ℓ ↦[A t]{fullShare} f) ∗ bigSep S fun t => iprop(∃ f, ℓ ↦[A t]{fullShare} f)) : sProp 𝕄) from bigSep_insert ht]
    iintro ⟨⟨%f, Hf⟩, HS⟩
    ihave HS := ih $$ HS
    icases HS with ⟨%g, HS⟩
    iexists ((S.biUnion A).piecewise g f)
    rw [Finset.biUnion_insert]
    iapply (pointsTo_join ((Finset.disjoint_biUnion_right _ _ _).mpr fun t' ht' => hd t t' fun h => ht (h ▸ ht')))
    isplitl [Hf] <;> iassumption

/-- Pieces of one buffer at some contents that reach every index are the buffer at some contents. -/
theorem join_all {T : Type} [Fintype T] [DecidableEq T] (ℓ : Loc nD τ sig) (f₀ : Buf (Elt F) ℓ) (A : T → Finset (Idx ℓ)) (hd : ∀ t t', t ≠ t' → Disjoint (A t) (A t'))
    (hc : ∀ i, ∃ t, i ∈ A t) :
    bigSep Finset.univ (fun t => iprop(∃ f, ℓ ↦[A t]{fullShare} f)) ⊢ (iprop(∃ f, ℓ ↦{fullShare} f) : sProp 𝕄) := by
  refine (join_any ℓ f₀ A hd Finset.univ).trans ?_
  rw [show Finset.univ.biUnion A = Finset.univ from by
    ext i; simp only [Finset.mem_biUnion, Finset.mem_univ, true_and, iff_true]; exact hc i]

/-- Blocks that tile a buffer, at some contents, are the buffer at some contents. -/
theorem join_blocks (c : Dev nD) {T : Type} [Fintype T] [DecidableEq T] (b : Ref sig .tc) (r : T → Rect b.ty.shape)
    (hd : ∀ t t', t ≠ t' → Disjoint (r t).set (r t').set)
    (hcov : Finset.univ.biUnion (fun t => (r t).set) = Finset.univ) :
    bigSep Finset.univ (fun t => iprop(∃ f, (c : Thread nD τ).loc b ↦[((View.whole b).slice (r t)).set]{fullShare} f))
      ⊢ (iprop(∃ f, (c : Thread nD τ).loc b ↦{fullShare} f) : sProp 𝕄) := by
  refine join_all ((c : Thread nD τ).loc b) (fun _ => Classical.choice inferInstance) _ (fun t t' h => ?_) (fun i => ?_)
  · rw [View.set_slice, View.set_slice]; exact (Finset.disjoint_map _).mpr (hd t t' h)
  · have hi : i ∈ Finset.univ.biUnion (fun t => (r t).set) := by rw [hcov]; exact Finset.mem_univ _
    obtain ⟨t, -, ht⟩ := Finset.mem_biUnion.mp hi
    exact ⟨t, (Finset.ext_iff.mp (View.set_slice (View.whole b) (r t)) i).mpr (Finset.mem_map.mpr ⟨i, ht, rfl⟩)⟩

end Cert.Scatter
-- ==== Proof.Steps.lean ====
/-
# The steps of a device

One lemma for each kind of step the kernel repeats: a signal to a neighbour's barrier, a local copy started and awaited, a chunk of
the product computed, a column block sent, a block received and unpacked, a send awaited.
-/
module

public import proofs.«01_k».proof.Proof.Views

@[expose] public section

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families consumed and produced in order -/

section Families
variable {n : ℕ}

/-- The members of a family not yet reached. -/
def Todo (P : Fin n → sProp 𝕄) (j : ℕ) : sProp 𝕄 := bigSep (Finset.univ.filter fun i : Fin n => j ≤ i.val) P
/-- The members of a family already passed. -/
def Done (P : Fin n → sProp 𝕄) (j : ℕ) : sProp 𝕄 := bigSep (Finset.univ.filter fun i : Fin n => i.val < j) P

theorem todo_take (P : Fin n → sProp 𝕄) (i : Fin n) : Todo P i.val = iprop(P i ∗ Todo P (i.val + 1)) := by
  unfold Todo
  rw [show (Finset.univ.filter fun j : Fin n => i.val ≤ j.val) = insert i (Finset.univ.filter fun j : Fin n => i.val + 1 ≤ j.val) from by
    ext j; simp only [Finset.mem_filter, Finset.mem_univ, true_and, Finset.mem_insert, Fin.ext_iff]; omega]
  exact bigSep_insert (by simp)
theorem done_put (P : Fin n → sProp 𝕄) (i : Fin n) : Done P (i.val + 1) = iprop(P i ∗ Done P i.val) := by
  unfold Done
  rw [show (Finset.univ.filter fun j : Fin n => j.val < i.val + 1) = insert i (Finset.univ.filter fun j : Fin n => j.val < i.val) from by
    ext j; simp only [Finset.mem_filter, Finset.mem_univ, true_and, Finset.mem_insert, Fin.ext_iff]; omega]
  exact bigSep_insert (by simp)
theorem todo_zero (P : Fin n → sProp 𝕄) : Todo P 0 = bigSep Finset.univ P := by
  unfold Todo; rw [Finset.filter_true_of_mem fun i _ => Nat.zero_le _]
theorem done_zero (P : Fin n → sProp 𝕄) : Done P 0 = iprop(emp) := by
  unfold Done; rw [Finset.filter_false_of_mem fun i _ => Nat.not_lt_zero _]; exact bigSep_empty
theorem done_all (P : Fin n → sProp 𝕄) : Done P n = bigSep Finset.univ P := by
  unfold Done; rw [Finset.filter_true_of_mem fun i _ => i.isLt]

end Families

/-! ## The shared facts -/

variable (K : Dev nD × KI → ℕ)

/-- What every device knows throughout: the cells' invariants, that each has begun, and the levels. -/
def records : sProp 𝕄 :=
  iprop((bigSep Finset.univ fun ck : Dev nD × KI => cellInv ER (Rd m) (K ck) (kcell ck))
    ∗ (bigSep Finset.univ fun ck : Dev nD × KI => reached ER (kcell ck) 0) ∗ levAts L lv)

instance records_persistent : BI.Persistent (records m K) := by unfold records; infer_instance

theorem inv_at (ck : Dev nD × KI) : (records m K : sProp 𝕄) ⊢ cellInv ER (Rd m) (K ck) (kcell ck) := by
  unfold records
  iintro ⟨H, -, -⟩
  iapply (show (bigSep Finset.univ fun ck : Dev nD × KI => (cellInv ER (Rd m) (K ck) (kcell ck) : sProp 𝕄)) ⊢ cellInv ER (Rd m) (K ck) (kcell ck)
    from bigSep_elim (Finset.mem_univ ck))
  iexact H
theorem reached_at (ck : Dev nD × KI) : (records m K : sProp 𝕄) ⊢ reached ER (kcell ck) 0 := by
  unfold records
  iintro ⟨-, H, -⟩
  iapply (show (bigSep Finset.univ fun ck : Dev nD × KI => (reached ER (kcell ck) 0 : sProp 𝕄)) ⊢ reached ER (kcell ck) 0
    from bigSep_elim (Finset.mem_univ ck))
  iexact H
set_option maxRecDepth 8000 in
theorem levels_at : (records m K : sProp 𝕄) ⊢ levAts L lv := by
  unfold records
  iintro ⟨-, -, H⟩
  iexact H

/-- The debt of a device when its signals up to `n₁` and its transfers up to `n₂` are made. -/
def Ow (c : Dev nD) (n₁ n₂ : ℕ) : sProp 𝕄 := iprop(∃ W, owes (c : Thread nD τ) (O c n₁ n₂) W)

set_option maxRecDepth 8000 in
/-- The wait on the barrier is allowed once every signal is made. -/
theorem bar_allowed (c : Dev nD) (n₂ : ℕ) : (records m K : sProp 𝕄) ⊢ MayWait (c : Thread nD τ) (.reg barS) () (O c 16 n₂) :=
  (levels_at m K).trans (mayWait_bar c n₂)
set_option maxRecDepth 8000 in
/-- A wait at the lowest level is allowed always. -/
theorem low_allowed (c : Dev nD) (sm : SemLoc sig) (hl : lv ((c : Thread nD τ), sm) () = 0) (n₁ n₂ : ℕ) :
    (records m K : sProp 𝕄) ⊢ MayWait (c : Thread nD τ) sm () (O c n₁ n₂) :=
  (levels_at m K).trans (mayWait_low c sm hl n₁ n₂)

theorem lv_copy (c : Dev nD) (b : Fin 3) : lv ((c : Thread nD τ), .dma (copySem b)) () = 0 := by
  revert b; show ∀ b : Fin 3, _; unfold lv; dsimp only; decide
theorem lv_send (c t : Dev nD) : lv (sendCell c t) () = 0 := by unfold lv; dsimp only; rw [dmaKind_send]

variable (c : Dev nD) {α : Type}

/-! ## Signals -/

/-- What a signal takes: the right to raise the neighbour's barrier, and the slot handed over. -/
def SigTok (k : Fin 16) : sProp 𝕄 := iprop(dutyTok ER (barCell (nbr c k)) 0 c ∗ slotAny c (nbr c k))

theorem signal_step (k : Fin 16) (hk : k ≠ 0) (n₂ : ℕ) (n : Dev nD) (hn : n = nbr c k) {cont : PUnit → Prog (TpuEff nD τ sig (Elt F) Λ₀ .tc) α} {Q : α → sProp 𝕄} :
    iprop(records m K ∗ Ow c k.val n₂ ∗ Todo (SigTok (F := F) c) k.val)
      ⊢ iprop(((Ow c (k.val + 1) n₂ ∗ Todo (SigTok (F := F) c) (k.val + 1)) -∗ run c (cont ⟨⟩) Q)
          -∗ run c (.op (.semSignal (n, .tc) barS (1#32 : BitVec 32).toInt) cont) Q) := by
  subst hn
  rw [todo_take]
  unfold Ow SigTok
  iintro ⟨#HR, ⟨%W, HO⟩, ⟨Ht, Hs⟩, HT⟩ Hk
  iapply (Rounds.wp_signal 𝒱₀ ER (Rd m) (c : Thread nD τ) none (dst := (nbr c k : Thread nD τ)) (κ := K (nbr c k, .inl ()))
      (d := c) (by rw [duties_bar]; exact Finset.mem_erase.mpr ⟨fun h => nbr_ne c k hk h.symm, Finset.mem_univ _⟩)
      ((amount_bar m (nbr c k) c).trans (by decide)) () (O c (k.val + 1) n₂) (O_signal c k n₂)) $$ [HO Ht Hs]
  · isplitr; · iapply (inv_at m K (nbr c k, .inl ())); iexact HR
    isplitl [HO]; · iexact HO
    isplitl [Ht]; · iexact Ht
    isplitl [Hs]; · rw [payload_bar]; iexact Hs
    iapply (reached_at m K (nbr c k, .inl ())); iexact HR
  iintro HO
  iapply Hk
  isplitl [HO]
  · iexists W; iexact HO
  · iexact HT

/-! ## The barrier -/

/-- A landing slot on a target, handed over by it. -/
def Land' (d : Dev nD) : sProp 𝕄 := if d = c then iprop(emp) else slotAny d c
def Land (i : Fin 16) : sProp 𝕄 := Land' (F := F) c (tgt c i)

theorem land_intro : (bigSep (Finset.univ.erase c) fun d => (slotAny d c : sProp 𝕄)) ⊢ Todo (Land (F := F) c) 0 := by
  rw [todo_zero, show (bigSep Finset.univ (Land (F := F) c) : sProp 𝕄) = bigSep Finset.univ (Land' (F := F) c) from
    (bigSep_univ_equiv (tgtE c) (Land' (F := F) c)).symm, bigSep_univ_at _ c]
  iintro H
  isplitr
  · unfold Land'; rw [if_pos rfl]; iempintro
  · iapply (show (bigSep (Finset.univ.erase c) fun d => (slotAny d c : sProp 𝕄)) ⊢ bigSep (Finset.univ.erase c) (Land' (F := F) c) from
      bigSep_mono fun d hd => by unfold Land'; rw [if_neg (Finset.ne_of_mem_erase hd)]; exact Idealize.SL.BI.Entails.refl _)
    iexact H

theorem barrier_step (n₂ : ℕ) {cont : PUnit → Prog (TpuEff nD τ sig (Elt F) Λ₀ .tc) α} {Q : α → sProp 𝕄} :
    iprop(records m K ∗ Ow c 16 n₂ ∗ cred (tallyAt (barCell c) () 15) ∗ atPos ER (barCell c) 0 ∅ 0)
      ⊢ iprop(((Ow c 16 n₂ ∗ semVal (barCell c) 0 ∗ Todo (Land (F := F) c) 0) -∗ run c (cont ⟨⟩) Q)
          -∗ run c (.op (.semWait barS (15#32 : BitVec 32).toInt) cont) Q) := by
  unfold Ow
  iintro ⟨#HR, ⟨%W, HO⟩, Hc, Hat⟩ Hk
  iapply (Rounds.wp_wait_rest_token 𝒱₀ ER (Rd m) (c : Thread nD τ) none (κ := K (c, .inl ()))
      (wpE_semWait_eq 𝒱₀ (c : Thread nD τ) none Set.univ) (Set.mem_univ _) () (O := O c 16 n₂) (W := W) (R := 0) (m := 0) (T := ∅)
      (by rw [expect_bar]; decide)) $$ [Hc HO Hat]
  · isplitr; · iapply (inv_at m K (c, .inl ())); iexact HR
    isplitl [Hc]; · iexact Hc
    isplitl [HO]; · iexact HO
    isplitr; · iapply (bar_allowed m K c n₂); iexact HR
    iexact Hat
  iintro ⟨HO, Hat, -, Hpay⟩
  ihave Hp := (Entails.of_eq (rest_bar m c)) $$ Hpay
  ihave Hl := (land_intro (F := F) c) $$ Hp
  imod (Rounds.cell_close ER (Rd m) (Set.mem_univ (K (c, .inl ()))) (fun h => h) (R := 0 + 1) (duties_later m (barCell c))) $$ [Hat] with Hz
  · isplitr; · iapply (inv_at m K (c, .inl ())); iexact HR
    iexact Hat
  iapply Hk
  isplitl [HO]; · iexists _; iexact HO
  isplitl [Hz] <;> iassumption

/-! ## The local copies -/

/-- `x` in its array. -/
def xHome : sProp 𝕄 := owns (c : Thread nD τ) xH fullShare (xOf m c)
/-- `x` in fast memory. -/
def xHere : sProp 𝕄 := owns (c : Thread nD τ) xM fullShare (xOf m c)
/-- A chunk of the weight in its array. -/
def wHome (k : Fin 8) : sProp 𝕄 := owns (c : Thread nD τ) (chunkH k) fullShare (wOf m c k)
/-- A chunk of the weight in a slot. -/
def wHere (b : Fin 2) (k : Fin 8) : sProp 𝕄 := owns (c : Thread nD τ) (slotW b) fullShare (wOf m c k)

/-- A slot's semaphore. -/
def slotSem (b : Fin 2) : DmaSem sig := copySem ⟨b.val, by have := b.isLt; omega⟩

/-- The copy of `x` under way. -/
def xFly : sProp 𝕄 := Transfers.Flight EC (c : Thread nD τ) (.dma (copySem 2)) () xM.view.dmaCredit iprop(xHere m c ∗ xHome m c)
/-- The copy of a chunk of the weight into a slot, under way. -/
def wFly (b : Fin 2) (k : Fin 8) : sProp 𝕄 :=
  Transfers.Flight EC (c : Thread nD τ) (.dma (slotSem b)) () (slotW b).view.dmaCredit iprop(wHere m c b k ∗ wHome m c k)
/-- A slot at rest. -/
def Idle (b : Fin 2) : sProp 𝕄 := iprop(semVal ((c : Thread nD τ), .dma (slotSem b)) 0 ∗ slotWAny c b)

/-- A copy between two owned blocks: both come back when it is awaited, the second holding what the first held. -/
theorem copy_step {sp sp' : Space} {s : Shape} {e : EltTy} {src : Memref sig .tc sp s e} {dst : Memref sig .tc sp' s e} (sm : DmaSem sig)
    (hp : 0 < dst.view.dmaCredit) {hsrc : src.view.WordExact} {hdst : dst.view.WordExact}
    {hsem : DmaTarget.Typed (nD := nD) (τ := τ) (p := .tc) sp (.dma sm) (.here dst)}
    {X Y : s.Idx → Elt F e} {cont : PUnit → Prog (TpuEff nD τ sig (Elt F) Λ₀ .tc) α} {Q : α → sProp 𝕄} :
    iprop(owns (c : Thread nD τ) src fullShare X ∗ owns (c : Thread nD τ) dst fullShare Y ∗ semVal ((c : Thread nD τ), .dma sm) 0)
      ⊢ iprop((Transfers.Flight EC (c : Thread nD τ) (.dma sm) () dst.view.dmaCredit
                iprop(owns (c : Thread nD τ) dst fullShare X ∗ owns (c : Thread nD τ) src fullShare X) -∗ run c (cont ⟨⟩) Q)
          -∗ run c (.op (.enqueueDma src (.here dst) (.dma sm) hsrc hdst hsem) cont) Q) := by
  unfold owns
  iintro ⟨⟨%f, %hf, Hs⟩, ⟨%g, %hg, Hd⟩, Hv⟩ Hk
  iapply (Transfers.wp_dmaLocal EC 𝒱₀ (c : Thread nD τ) none (src := src) (dst := dst) (sm := .dma sm) (q := fullShare) (fs := f) (fd := g) (Sd := dst.view.set)
    () dst.view.dmaCredit rfl hp (Finset.Subset.refl _)) $$ [Hs Hd Hv]
  · isplitl [Hs]; · iexact Hs
    isplitl [Hd] <;> iassumption
  iintro Hfl
  iapply Hk
  iapply (Transfers.Flight_mono EC (c : Thread nD τ) ?_)
  rotate_left
  · iexact Hfl
  · iintro ⟨Hd, Hs⟩
    isplitl [Hd]
    · iexists _
      isplitr
      rotate_left
      · iexact Hd
      · ipureintro
        rw [View.read_write_univ]
        exact hf
    · iexists f
      isplitr
      · ipureintro; exact hf
      · iexact Hs

/-- A copy awaited. -/
theorem await_step {sp sp' : Space} {s s' : Shape} {e e' : EltTy} {src : Memref sig .tc sp s' e'} {dst : Memref sig .tc sp' s e} (b : Fin 3) (sm : DmaSem sig) (hsm : sm = copySem b)
    (n₁ n₂ : ℕ) {hsrc : src.view.WordExact} {hdst : dst.view.WordExact} {D : sProp 𝕄}
    {cont : PUnit → Prog (TpuEff nD τ sig (Elt F) Λ₀ .tc) α} {Q : α → sProp 𝕄} :
    iprop(records m K ∗ Ow c n₁ n₂ ∗ Transfers.Flight EC (c : Thread nD τ) (.dma sm) () dst.view.dmaCredit D)
      ⊢ iprop(((Ow c n₁ n₂ ∗ semVal ((c : Thread nD τ), .dma sm) 0 ∗ D) -∗ run c (cont ⟨⟩) Q)
          -∗ run c (.op (.waitDma2 sm src dst hsrc hdst) cont) Q) := by
  subst hsm
  unfold Ow
  iintro ⟨#HR, ⟨%W, HO⟩, Hfl⟩ Hk
  iapply (Transfers.wp_waitLocalO EC 𝒱₀ (c : Thread nD τ) none (dstw := dst) () rfl (O := O c n₁ n₂) (W := W)) $$ [HO Hfl]
  · isplitl [Hfl]; · iexact Hfl
    isplitl [HO]; · iexact HO
    iapply (low_allowed m K c _ (lv_copy c b) n₁ n₂); iexact HR
  iintro ⟨HD, Hv, HO⟩
  iapply Hk
  isplitl [HO]; · iexists _; iexact HO
  isplitl [Hv] <;> iassumption

end Cert.Scatter
-- ==== Proof.Moves.lean ====
/-
# The blocks of a device

The weight streamed in, the chunks of the product computed and stored, the column blocks sent, the blocks of the other devices received
and unpacked, and the sends awaited: one lemma each.
-/
module

public import proofs.«01_k».proof.Proof.Steps

@[expose] public section

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × KI → ℕ) (c : Dev nD) {α : Type}

/-! ## A chunk of the weight streamed in -/

/-- Starting the copy of the `r`-th chunk of the weight into a slot at rest. -/
theorem start_w (b : Fin 2) (r : Fin 8) (sm : DmaSem sig) (hsm : sm = slotSem b) {off : Fin 2 → ℕ} (hoff : off = ![0, 256 * (chk c r).val])
    {p : ∀ a, off a + S2048x256.size a ≤ S2048x2048.size a} {hu}
    {hsrc : (wH.slice (Rect.unit (s := S2048x2048) off S2048x256.size p) hu).view.WordExact} {hdst : (slotW b).view.WordExact}
    {hsem : DmaTarget.Typed (nD := nD) (τ := τ) (p := .tc) .hbm (.dma sm) (.here (slotW b))}
    {cont : PUnit → Prog (TpuEff nD τ sig (Elt F) Λ₀ .tc) α} {Q : α → sProp 𝕄} :
    iprop(Todo (fun r => wHome m c (chk c r)) r.val ∗ Idle (F := F) c b)
      ⊢ iprop(((Todo (fun r => wHome m c (chk c r)) (r.val + 1) ∗ wFly m c b (chk c r)) -∗ run c (cont ⟨⟩) Q)
          -∗ run c (.op (.enqueueDma (wH.slice (Rect.unit (s := S2048x2048) off S2048x256.size p) hu) (.here (slotW b)) (.dma sm) hsrc hdst hsem) cont) Q) := by
  subst hsm
  subst hoff
  rw [todo_take]
  unfold Idle slotWAny
  iintro ⟨⟨Hw, HT⟩, Hv, ⟨%Y, Hs⟩⟩ Hk
  iapply (copy_step (F := F) c (src := chunkH (chk c r)) (dst := slotW b) (slotSem b) (View.dmaCredit_pos _ (by decide)) (X := wOf m c (chk c r)) (Y := Y)) $$ [Hw Hs Hv]
  · isplitl [Hw]; · unfold wHome; iexact Hw
    isplitl [Hs] <;> iassumption
  iintro Hf
  iapply Hk
  isplitl [HT]; · iexact HT
  · unfold wFly wHere wHome; iexact Hf

/-- The copy of the `r`-th chunk awaited: the chunk is in the slot. -/
theorem await_w (b : Fin 2) (r : Fin 8) (sm : DmaSem sig) (hsm : sm = slotSem b) (n₁ n₂ : ℕ) {sp : Space} {s' : Shape} {e' : EltTy}
    {src : Memref sig .tc sp s' e'} {hsrc : src.view.WordExact} {hdst : (slotW b).view.WordExact}
    {cont : PUnit → Prog (TpuEff nD τ sig (Elt F) Λ₀ .tc) α} {Q : α → sProp 𝕄} :
    iprop(records m K ∗ Ow c n₁ n₂ ∗ wFly m c b (chk c r) ∗ Done (fun r => wHome m c (chk c r)) r.val)
      ⊢ iprop(((Ow c n₁ n₂ ∗ semVal ((c : Thread nD τ), .dma (slotSem b)) 0 ∗ wHere m c b (chk c r) ∗ Done (fun r => wHome m c (chk c r)) (r.val + 1)) -∗ run c (cont ⟨⟩) Q)
          -∗ run c (.op (.waitDma2 sm src (slotW b) hsrc hdst) cont) Q) := by
  subst hsm
  rw [done_put]
  unfold wFly
  iintro ⟨HR, HO, Hf, HD⟩ Hk
  iapply (await_step (F := F) m K c (dst := slotW b) _ (slotSem b) rfl n₁ n₂) $$ [HR HO Hf]
  · isplitl [HR]; · iexact HR
    isplitl [HO] <;> iassumption
  iintro ⟨HO, Hv, Hh, Hw⟩
  iapply Hk
  isplitl [HO]; · iexact HO
  isplitl [Hv]; · iexact Hv
  isplitl [Hh]; · iexact Hh
  isplitl [Hw] <;> iassumption

/-! ## A chunk of the product computed -/

theorem zero_off : (![0, 0] : Fin 2 → ℕ) = fun _ => 0 := by funext a; revert a; decide

/-- The rows of `x`, loaded. -/
theorem load_x {p : ∀ a, (![0, 0] : Fin 2 → ℕ) a + S128x2048.size a ≤ S128x2048.size a} {hl}
    {cont : (S128x2048.Idx → Elt F .f32) → Prog (TpuEff nD τ sig (Elt F) Λ₀ .tc) α} {Q : α → sProp 𝕄} :
    (xHere m c : sProp 𝕄)
      ⊢ iprop((xHere m c -∗ run c (cont (xOf m c)) Q)
          -∗ run c (.op (.load xM (Rect.unit (s := S128x2048) ![0, 0] S128x2048.size p).toLoadRect hl) cont) Q) := by
  unfold xHere
  rw [owns_whole_eq]
  iintro ⟨%f, %hf, H⟩ Hk
  iapply (wp_load 𝒱₀ (c : Thread nD τ) none Set.univ (m := xM) (f := f) (Finset.subset_univ _)) $$ H
  iintro H
  rw [show (xM : Memref sig .tc .vmem S128x2048 .f32).view.readAt (Elt F) (Rect.unit (s := S128x2048) ![0, 0] S128x2048.size p).toLoadRect f = xOf m c from
    (Memref.readAt_unit_zero (Elt F) cc0_scratch0 zero_off p f).trans hf]
  iapply Hk
  iexists f
  isplitr
  · ipureintro; exact hf
  · iexact H

/-- A slot's chunk of the weight, loaded with its unit axis. -/
theorem load_w (b : Fin 2) (k : Fin 8) {p : ∀ a, (![b.val, 0, 0] : Fin 3 → ℕ) a + S1x2048x256.size a ≤ S2x2048x256.size a} {hl}
    {cont : (S1x2048x256.Idx → Elt F .f32) → Prog (TpuEff nD τ sig (Elt F) Λ₀ .tc) α} {Q : α → sProp 𝕄} :
    iprop(semVal ((c : Thread nD τ), .dma (slotSem b)) 0 ∗ wHere m c b k)
      ⊢ iprop((∀ Y, ⌜shapeCast S2048x256 Y shapeCasts_S1x2048x256_S2048x256 = wOf m c k⌝ -∗ Idle (F := F) c b -∗ run c (cont Y) Q)
          -∗ run c (.op (.load wM (Rect.unit (s := S2x2048x256) ![b.val, 0, 0] S1x2048x256.size p).toLoadRect hl) cont) Q) := by
  unfold wHere
  iintro ⟨Hv, H⟩ Hk
  ihave H := (owns_unsqueeze (F := F) c _ _ shapeCasts_S1x2048x256_S2048x256 _ _) $$ H
  icases H with ⟨%Y, %hY, H⟩
  iapply (wp_load_owns (F := F) c (mm := wM) (r := slotWR b) (fun _ => rfl)) $$ H
  iintro H
  ihave H := (owns_squeeze (F := F) c _ squeezes_S1x2048x256_S2048x256 shapeCasts_S1x2048x256_S2048x256 _ _) $$ H
  iapply Hk
  · ipureintro; exact hY
  · unfold Idle slotWAny
    isplitl [Hv]; · iexact Hv
    iexists _; iexact H

/-- A fresh chunk of the product, loaded: the value is not used. -/
theorem load_y (k : Fin 8) {off : Fin 2 → ℕ} (hoff : off = ![0, 256 * k.val])
    {p : ∀ a, off a + S128x256.size a ≤ S128x2048.size a} {hl}
    {cont : (S128x256.Idx → Elt F .bf16) → Prog (TpuEff nD τ sig (Elt F) Λ₀ .tc) α} {Q : α → sProp 𝕄} :
    (chunkAny c k : sProp 𝕄)
      ⊢ iprop((∀ Y, chunkAny c k -∗ run c (cont Y) Q)
          -∗ run c (.op (.load yM (Rect.unit (s := S128x2048) off S128x256.size p).toLoadRect hl) cont) Q) := by
  subst hoff
  unfold chunkAny
  iintro ⟨%X, H⟩ Hk
  iapply (wp_load_owns (F := F) c (mm := yM) (r := chunkYR k) (fun _ => rfl)) $$ H
  iintro H
  iapply Hk
  iexists X; iexact H

/-- The `i`-th column block to leave, computed. -/
def Rdy (i : Fin 16) : sProp 𝕄 := blkDone m c (tgt c i)

/-- The `r`-th chunk of the product, stored: its two column blocks are ready. -/
theorem store_y (r : Fin 8) (i₀ i₁ : Fin 16) (h₀ : i₀.val = 2 * r.val) (h₁ : i₁.val = 2 * r.val + 1) {off : Fin 2 → ℕ} (hoff : off = ![0, 256 * (chk c r).val])
    {p : ∀ a, off a + S128x256.size a ≤ S128x2048.size a} {w : S128x256.Idx → Elt F .bf16} (hw : w = chunkVal m c (chk c r)) {hx hm}
    {cont : PUnit → Prog (TpuEff nD τ sig (Elt F) Λ₀ .tc) α} {Q : α → sProp 𝕄} :
    (chunkAny c (chk c r) : sProp 𝕄)
      ⊢ iprop(((Rdy m c i₀ ∗ Rdy m c i₁) -∗ run c (cont ⟨⟩) Q)
          -∗ run c (.op (.store yM (Rect.unit (s := S128x2048) off S128x256.size p) w Finset.univ hx hm) cont) Q) := by
  subst hoff
  subst hw
  unfold chunkAny Rdy
  rw [tgt_pair c r 0 i₀ h₀, tgt_pair c r 1 i₁ h₁]
  iintro ⟨%X, H⟩ Hk
  iapply (wp_store_owns (F := F) c (mm := yM) (r := chunkYR (chk c r)) (fun _ => rfl)) $$ H
  iintro H
  iapply Hk
  iapply (chunk_blks m c (chk c r))
  iexact H

/-! ## A column block sent -/

/-- What a transfer to device `d` takes: its two duties. -/
def TxTok' (d : Dev nD) : sProp 𝕄 := iprop(dutyTok ER (sendCell c d) 0 0 ∗ dutyTok ER (recvCell d c) 0 0)
def TxTok (i : Fin 16) : sProp 𝕄 := TxTok' (F := F) c (tgt c i)
/-- What is left of it until it is awaited: a claim on the send semaphore; the device's own block stays. -/
def Gone' (d : Dev nD) : sProp 𝕄 := if d = c then blkDone m c d else cred (tallyAt (sendCell c d) () N)
def Gone (i : Fin 16) : sProp 𝕄 := Gone' m c (tgt c i)

/-- A block written over a slot is what the slot holds. -/
theorem landed (d : Dev nD) (fs : Buf (Elt F) ((c : Thread nD τ).loc cc0_scratch1)) (fd : Buf (Elt F) ((d : Thread nD τ).loc cc0_scratch2))
    (hf : (blkY d).view.read (Elt F) fs = blkVal m c d) :
    ((slotR c).view.loc (d : Thread nD τ) ↦[(slotR c).view.set]{fullShare} ((slotR c).view.write (Elt F) fd ((blkY d).view.read (Elt F) fs) Finset.univ) : sProp 𝕄)
      ⊢ slotGot m d c := by
  unfold slotGot owns
  iintro H
  iexists _
  isplitr
  rotate_left
  · iexact H
  · ipureintro
    rw [View.read_write_univ, hf]

theorem left_behind (d : Dev nD) (fs : Buf (Elt F) ((c : Thread nD τ).loc cc0_scratch1)) (hf : (blkY d).view.read (Elt F) fs = blkVal m c d) :
    ((blkY d).view.loc (c : Thread nD τ) ↦[(blkY d).view.set]{fullShare} fs : sProp 𝕄) ⊢ blkDone m c d := by
  unfold blkDone owns
  iintro H
  iexists fs
  isplitr
  · ipureintro; exact hf
  · iexact H

/-- The transfer of the `i`-th block to another device. -/
theorem wp_send_block (d n : Dev nD) (hn : n = d) (hd : d ≠ c) (O₀ O' : CellTallies nD τ sig Unit) (hO : O₀ = O' + tallyAt (recvCell d c) () N)
    {hsc : (slotR c : Memref sig (Dev.tc n : Thread nD τ).2.kind .vmem S128x128 .bf16).view.ref.isScScratch = false}
    {hsrc : (blkY d).view.WordExact} {hdst : (slotR c : Memref sig (Dev.tc n : Thread nD τ).2.kind .vmem S128x128 .bf16).view.WordExact}
    {hsem : DmaTarget.Typed (p := .tc) .vmem (.dma (recvSem c)) (.remote (Dev.tc n : Thread nD τ) (slotR c : Memref sig .tc .vmem S128x128 .bf16) (.dma (sendSem d)) hsc)}
    {k : PUnit → Prog (TpuEff nD τ sig (Elt F) Λ₀ .tc) α} {Q : α → sProp 𝕄} (W : Waits sig Unit) :
    iprop(records m K ∗ owes (c : Thread nD τ) O₀ W ∗ blkDone m c d ∗ slotAny d c ∗ TxTok' (F := F) c d)
      ⊢ iprop(((cred (tallyAt (sendCell c d) () N) ∗ owes (c : Thread nD τ) O' W) -∗ run c (k ⟨⟩) Q)
          -∗ run c (.op (.enqueueDma (blkY d) (.remote (Dev.tc n : Thread nD τ) (slotR c : Memref sig .tc .vmem S128x128 .bf16) (.dma (sendSem d)) hsc) (.dma (recvSem c)) hsrc hdst hsem) k) Q) := by
  subst hn
  iintro ⟨#HR, HO, Hb, Hs, Ht⟩ Hk
  unfold blkDone slotAny owns TxTok'
  icases Hb with ⟨%fs, %hf, Hb⟩
  icases Hs with ⟨%X, %fd, -, Hs⟩
  icases Ht with ⟨Ht1, Ht2⟩
  iapply (Rounds.wp_send_pointsTo 𝒱₀ ER (Rd m) (c : Thread nD τ) none (c' := (n : Thread nD τ)) (src := blkY n) (dst := slotR c) (sS := .dma (sendSem n)) (sem := .dma (recvSem c)) (κ₁ := K (c, .inr (.inl n))) (κ₂ := K (n, .inr (.inr c)))
    (r₁ := 0) (r₂ := 0) (d₁ := 0) (d₂ := 0) (fs := fs) (fd := fd)
    (by rw [duties_send m c n hd]; exact Finset.mem_singleton_self _) (by rw [duties_recv m n c hd.symm]; exact Finset.mem_singleton_self _)
    () () N (by exact N_slot c) (amount_send m c n 0) (amount_recv m n c 0) O' hO (W := W)
    (by rw [payload_send]; exact left_behind m c n fs hf)
    (by rw [payload_recv]; exact landed m c n fs fd hf)) $$ [HO Hb Hs Ht1 Ht2]
  · isplitr; · iapply (inv_at m K (c, .inr (.inl n))); iexact HR
    isplitr; · iapply (inv_at m K (n, .inr (.inr c))); iexact HR
    isplitl [Hb]; · iexact Hb
    isplitl [Hs]; · iexact Hs
    isplitl [HO]; · iexact HO
    isplitl [Ht1]; · iexact Ht1
    isplitr; · iapply (reached_at m K (c, .inr (.inl n))); iexact HR
    isplitl [Ht2]; · iexact Ht2
    iapply (reached_at m K (n, .inr (.inr c))); iexact HR
  iexact Hk

/-- The transfer as the kernel spells it: the block, the slot and the semaphores named by computed offsets. -/
theorem send_core (d n : Dev nD) (hn : n = d) (hd : d ≠ c) (O₀ O' : CellTallies nD τ sig Unit) (hO : O₀ = O' + tallyAt (recvCell d c) () N)
    {oB : Fin 3 → ℕ} {oY : Fin 2 → ℕ} {sS sR : DmaSem sig} (hS : sS = sendSem d) (hR : sR = recvSem c) (hB : oB = ![c.val, 0, 0]) (hY : oY = ![0, 128 * d.val])
    {pB : ∀ a, oB a + S1x128x128.size a ≤ S16x128x128.size a} {pY : ∀ a, oY a + S128x128.size a ≤ S128x2048.size a} {hu hv hq}
    {hsc hsrc hdst hsem}
    {k : Prog (TpuEff nD τ sig (Elt F) Λ₀ .tc) α} {Q : α → sProp 𝕄} (W : Waits sig Unit) :
    iprop(records m K ∗ owes (c : Thread nD τ) O₀ W ∗ blkDone m c d ∗ slotAny d c ∗ TxTok' (F := F) c d)
      ⊢ iprop(((cred (tallyAt (sendCell c d) () N) ∗ owes (c : Thread nD τ) O' W) -∗ run c k Q)
          -∗ run c (.op (.enqueueDma (yM.slice (Rect.unit (s := S128x2048) oY S128x128.size pY) hu)
              (.remote (Dev.tc n : Thread nD τ) ((rM.slice (Rect.unit (s := S16x128x128) oB S1x128x128.size pB) hv).squeeze S128x128 hq : Memref sig .tc .vmem S128x128 .bf16)
                (.dma sS) hsc) (.dma sR) hsrc hdst hsem) fun _ => k) Q) := by
  subst hS hR hB hY
  exact wp_send_block m K c d n hn hd O₀ O' hO (k := fun _ => k) W

/-- The `i`-th transfer, made unless the block is the device's own. -/
theorem send_step (i : Fin 16) {cond : BitVec 1} (hcond : cond = 1#1 ↔ tgt c i ≠ c) {k : Prog (TpuEff nD τ sig (Elt F) Λ₀ .tc) α}
    {A : cond = 1#1 → Prog (TpuEff nD τ sig (Elt F) Λ₀ .tc) α} {Q : α → sProp 𝕄}
    (hA : ∀ (h : cond = 1#1) (hd : tgt c i ≠ c) (O₀ O' : CellTallies nD τ sig Unit) (hO : O₀ = O' + tallyAt (recvCell (tgt c i) c) () N) (W : Waits sig Unit),
      iprop(records m K ∗ owes (c : Thread nD τ) O₀ W ∗ blkDone m c (tgt c i) ∗ slotAny (tgt c i) c ∗ TxTok' (F := F) c (tgt c i))
      ⊢ iprop(((cred (tallyAt (sendCell c (tgt c i)) () N) ∗ owes (c : Thread nD τ) O' W) -∗ run c k Q) -∗ run c (A h) Q)) :
    iprop(records m K ∗ Ow c 16 i.val ∗ Todo (TxTok (F := F) c) i.val ∗ Todo (Land (F := F) c) i.val ∗ Rdy m c i ∗ Done (Gone m c) i.val)
      ⊢ iprop(((Ow c 16 (i.val + 1) ∗ Todo (TxTok (F := F) c) (i.val + 1) ∗ Todo (Land (F := F) c) (i.val + 1) ∗ Done (Gone m c) (i.val + 1)) -∗ run c k Q)
          -∗ run c (if h : cond = 1#1 then A h else k) Q) := by
  rw [todo_take (TxTok (F := F) c), todo_take (Land (F := F) c), done_put]
  have hO := O_send c i 16
  by_cases h : cond = 1#1
  · have hd := hcond.mp h
    rw [dif_pos h, show Land (F := F) c i = slotAny (tgt c i) c from if_neg hd, show Gone m c i = cred (tallyAt (sendCell c (tgt c i)) () N) from if_neg hd]
    rw [if_neg hd] at hO
    unfold Ow Rdy
    rw [show TxTok (F := F) c i = TxTok' (F := F) c (tgt c i) from rfl]
    iintro ⟨HR, ⟨%W, HO⟩, ⟨Ht, HT⟩, ⟨Hl, HL⟩, Hb, HD⟩ Hk
    iapply (hA h hd _ _ hO W) $$ [HR HO Hb Hl Ht]
    · isplitl [HR]; · iexact HR
      isplitl [HO]; · iexact HO
      isplitl [Hb]; · iexact Hb
      isplitl [Hl] <;> iassumption
    iintro ⟨Hc, HO⟩
    iapply Hk
    isplitl [HO]; · iexists W; iexact HO
    isplitl [HT]; · iexact HT
    isplitl [HL]; · iexact HL
    isplitl [Hc] <;> iassumption
  · have hd : tgt c i = c := by by_contra hd; exact h (hcond.mpr hd)
    rw [dif_neg h, show Gone m c i = blkDone m c (tgt c i) from if_pos hd]
    rw [if_pos hd, add_zero] at hO
    unfold Ow Rdy
    rw [hO]
    iintro ⟨HR, ⟨%W, HO⟩, ⟨Ht, HT⟩, ⟨Hl, HL⟩, Hb, HD⟩ Hk
    iapply Hk
    isplitl [HO]; · iexists W; iexact HO
    isplitl [HT]; · iexact HT
    isplitl [HL]; · iexact HL
    isplitl [Hb] <;> iassumption

theorem sem_send' {t : Dev nD} {o : Fin 1 → ℕ} (ho : o = ![t.val]) (h : ∀ a, o a + S1.size a ≤ S16.size a) :
    ((cc0_scratch5.slice (Rect.unit (s := S16) o S1.size h)).squeeze S_ squeezes_S1_S_).sem = sendSem t := by subst ho; exact sem_send t h
theorem sem_recv' {t : Dev nD} {o : Fin 1 → ℕ} (ho : o = ![t.val]) (h : ∀ a, o a + S1.size a ≤ S16.size a) :
    ((cc0_scratch6.slice (Rect.unit (s := S16) o S1.size h)).squeeze S_ squeezes_S1_S_).sem = recvSem t := by subst ho; exact sem_recv t h

/-- Where the sends stand: the first `i` are made. -/
def TxState (i : ℕ) : sProp 𝕄 :=
  iprop(records m K ∗ Ow c 16 i ∗ Todo (TxTok (F := F) c) i ∗ Todo (Land (F := F) c) i ∗ Done (Gone m c) i)

/-- The `i`-th transfer of the kernel, as it spells it. -/
theorem send (i : Fin 16) {cond : Dev nD → BitVec 1} {oS oR : Dev nD → Fin 1 → ℕ} {oB : Dev nD → Fin 3 → ℕ} {oY : Dev nD → Fin 2 → ℕ}
    (hf : SendFacts i cond oS oR oB oY) {n : ℕ} (hn : n = tgt c i) {hlt : cond c = 1#1 → n < nD}
    {pS : cond c = 1#1 → ∀ a, oS c a + S1.size a ≤ S16.size a} {pR : cond c = 1#1 → ∀ a, oR c a + S1.size a ≤ S16.size a}
    {pB : cond c = 1#1 → ∀ a, oB c a + S1x128x128.size a ≤ S16x128x128.size a} {pY : cond c = 1#1 → ∀ a, oY c a + S128x128.size a ≤ S128x2048.size a}
    {hsc : ∀ h : cond c = 1#1, (((rM.slice (Rect.unit (s := S16x128x128) (oB c) S1x128x128.size (pB h)) (fun _ => rfl)).squeeze S128x128 squeezes_S1x128x128_S128x128 :
      Memref sig .tc .vmem S128x128 .bf16)).view.ref.isScScratch = false}
    {hsrc : ∀ h : cond c = 1#1, (yM.slice (Rect.unit (s := S128x2048) (oY c) S128x128.size (pY h)) (fun _ => rfl)).view.WordExact}
    {hdst : ∀ h : cond c = 1#1, (((rM.slice (Rect.unit (s := S16x128x128) (oB c) S1x128x128.size (pB h)) (fun _ => rfl)).squeeze S128x128 squeezes_S1x128x128_S128x128 :
      Memref sig .tc .vmem S128x128 .bf16)).view.WordExact}
    {hsem : ∀ h : cond c = 1#1, DmaTarget.Typed (p := .tc) .vmem (.dma ((cc0_scratch6.slice (Rect.unit (s := S16) (oR c) S1.size (pR h))).squeeze S_ squeezes_S1_S_).sem)
      (.remote (Dev.tc (⟨n, hlt h⟩ : Dev nD) : Thread nD τ)
        ((rM.slice (Rect.unit (s := S16x128x128) (oB c) S1x128x128.size (pB h)) (fun _ => rfl)).squeeze S128x128 squeezes_S1x128x128_S128x128 : Memref sig .tc .vmem S128x128 .bf16)
        (.dma ((cc0_scratch5.slice (Rect.unit (s := S16) (oS c) S1.size (pS h))).squeeze S_ squeezes_S1_S_).sem) (hsc h))}
    {k : Prog (TpuEff nD τ sig (Elt F) Λ₀ .tc) α} {Q : α → sProp 𝕄} :
    iprop(TxState m K c i.val ∗ Rdy m c i)
      ⊢ iprop((TxState m K c (i.val + 1) -∗ run c k Q)
          -∗ run c (if h : cond c = 1#1 then
              .op (.enqueueDma (yM.slice (Rect.unit (s := S128x2048) (oY c) S128x128.size (pY h)) (fun _ => rfl))
                (.remote (Dev.tc (⟨n, hlt h⟩ : Dev nD) : Thread nD τ)
                  ((rM.slice (Rect.unit (s := S16x128x128) (oB c) S1x128x128.size (pB h)) (fun _ => rfl)).squeeze S128x128 squeezes_S1x128x128_S128x128 : Memref sig .tc .vmem S128x128 .bf16)
                  (.dma ((cc0_scratch5.slice (Rect.unit (s := S16) (oS c) S1.size (pS h))).squeeze S_ squeezes_S1_S_).sem) (hsc h))
                (.dma ((cc0_scratch6.slice (Rect.unit (s := S16) (oR c) S1.size (pR h))).squeeze S_ squeezes_S1_S_).sem) (hsrc h) (hdst h) (hsem h))
                fun _ => k
            else k) Q) := by
  obtain ⟨hc, eS, eR, eB, eY⟩ := hf c
  unfold TxState
  iintro ⟨⟨#HR, HO, HT, HL, HD⟩, Hb⟩ Hk
  iapply (send_step (F := F) m K c i hc ?hA) $$ [HO HT HL HD Hb]
  case hA =>
    intro h hd O₀ O' hO W
    exact send_core (F := F) m K c (tgt c i) ⟨n, hlt h⟩ (Fin.ext hn) hd O₀ O' hO (sem_send' eS _) (sem_recv' eR _) eB eY W
  · isplitr; · iexact HR
    isplitl [HO]; · iexact HO
    isplitl [HT]; · iexact HT
    isplitl [HL]; · iexact HL
    isplitl [Hb] <;> iassumption
  iintro ⟨HO, HT, HL, HD⟩
  iapply Hk
  isplitr; · iexact HR
  isplitl [HO]; · iexact HO
  isplitl [HT]; · iexact HT
  isplitl [HL] <;> iassumption

/-! ## The device's own block -/

/-- A block of rows of the result, in place. -/
def rowsGot (p : Dev nD) : sProp 𝕄 := owns (c : Thread nD τ) (rowsO p) fullShare (rowsVal m c p)

/-- The device's own block, copied into its own rows. -/
theorem own_step {oY oO : Fin 2 → ℕ} (hY : oY = ![0, 128 * c.val]) (hO : oO = ![128 * c.val, 0])
    {pY : ∀ a, oY a + S128x128.size a ≤ S128x2048.size a} {pO : ∀ a, oO a + S128x128.size a ≤ S2048x128.size a} {h₁ h₂ h₃ h₄}
    {k : PUnit → Prog (TpuEff nD τ sig (Elt F) Λ₀ .tc) α} {Q : α → sProp 𝕄} :
    iprop(blkDone m c c ∗ rowsAny (F := F) c c)
      ⊢ iprop(((blkDone m c c ∗ rowsGot m c c) -∗ run c (k ⟨⟩) Q)
          -∗ run c (.op (.load yM (Rect.unit (s := S128x2048) oY S128x128.size pY).toLoadRect h₁) fun v =>
              .op (.load oM (Rect.unit (s := S2048x128) oO S128x128.size pO).toLoadRect h₂) fun _ =>
              .op (.store oM (Rect.unit (s := S2048x128) oO S128x128.size pO) (k0_pay10 v) Finset.univ h₃ h₄) k) Q) := by
  subst hY hO
  unfold blkDone rowsAny rowsGot
  iintro ⟨Hb, ⟨%X, Hr⟩⟩ Hk
  iapply (wp_load_owns (F := F) c (mm := yM) (r := blkYR c) (fun _ => rfl)) $$ Hb
  iintro Hb
  iapply (wp_load_owns (F := F) c (mm := oM) (r := rowsOR c) (fun _ => rfl)) $$ Hr
  iintro Hr
  iapply (wp_store_owns (F := F) c (mm := oM) (r := rowsOR c) (fun _ => rfl)) $$ Hr
  iintro Hr
  iapply Hk
  isplitl [Hb]; · iexact Hb
  · iexact Hr

/-! ## A block received -/

/-- What a receive from device `p` takes: its semaphore's place and the block promised; nothing is promised by the device itself. -/
def RxTok (p : Dev nD) : sProp 𝕄 :=
  iprop(atPos ER (recvCell c p) 0 ∅ 0 ∗ if p = c then slotAny c c else cred (tallyAt (recvCell c p) () N))
/-- The rows of the result before the receives: the device's own are in place. -/
def RowsIn (p : Dev nD) : sProp 𝕄 := if p = c then rowsGot m c p else rowsAny c p
/-- What a receive leaves: its semaphore at zero and the slot. -/
def RxDone (p : Dev nD) : sProp 𝕄 := iprop(semVal (recvCell c p) 0 ∗ slotAny c p)

/-- A block of another device, awaited and unpacked into its rows. -/
theorem recv_core (p : Dev nD) (hp : p ≠ c) (sm : DmaSem sig) (hsm : sm = recvSem p) {sp : Space} {s' : Shape} {e' : EltTy} {src : Memref sig .tc sp s' e'}
    {pB : ∀ a, (![p.val, 0, 0] : Fin 3 → ℕ) a + S1x128x128.size a ≤ S16x128x128.size a} {hv hq hsrc hdst h₁}
    {oO : Fin 2 → ℕ} (hO : oO = ![128 * p.val, 0]) {pO : ∀ a, oO a + S128x128.size a ≤ S2048x128.size a} {h₂ h₃}
    {h₄ : (Finset.univ : Finset S128x128.Idx) = Finset.univ ∨ ∀ a, (Rect.unit (s := S2048x128) oO S128x128.size pO).stride a = 1}
    {pay : (S1x128x128.Idx → Elt F .bf16) → S128x128.Idx → Elt F .f32} (hpay : ∀ Y, pay Y = k0_pay10 (shapeCast S128x128 Y shapeCasts_S1x128x128_S128x128))
    {k : Prog (TpuEff nD τ sig (Elt F) Λ₀ .tc) α} {Q : α → sProp 𝕄} :
    iprop(records m K ∗ Ow c 16 16 ∗ RxTok (F := F) c p ∗ RowsIn m c p)
      ⊢ iprop(((Ow c 16 16 ∗ RxDone (F := F) c p ∗ rowsGot m c p) -∗ run c k Q)
          -∗ run c (.op (.waitDma2 sm src ((rM.slice (Rect.unit (s := S16x128x128) ![p.val, 0, 0] S1x128x128.size pB) hv).squeeze S128x128 hq) hsrc hdst) fun _ =>
              .op (.load rM (Rect.unit (s := S16x128x128) ![p.val, 0, 0] S1x128x128.size pB).toLoadRect h₁) fun v =>
              .op (.load oM (Rect.unit (s := S2048x128) oO S128x128.size pO).toLoadRect h₂) fun _ =>
              .op (.store oM (Rect.unit (s := S2048x128) oO S128x128.size pO) (pay v) Finset.univ h₃ h₄) fun _ => k) Q) := by
  subst hsm hO
  unfold Ow RxTok RowsIn RxDone
  rw [if_neg hp, if_neg hp]
  unfold rowsAny
  iintro ⟨#HR, ⟨%W, HO⟩, ⟨Hat, Hc⟩, ⟨%X, Hr⟩⟩ Hk
  iapply (Rounds.wp_wait_rest_token 𝒱₀ ER (Rd m) (c : Thread nD τ) none (κ := K (c, .inr (.inr p)))
      (wpE_waitDma2_eq 𝒱₀ (c : Thread nD τ) none Set.univ) (Set.mem_univ _) () (O := O c 16 16) (W := W) (R := 0) (m := 0) (T := ∅)
      (by rw [Nat.zero_add, expect_recv m c p hp])) $$ [Hc HO Hat]
  · isplitr; · iapply (inv_at m K (c, .inr (.inr p))); iexact HR
    isplitl [Hc]; · iexact Hc
    isplitl [HO]; · iexact HO
    isplitr; · rw [O_end, MayWait_zero]; iempintro
    iexact Hat
  iintro ⟨HO, Hat, -, Hpay⟩
  ihave Hs := (Entails.of_eq (rest_recv m c p hp)) $$ Hpay
  imod (Rounds.cell_close ER (Rd m) (Set.mem_univ (K (c, .inr (.inr p)))) (fun h => h) (R := 0 + 1) (duties_later m (recvCell c p))) $$ [Hat] with Hz
  · isplitr; · iapply (inv_at m K (c, .inr (.inr p))); iexact HR
    iexact Hat
  unfold slotGot
  ihave Hs := (owns_unsqueeze (F := F) c _ _ shapeCasts_S1x128x128_S128x128 _ _) $$ Hs
  icases Hs with ⟨%Y, %hY, Hs⟩
  iapply (wp_load_owns (F := F) c (mm := rM) (r := slotRR p) (fun _ => rfl)) $$ Hs
  iintro Hs
  ihave Hs := (owns_squeeze (F := F) c _ squeezes_S1x128x128_S128x128 shapeCasts_S1x128x128_S128x128 _ _) $$ Hs
  iapply (wp_load_owns (F := F) c (mm := oM) (r := rowsOR p) (fun _ => rfl)) $$ Hr
  iintro Hr
  iapply (wp_store_owns (F := F) c (mm := oM) (r := rowsOR p) (fun _ => rfl)) $$ Hr
  iintro Hr
  iapply Hk
  isplitl [HO]; · iexists _; iexact HO
  isplitl [Hz Hs]
  · isplitl [Hz]; · iexact Hz
    unfold slotAny; iexists _; iexact Hs
  · unfold rowsGot rowsVal
    rw [hpay, hY]
    iexact Hr

/-- Where the receives stand: the first `p` are made. -/
def RxState (p : ℕ) : sProp 𝕄 :=
  iprop(records m K ∗ Ow c 16 16 ∗ Todo (RxTok (F := F) c) p ∗ Todo (RowsIn m c) p ∗ Done (RxDone (F := F) c) p ∗ Done (rowsGot m c) p)

/-- The receive from device `p`, made unless it is the device itself. -/
theorem recv (p : Dev nD) {sm : DmaSem sig} (hsm : sm = recvSem p) {sp : Space} {s' : Shape} {e' : EltTy} {src : Memref sig .tc sp s' e'}
    {pB : ∀ a, (![p.val, 0, 0] : Fin 3 → ℕ) a + S1x128x128.size a ≤ S16x128x128.size a} {hv hq hsrc hdst h₁}
    {oO : Fin 2 → ℕ} (hO : oO = ![128 * p.val, 0]) {pO : ∀ a, oO a + S128x128.size a ≤ S2048x128.size a} {h₂ h₃}
    {h₄ : (Finset.univ : Finset S128x128.Idx) = Finset.univ ∨ ∀ a, (Rect.unit (s := S2048x128) oO S128x128.size pO).stride a = 1}
    {pay : (S1x128x128.Idx → Elt F .bf16) → S128x128.Idx → Elt F .f32} (hpay : ∀ Y, pay Y = k0_pay10 (shapeCast S128x128 Y shapeCasts_S1x128x128_S128x128))
    {k : Prog (TpuEff nD τ sig (Elt F) Λ₀ .tc) α} {Q : α → sProp 𝕄} :
    RxState m K c p.val
      ⊢ iprop((RxState m K c (p.val + 1) -∗ run c k Q)
          -∗ run c (if _ : (Scalar.cmpi .ne ((Scalar.extui (Scalar.cmpi .ne (BitVec.ofNat 32 p.val) (posWord c)) : BitVec 32)) 0#32 = 1#1) then
              .op (.waitDma2 sm src ((rM.slice (Rect.unit (s := S16x128x128) ![p.val, 0, 0] S1x128x128.size pB) hv).squeeze S128x128 hq) hsrc hdst) fun _ =>
              .op (.load rM (Rect.unit (s := S16x128x128) ![p.val, 0, 0] S1x128x128.size pB).toLoadRect h₁) fun v =>
              .op (.load oM (Rect.unit (s := S2048x128) oO S128x128.size pO).toLoadRect h₂) fun _ =>
              .op (.store oM (Rect.unit (s := S2048x128) oO S128x128.size pO) (pay v) Finset.univ h₃ h₄) fun _ => k
            else k) Q) := by
  unfold RxState
  rw [todo_take (RxTok (F := F) c), todo_take (RowsIn m c), done_put (RxDone (F := F) c), done_put (rowsGot m c)]
  by_cases h : (Scalar.cmpi .ne ((Scalar.extui (Scalar.cmpi .ne (BitVec.ofNat 32 p.val) (posWord c)) : BitVec 32)) 0#32 = 1#1)
  · rw [dif_pos h]
    iintro ⟨#HR, HO, ⟨Ht, HT⟩, ⟨Hr, HI⟩, HD, HG⟩ Hk
    iapply (recv_core m K c p ((skip_iff c p).mp h) sm hsm hO hpay) $$ [HO Ht Hr]
    · isplitr; · iexact HR
      isplitl [HO]; · iexact HO
      isplitl [Ht] <;> iassumption
    iintro ⟨HO, Hd, Hg⟩
    iapply Hk
    isplitr; · iexact HR
    isplitl [HO]; · iexact HO
    isplitl [HT]; · iexact HT
    isplitl [HI]; · iexact HI
    isplitl [Hd HD]; · isplitl [Hd] <;> iassumption
    isplitl [Hg] <;> iassumption
  · have hp : p = c := by by_contra hp; exact h ((skip_iff c p).mpr hp)
    subst hp
    rw [dif_neg h, show RxTok (F := F) p p = iprop(atPos ER (recvCell p p) 0 ∅ 0 ∗ slotAny p p) from by unfold RxTok; rw [if_pos rfl],
      show RowsIn m p p = rowsGot m p p from if_pos rfl, show RxDone (F := F) p p = iprop(semVal (recvCell p p) 0 ∗ slotAny p p) from rfl]
    iintro ⟨#HR, HO, ⟨⟨Hat, Hs⟩, HT⟩, ⟨Hr, HI⟩, HD, HG⟩ Hk
    imod (Rounds.cell_close ER (Rd m) (Set.mem_univ (K (p, .inr (.inr p)))) (fun h => h) (R := 0) (duties_recv_self m p)) $$ [Hat] with Hz
    · isplitr; · iapply (inv_at m K (p, .inr (.inr p))); iexact HR
      iexact Hat
    iapply Hk
    isplitr; · iexact HR
    isplitl [HO]; · iexact HO
    isplitl [HT]; · iexact HT
    isplitl [HI]; · iexact HI
    isplitl [Hz Hs HD]
    · isplitr [HD]
      · isplitl [Hz] <;> iassumption
      · iexact HD
    isplitl [Hr] <;> iassumption

/-! ## A send awaited -/

/-- What the wait for the send to device `t` takes. -/
def SxTok (t : Dev nD) : sProp 𝕄 := iprop(atPos ER (sendCell c t) 0 ∅ 0 ∗ Gone' m c t)
/-- What it leaves: its semaphore at zero and the block back. -/
def SxDone (t : Dev nD) : sProp 𝕄 := iprop(semVal (sendCell c t) 0 ∗ blkDone m c t)

theorem sendwait_core (t : Dev nD) (ht : t ≠ c) (sm : DmaSem sig) (hsm : sm = sendSem t) {sp : Space} {s' : Shape} {e' : EltTy} {src : Memref sig .tc sp s' e'}
    {sp' : Space} {s : Shape} {e : EltTy} {dst : Memref sig .tc sp' s e} (hN : dst.view.dmaCredit = N) {hsrc hdst}
    {k : Prog (TpuEff nD τ sig (Elt F) Λ₀ .tc) α} {Q : α → sProp 𝕄} :
    iprop(records m K ∗ Ow c 16 16 ∗ SxTok m c t)
      ⊢ iprop(((Ow c 16 16 ∗ SxDone m c t) -∗ run c k Q)
          -∗ run c (.op (.waitDma2 sm src dst hsrc hdst) fun _ => k) Q) := by
  subst hsm
  unfold Ow SxTok SxDone Gone'
  rw [if_neg ht]
  iintro ⟨#HR, ⟨%W, HO⟩, ⟨Hat, Hc⟩⟩ Hk
  iapply (Rounds.wp_wait_rest_token 𝒱₀ ER (Rd m) (c : Thread nD τ) none (κ := K (c, .inr (.inl t)))
      (wpE_waitDma2_eq 𝒱₀ (c : Thread nD τ) none Set.univ) (Set.mem_univ _) () (O := O c 16 16) (W := W) (R := 0) (m := 0) (T := ∅)
      (by rw [Nat.zero_add, expect_send m c t ht]; exact hN)) $$ [Hc HO Hat]
  · isplitr; · iapply (inv_at m K (c, .inr (.inl t))); iexact HR
    isplitl [Hc]; · rw [hN]; iexact Hc
    isplitl [HO]; · iexact HO
    isplitr; · rw [O_end, MayWait_zero]; iempintro
    iexact Hat
  iintro ⟨HO, Hat, -, Hpay⟩
  ihave Hs := (Entails.of_eq (rest_send m c t ht)) $$ Hpay
  imod (Rounds.cell_close ER (Rd m) (Set.mem_univ (K (c, .inr (.inl t)))) (fun h => h) (R := 0 + 1) (duties_later m (sendCell c t))) $$ [Hat] with Hz
  · isplitr; · iapply (inv_at m K (c, .inr (.inl t))); iexact HR
    iexact Hat
  iapply Hk
  isplitl [HO]; · iexists _; iexact HO
  isplitl [Hz] <;> iassumption

/-- Where the waits for the sends stand: the first `t` are made. -/
def SxState (t : ℕ) : sProp 𝕄 := iprop(records m K ∗ Ow c 16 16 ∗ Todo (SxTok m c) t ∗ Done (SxDone m c) t)

/-- The wait for the send to device `t`, made unless it is the device itself. -/
theorem sendwait (t : Dev nD) {sm : DmaSem sig} (hsm : sm = sendSem t) {sp : Space} {s' : Shape} {e' : EltTy} {src : Memref sig .tc sp s' e'}
    {sp' : Space} {s : Shape} {e : EltTy} {dst : Memref sig .tc sp' s e} (hN : dst.view.dmaCredit = N) {hsrc hdst}
    {k : Prog (TpuEff nD τ sig (Elt F) Λ₀ .tc) α} {Q : α → sProp 𝕄} :
    SxState m K c t.val
      ⊢ iprop((SxState m K c (t.val + 1) -∗ run c k Q)
          -∗ run c (if _ : (Scalar.cmpi .ne ((Scalar.extui (Scalar.cmpi .ne (BitVec.ofNat 32 t.val) (posWord c)) : BitVec 32)) 0#32 = 1#1) then
              .op (.waitDma2 sm src dst hsrc hdst) fun _ => k
            else k) Q) := by
  unfold SxState
  rw [todo_take (SxTok m c), done_put (SxDone m c)]
  by_cases h : (Scalar.cmpi .ne ((Scalar.extui (Scalar.cmpi .ne (BitVec.ofNat 32 t.val) (posWord c)) : BitVec 32)) 0#32 = 1#1)
  · rw [dif_pos h]
    iintro ⟨#HR, HO, ⟨Ht, HT⟩, HD⟩ Hk
    iapply (sendwait_core m K c t ((skip_iff c t).mp h) sm hsm hN) $$ [HO Ht]
    · isplitr; · iexact HR
      isplitl [HO] <;> iassumption
    iintro ⟨HO, Hd⟩
    iapply Hk
    isplitr; · iexact HR
    isplitl [HO]; · iexact HO
    isplitl [HT]; · iexact HT
    isplitl [Hd] <;> iassumption
  · have ht : t = c := by by_contra ht; exact h ((skip_iff c t).mpr ht)
    subst ht
    rw [dif_neg h, show SxTok m t t = iprop(atPos ER (sendCell t t) 0 ∅ 0 ∗ blkDone m t t) from by unfold SxTok Gone'; rw [if_pos rfl],
      show SxDone m t t = iprop(semVal (sendCell t t) 0 ∗ blkDone m t t) from rfl]
    iintro ⟨#HR, HO, ⟨⟨Hat, Hs⟩, HT⟩, HD⟩ Hk
    imod (Rounds.cell_close ER (Rd m) (Set.mem_univ (K (t, .inr (.inl t)))) (fun h => h) (R := 0) (duties_send_self m t)) $$ [Hat] with Hz
    · isplitr; · iapply (inv_at m K (t, .inr (.inl t))); iexact HR
      iexact Hat
    iapply Hk
    isplitr; · iexact HR
    isplitl [HO]; · iexact HO
    isplitl [HT]; · iexact HT
    isplitr [HD]
    · isplitl [Hz] <;> iassumption
    · iexact HD

end Cert.Scatter
-- ==== Proof.Chunks.lean ====
/-
# The moves of a device, as the kernel strings them

The signals, the whole computation of one chunk, and the passage from the sends to the receives and to the waits for the sends.
-/
module

public import proofs.«01_k».proof.Proof.Moves

@[expose] public section

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × KI → ℕ) (c : Dev nD) {α : Type}

/-- A program that has returned. -/
theorem returned {x : α} {Q : α → sProp 𝕄} : Q x ⊢ run c (.ret x) Q := by
  unfold run
  rw [wp_ret]
  iintro H
  imodintro
  iexact H

/-- The device a program runs on, learnt. -/
theorem learnt {cont : Dev nD → Prog (TpuEff nD τ sig (Elt F) Λ₀ .tc) α} {Q : α → sProp 𝕄} : run c (cont c) Q ⊢ run c (.op .deviceId cont) Q := by
  unfold run
  rw [wp_deviceId]

/-! ## Signals -/

/-- Where the signals stand: those before the `k`-th are made. -/
def SgState (k : ℕ) : sProp 𝕄 := iprop(records m K ∗ Ow c k 0 ∗ Todo (SigTok (F := F) c) k)

/-- The `k`-th signal. -/
theorem signal (k : Fin 16) (hk : k ≠ 0) {n : ℕ} (hn : n = nbr c k) {hlt : n < nD} {cont : PUnit → Prog (TpuEff nD τ sig (Elt F) Λ₀ .tc) α} {Q : α → sProp 𝕄} :
    SgState m K c k.val
      ⊢ iprop((SgState m K c (k.val + 1) -∗ run c (cont ⟨⟩) Q)
          -∗ run c (.op (.semSignal ((⟨n, hlt⟩ : Dev nD), .tc) barS (1#32 : BitVec 32).toInt) cont) Q) := by
  unfold SgState
  iintro ⟨#HR, HO, HT⟩ Hk
  iapply (signal_step (F := F) m K c k hk 0 ⟨n, hlt⟩ (Fin.ext hn)) $$ [HO HT]
  · isplitr; · iexact HR
    isplitl [HO] <;> iassumption
  iintro ⟨HO, HT⟩
  iapply Hk
  isplitr; · iexact HR
  isplitl [HO] <;> iassumption

/-! ## Chunks of the weight and of the product -/

/-- Fast memory for `x`, its contents unknown. -/
def xAny : sProp 𝕄 := iprop(∃ X, owns (c : Thread nD τ) xM fullShare X)

/-- The copy of `x` started. -/
theorem start_x (sm : DmaSem sig) (hsm : sm = copySem 2) {hsrc hdst hsem} {cont : PUnit → Prog (TpuEff nD τ sig (Elt F) Λ₀ .tc) α} {Q : α → sProp 𝕄} :
    iprop(xHome m c ∗ xAny (F := F) c ∗ semVal ((c : Thread nD τ), .dma (copySem 2)) 0)
      ⊢ iprop((xFly m c -∗ run c (cont ⟨⟩) Q) -∗ run c (.op (.enqueueDma xH (.here xM) (.dma sm) hsrc hdst hsem) cont) Q) := by
  subst hsm
  unfold xAny
  iintro ⟨Hx, ⟨%X, Hd⟩, Hv⟩ Hk
  iapply (copy_step (F := F) c (src := xH) (dst := xM) (copySem 2) (View.dmaCredit_pos _ (by decide)) (X := xOf m c) (Y := X)) $$ [Hx Hd Hv]
  · isplitl [Hx]; · unfold xHome; iexact Hx
    isplitl [Hd] <;> iassumption
  iintro Hf
  iapply Hk
  unfold xFly xHere xHome
  iexact Hf

/-- The chunks of the weight whose copy is not yet started. -/
def WTodo (r : ℕ) : sProp 𝕄 := Todo (fun r : Fin 8 => wHome m c (chk c r)) r
/-- The chunks of the weight read and given back. -/
def WDone (r : ℕ) : sProp 𝕄 := Done (fun r : Fin 8 => wHome m c (chk c r)) r
/-- The chunks of the product not yet computed. -/
def YTodo (r : ℕ) : sProp 𝕄 := Todo (fun r : Fin 8 => (chunkAny c (chk c r) : sProp 𝕄)) r

/-- The copy of the `r`-th chunk of the weight started. -/
theorem start_chunk (b : Fin 2) (r : Fin 8) {j j' : ℕ} (hj : r.val = j) (hj' : r.val + 1 = j') (sm : DmaSem sig) (hsm : sm = slotSem b) {off : Fin 2 → ℕ} (hoff : off = ![0, 256 * (chk c r).val])
    {p : ∀ a, off a + S2048x256.size a ≤ S2048x2048.size a} {hu}
    {hsrc : (wH.slice (Rect.unit (s := S2048x2048) off S2048x256.size p) hu).view.WordExact} {hdst : (slotW b).view.WordExact}
    {hsem : DmaTarget.Typed (nD := nD) (τ := τ) (p := .tc) .hbm (.dma sm) (.here (slotW b))}
    {cont : PUnit → Prog (TpuEff nD τ sig (Elt F) Λ₀ .tc) α} {Q : α → sProp 𝕄} :
    iprop(WTodo m c j ∗ Idle (F := F) c b)
      ⊢ iprop(((WTodo m c j' ∗ wFly m c b (chk c r)) -∗ run c (cont ⟨⟩) Q)
          -∗ run c (.op (.enqueueDma (wH.slice (Rect.unit (s := S2048x2048) off S2048x256.size p) hu) (.here (slotW b)) (.dma sm) hsrc hdst hsem) cont) Q) := by
  subst hj hj'
  exact start_w m c b r sm hsm hoff

/-- The `r`-th chunk's dead load. -/
theorem peek_chunk (r : Fin 8) {j : ℕ} (hj : r.val = j) {off : Fin 2 → ℕ} (hoff : off = ![0, 256 * (chk c r).val])
    {p : ∀ a, off a + S128x256.size a ≤ S128x2048.size a} {hl} {k : Prog (TpuEff nD τ sig (Elt F) Λ₀ .tc) α} {Q : α → sProp 𝕄} :
    (YTodo (F := F) c j : sProp 𝕄)
      ⊢ iprop((YTodo (F := F) c j -∗ run c k Q)
          -∗ run c (.op (.load yM (Rect.unit (s := S128x2048) off S128x256.size p).toLoadRect hl) fun _ => k) Q) := by
  subst hj
  unfold YTodo
  rw [todo_take]
  iintro ⟨Hy, HT⟩ Hk
  iapply (load_y (F := F) c (chk c r) hoff) $$ Hy
  iintro %Y Hy
  iapply Hk
  isplitl [Hy] <;> iassumption

/-- The `r`-th chunk's store: its two blocks are ready to leave. -/
theorem store_chunk (r : Fin 8) {j j' : ℕ} (hj : r.val = j) (hj' : r.val + 1 = j') (i₀ i₁ : Fin 16) (h₀ : i₀.val = 2 * r.val) (h₁ : i₁.val = 2 * r.val + 1)
    {off : Fin 2 → ℕ} (hoff : off = ![0, 256 * (chk c r).val]) {w : S128x256.Idx → Elt F .bf16} (hw : w = chunkVal m c (chk c r))
    {p : ∀ a, off a + S128x256.size a ≤ S128x2048.size a} {hx hm} {k : Prog (TpuEff nD τ sig (Elt F) Λ₀ .tc) α} {Q : α → sProp 𝕄} :
    (YTodo (F := F) c j : sProp 𝕄)
      ⊢ iprop(((YTodo (F := F) c j' ∗ Rdy m c i₀ ∗ Rdy m c i₁) -∗ run c k Q)
          -∗ run c (.op (.store yM (Rect.unit (s := S128x2048) off S128x256.size p) w Finset.univ hx hm) fun _ => k) Q) := by
  subst hj hj'
  unfold YTodo
  rw [todo_take]
  iintro ⟨Hy, HT⟩ Hk
  iapply (store_y m c r i₀ i₁ h₀ h₁ hoff hw) $$ Hy
  iintro ⟨H0, H1⟩
  iapply Hk
  isplitl [HT]; · iexact HT
  isplitl [H0] <;> iassumption

/-- The `r`-th chunk of the weight awaited. -/
theorem await_chunk (b : Fin 2) (r : Fin 8) {j j' : ℕ} (hj : r.val = j) (hj' : r.val + 1 = j') (n₂ : ℕ) (sm : DmaSem sig) (hsm : sm = slotSem b)
    {sp : Space} {s' : Shape} {e' : EltTy} {src : Memref sig .tc sp s' e'} {hsrc : src.view.WordExact} {hdst : (slotW b).view.WordExact}
    {cont : PUnit → Prog (TpuEff nD τ sig (Elt F) Λ₀ .tc) α} {Q : α → sProp 𝕄} :
    iprop(records m K ∗ Ow c 16 n₂ ∗ wFly m c b (chk c r) ∗ WDone m c j)
      ⊢ iprop(((Ow c 16 n₂ ∗ semVal ((c : Thread nD τ), .dma (slotSem b)) 0 ∗ wHere m c b (chk c r) ∗ WDone m c j') -∗ run c (cont ⟨⟩) Q)
          -∗ run c (.op (.waitDma2 sm src (slotW b) hsrc hdst) cont) Q) := by
  subst hj hj'
  exact await_w m K c b r sm hsm 16 n₂

/-- The `r`-th chunk of the weight awaited, it and `x` loaded. -/
theorem fetch (b : Fin 2) (r : Fin 8) {j j' : ℕ} (hj : r.val = j) (hj' : r.val + 1 = j') (n₂ : ℕ) (sm : DmaSem sig) (hsm : sm = slotSem b)
    {sp : Space} {s' : Shape} {e' : EltTy} {src : Memref sig .tc sp s' e'} {hsrc : src.view.WordExact} {hdst : (slotW b).view.WordExact}
    {px : ∀ a, (![0, 0] : Fin 2 → ℕ) a + S128x2048.size a ≤ S128x2048.size a} {pw : ∀ a, (![b.val, 0, 0] : Fin 3 → ℕ) a + S1x2048x256.size a ≤ S2x2048x256.size a}
    {hlx hlw} {cont : (S128x2048.Idx → Elt F .f32) → (S1x2048x256.Idx → Elt F .f32) → Prog (TpuEff nD τ sig (Elt F) Λ₀ .tc) α} {Q : α → sProp 𝕄} :
    iprop(records m K ∗ Ow c 16 n₂ ∗ wFly m c b (chk c r) ∗ WDone m c j ∗ xHere m c)
      ⊢ iprop((∀ Y, ⌜shapeCast S2048x256 Y shapeCasts_S1x2048x256_S2048x256 = wOf m c (chk c r)⌝ -∗
              (Ow c 16 n₂ ∗ Idle (F := F) c b ∗ WDone m c j' ∗ xHere m c) -∗ run c (cont (xOf m c) Y) Q)
          -∗ run c (.op (.waitDma2 sm src (slotW b) hsrc hdst) fun _ =>
              .op (.load xM (Rect.unit (s := S128x2048) ![0, 0] S128x2048.size px).toLoadRect hlx) fun x =>
              .op (.load wM (Rect.unit (s := S2x2048x256) ![b.val, 0, 0] S1x2048x256.size pw).toLoadRect hlw) fun Y => cont x Y) Q) := by
  iintro ⟨#HR, HO, Hf, HD, Hx⟩ Hk
  iapply (await_chunk m K c b r hj hj' n₂ sm hsm) $$ [HO Hf HD]
  · isplitr; · iexact HR
    isplitl [HO]; · iexact HO
    isplitl [Hf] <;> iassumption
  iintro ⟨HO, Hv, Hw, HD⟩
  iapply (load_x m c) $$ Hx
  iintro Hx
  iapply (load_w m c b (chk c r)) $$ [Hv Hw]
  · isplitl [Hv] <;> iassumption
  iintro %Y %hY Hi
  iapply Hk
  · ipureintro; exact hY
  isplitl [HO]; · iexact HO
  isplitl [Hi]; · iexact Hi
  isplitl [HD] <;> iassumption

/-- The `r`-th chunk awaited, multiplied and stored. -/
theorem compute (b : Fin 2) (r : Fin 8) {j j' : ℕ} (hj : r.val = j) (hj' : r.val + 1 = j') (i₀ i₁ : Fin 16) (h₀ : i₀.val = 2 * r.val) (h₁ : i₁.val = 2 * r.val + 1)
    (n₂ : ℕ) (sm : DmaSem sig) (hsm : sm = slotSem b) {off : Fin 2 → ℕ} (hoff : off = ![0, 256 * (chk c r).val])
    (pay : (S128x2048.Idx → Elt F .f32) → (S1x2048x256.Idx → Elt F .f32) → S128x256.Idx → Elt F .bf16)
    (hpay : ∀ x Y, pay x Y = chunkOf x (shapeCast S2048x256 Y shapeCasts_S1x2048x256_S2048x256))
    {sp : Space} {s' : Shape} {e' : EltTy} {src : Memref sig .tc sp s' e'} {hsrc : src.view.WordExact} {hdst : (slotW b).view.WordExact}
    {px : ∀ a, (![0, 0] : Fin 2 → ℕ) a + S128x2048.size a ≤ S128x2048.size a} {pw : ∀ a, (![b.val, 0, 0] : Fin 3 → ℕ) a + S1x2048x256.size a ≤ S2x2048x256.size a}
    {p p' : ∀ a, off a + S128x256.size a ≤ S128x2048.size a} {hlx hlw hl hx hm}
    {k : Prog (TpuEff nD τ sig (Elt F) Λ₀ .tc) α} {Q : α → sProp 𝕄} :
    iprop(records m K ∗ Ow c 16 n₂ ∗ wFly m c b (chk c r) ∗ WDone m c j ∗ xHere m c ∗ YTodo (F := F) c j)
      ⊢ iprop(((Ow c 16 n₂ ∗ Idle (F := F) c b ∗ WDone m c j' ∗ xHere m c ∗ YTodo (F := F) c j' ∗ Rdy m c i₀ ∗ Rdy m c i₁) -∗ run c k Q)
          -∗ run c (.op (.waitDma2 sm src (slotW b) hsrc hdst) fun _ =>
              .op (.load xM (Rect.unit (s := S128x2048) ![0, 0] S128x2048.size px).toLoadRect hlx) fun x =>
              .op (.load wM (Rect.unit (s := S2x2048x256) ![b.val, 0, 0] S1x2048x256.size pw).toLoadRect hlw) fun Y =>
              .op (.load yM (Rect.unit (s := S128x2048) off S128x256.size p).toLoadRect hl) fun _ =>
              .op (.store yM (Rect.unit (s := S128x2048) off S128x256.size p') (pay x Y) Finset.univ hx hm) fun _ => k) Q) := by
  iintro ⟨#HR, HO, Hf, HD, Hx, HY⟩ Hk
  iapply (fetch m K c b r hj hj' n₂ sm hsm) $$ [HO Hf HD Hx]
  · isplitr; · iexact HR
    isplitl [HO]; · iexact HO
    isplitl [Hf]; · iexact Hf
    isplitl [HD] <;> iassumption
  iintro %Y %hY ⟨HO, Hi, HD, Hx⟩
  iapply (peek_chunk c r hj hoff) $$ HY
  iintro HY
  iapply (store_chunk m c r hj hj' i₀ i₁ h₀ h₁ hoff (by rw [hpay, hY]; rfl)) $$ HY
  iintro H
  iapply Hk
  isplitl [HO]; · iexact HO
  isplitl [Hi]; · iexact Hi
  isplitl [HD]; · iexact HD
  isplitl [Hx] <;> iassumption

/-- What the sends keep besides the shared facts and the debt. -/
def TxRest (i : ℕ) : sProp 𝕄 := iprop(Todo (TxTok (F := F) c) i ∗ Todo (Land (F := F) c) i ∗ Done (Gone m c) i)
theorem txState_eq (i : ℕ) : TxState m K c i = iprop(records m K ∗ Ow c 16 i ∗ TxRest m c i) := rfl

/-- Once the barrier is passed, the sends can begin. -/
theorem tx_begin : iprop(records m K ∗ Ow c 16 0 ∗ Todo (TxTok (F := F) c) 0 ∗ Todo (Land (F := F) c) 0) ⊢ TxState m K c 0 := by
  unfold TxState
  rw [done_zero]
  iintro ⟨#HR, HO, HT, HL⟩
  isplitr; · iexact HR
  isplitl [HO]; · iexact HO
  isplitl [HT]; · iexact HT
  isplitl [HL]; · iexact HL
  iempintro

/-- After the last send: the device's own block apart from the blocks that left. -/
theorem tx_end : TxState m K c 16 ⊢ iprop(records m K ∗ Ow c 16 16 ∗ blkDone m c c ∗ bigSep (Finset.univ.erase c) (Gone' m c)) := by
  unfold TxState
  rw [done_all, show (bigSep Finset.univ (Gone m c) : sProp 𝕄) = iprop(blkDone m c c ∗ bigSep (Finset.univ.erase c) (Gone' m c)) from
    (bigSep_univ_equiv (tgtE c) (Gone' m c)).symm.trans ((bigSep_univ_at (Gone' m c) c).trans (by rw [show Gone' m c c = blkDone m c c from if_pos rfl]))]
  iintro ⟨#HR, HO, HT, HL, HG⟩
  isplitr; · iexact HR
  isplitl [HO]; · iexact HO
  iexact HG

/-- The rows of the result once the device's own are in place. -/
theorem rows_in : iprop(rowsGot m c c ∗ bigSep (Finset.univ.erase c) fun p => (rowsAny c p : sProp 𝕄)) ⊢ bigSep Finset.univ (RowsIn m c) := by
  rw [bigSep_univ_at (RowsIn m c) c, show RowsIn m c c = rowsGot m c c from if_pos rfl]
  iintro ⟨H, HR⟩
  isplitl [H]; · iexact H
  iapply (show (bigSep (Finset.univ.erase c) fun p => (rowsAny c p : sProp 𝕄)) ⊢ bigSep (Finset.univ.erase c) (RowsIn m c) from
    bigSep_mono fun p hp => by unfold RowsIn; rw [if_neg (Finset.ne_of_mem_erase hp)]; exact Idealize.SL.BI.Entails.refl _)
  iexact HR

/-- The receives can begin once the device's own rows are in place. -/
theorem rx_begin : iprop(records m K ∗ Ow c 16 16 ∗ bigSep Finset.univ (RxTok (F := F) c) ∗ rowsGot m c c ∗ bigSep (Finset.univ.erase c) fun p => (rowsAny c p : sProp 𝕄))
    ⊢ RxState m K c 0 := by
  unfold RxState
  rw [done_zero, done_zero, todo_zero, todo_zero]
  iintro ⟨#HR, HO, HT, Hr⟩
  isplitr; · iexact HR
  isplitl [HO]; · iexact HO
  isplitl [HT]; · iexact HT
  isplitl [Hr]; · iapply (rows_in m c); iexact Hr
  isplitl <;> iempintro

theorem rx_end : RxState m K c 16 ⊢ iprop(records m K ∗ Ow c 16 16 ∗ bigSep Finset.univ (RxDone (F := F) c) ∗ bigSep Finset.univ (rowsGot m c)) := by
  unfold RxState
  rw [done_all, done_all]
  iintro ⟨#HR, HO, HT, HI, HD, HG⟩
  isplitr; · iexact HR
  isplitl [HO]; · iexact HO
  isplitl [HD] <;> iassumption

/-- The waits for the sends can begin. -/
theorem sx_begin : iprop(records m K ∗ Ow c 16 16 ∗ (bigSep Finset.univ fun t => (atPos ER (sendCell c t) 0 ∅ 0 : sProp 𝕄)) ∗ blkDone m c c ∗ bigSep (Finset.univ.erase c) (Gone' m c))
    ⊢ SxState m K c 0 := by
  unfold SxState
  rw [done_zero, todo_zero, show (bigSep Finset.univ (SxTok m c) : sProp 𝕄) = iprop((bigSep Finset.univ fun t => (atPos ER (sendCell c t) 0 ∅ 0 : sProp 𝕄)) ∗ bigSep Finset.univ (Gone' m c)) from bigSep_sep' _ _ _,
    bigSep_univ_at (Gone' m c) c, show Gone' m c c = blkDone m c c from if_pos rfl]
  iintro ⟨#HR, HO, HT, Hr⟩
  isplitr; · iexact HR
  isplitl [HO]; · iexact HO
  isplitl [HT Hr]; · isplitl [HT] <;> iassumption
  iempintro

theorem sx_end : SxState m K c 16 ⊢ iprop(Ow c 16 16 ∗ bigSep Finset.univ (SxDone m c)) := by
  unfold SxState
  rw [done_all]
  iintro ⟨#HR, HO, HT, HD⟩
  isplitl [HO] <;> iassumption

end Cert.Scatter
-- ==== Proof.Body1.lean ====
/-
# The kernel's first stretch

The signals, the copies started, the first chunk computed, the barrier passed and the first two blocks sent.
-/
module

public import proofs.«01_k».proof.Proof.Chunks

@[expose] public section

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × KI → ℕ) (c : Dev nD)

/-- The device learnt, the first five signals. -/
theorem part1 (Q : (Σ' (d0 : Dev nD) (v2 : BitVec 32) (v3 : Sems sig S_) (v24 : BitVec 32), BitVec 32) → sProp 𝕄) :
    iprop(SgState m K c 1 ∗ (∀ v24, ∀ w, SgState m K c 6 -∗ Q ⟨c, posWord c, SemArray.scalar (sig.barrier 0 rfl), v24, w⟩))
      ⊢ run c (k0_part1 (F := F) xH (Memref.isWhole_whole _) wH (Memref.isWhole_whole _) oM (Memref.isWhole_whole _) xM (Memref.isWhole_whole _) yM (Memref.isWhole_whole _) rM (Memref.isWhole_whole _) wM (Memref.isWhole_whole _) cc0_scratch4 cc0_scratch5 cc0_scratch6) Q := by
  rw [k0_part1_eq_skeleton]
  unfold k0_part1_skel posWord
  simp (config := {zeta := false, zetaHave := false}) only [Prog.lift, Prog.bind_op, Prog.bind_ret, Prog.pure_eq_ret, semSignalWord, semWaitWord]
  iintro ⟨H, Hk⟩
  iapply (learnt (F := F) c)
  iapply (signal m K c ⟨1, by decide⟩ (by decide) (dev_nbr c).1.1) $$ H
  iintro H
  iapply (signal m K c ⟨2, by decide⟩ (by decide) (dev_nbr c).1.2.1) $$ H
  iintro H
  iapply (signal m K c ⟨3, by decide⟩ (by decide) (dev_nbr c).1.2.2.1) $$ H
  iintro H
  iapply (signal m K c ⟨4, by decide⟩ (by decide) (dev_nbr c).1.2.2.2.1) $$ H
  iintro H
  iapply (signal m K c ⟨5, by decide⟩ (by decide) (dev_nbr c).1.2.2.2.2) $$ H
  iintro H
  iapply (returned (F := F) c)
  iapply Hk
  iexact H

/-- Signals six to eleven. -/
theorem part2 (w₁ w₂ w₃ : BitVec 32) (Q : (Σ' (v48 : BitVec 32), BitVec 32) → sProp 𝕄) :
    iprop(SgState m K c 6 ∗ (∀ r, SgState m K c 12 -∗ Q r))
      ⊢ run c (k0_part2 (F := F) xH (Memref.isWhole_whole _) wH (Memref.isWhole_whole _) oM (Memref.isWhole_whole _) xM (Memref.isWhole_whole _) yM (Memref.isWhole_whole _) rM (Memref.isWhole_whole _) wM (Memref.isWhole_whole _) cc0_scratch4 cc0_scratch5 cc0_scratch6 c w₁ (SemArray.scalar (sig.barrier 0 rfl)) w₂ w₃) Q := by
  rw [k0_part2_eq_skeleton]
  unfold k0_part2_skel
  simp (config := {zeta := false, zetaHave := false}) only [Prog.lift, Prog.bind_op, Prog.bind_ret, Prog.pure_eq_ret, semSignalWord, semWaitWord]
  iintro ⟨H, Hk⟩
  iapply (signal m K c ⟨6, by decide⟩ (by decide) (dev_nbr c).2.1.1) $$ H
  iintro H
  iapply (signal m K c ⟨7, by decide⟩ (by decide) (dev_nbr c).2.1.2.1) $$ H
  iintro H
  iapply (signal m K c ⟨8, by decide⟩ (by decide) (dev_nbr c).2.1.2.2.1) $$ H
  iintro H
  iapply (signal m K c ⟨9, by decide⟩ (by decide) (dev_nbr c).2.1.2.2.2.1) $$ H
  iintro H
  iapply (signal m K c ⟨10, by decide⟩ (by decide) (dev_nbr c).2.1.2.2.2.2) $$ H
  iintro H
  iapply (signal m K c ⟨11, by decide⟩ (by decide) (dev_nbr c).2.2.1) $$ H
  iintro H
  iapply (returned (F := F) c)
  iapply Hk
  iexact H

/-- The last signals; the copy of `x` started. -/
theorem part3 (w₁ w₂ w₃ : BitVec 32) (Q : (Σ' (v66 : BitVec 32) (v77 : BitVec 1) (v78 : BitVec 32), BitVec 32) → sProp 𝕄) :
    iprop(SgState m K c 12 ∗ xHome m c ∗ xAny (F := F) c ∗ semVal ((c : Thread nD τ), .dma (copySem 2)) 0 ∗ (∀ r, SgState m K c 16 -∗ xFly m c -∗ Q r))
      ⊢ run c (k0_part3 (F := F) xH (Memref.isWhole_whole _) wH (Memref.isWhole_whole _) oM (Memref.isWhole_whole _) xM (Memref.isWhole_whole _) yM (Memref.isWhole_whole _) rM (Memref.isWhole_whole _) wM (Memref.isWhole_whole _) cc0_scratch4 cc0_scratch5 cc0_scratch6 c w₁ (SemArray.scalar (sig.barrier 0 rfl)) w₂ w₃) Q := by
  rw [k0_part3_eq_skeleton]
  unfold k0_part3_skel
  simp (config := {zeta := false, zetaHave := false}) only [Prog.lift, Prog.bind_op, Prog.bind_ret, Prog.pure_eq_ret, semSignalWord, semWaitWord]
  iintro ⟨H, Hx, Hd, Hv, Hk⟩
  iapply (signal m K c ⟨12, by decide⟩ (by decide) (dev_nbr c).2.2.2.1) $$ H
  iintro H
  iapply (signal m K c ⟨13, by decide⟩ (by decide) (dev_nbr c).2.2.2.2.1) $$ H
  iintro H
  iapply (signal m K c ⟨14, by decide⟩ (by decide) (dev_nbr c).2.2.2.2.2.1) $$ H
  iintro H
  iapply (signal m K c ⟨15, by decide⟩ (by decide) (dev_nbr c).2.2.2.2.2.2) $$ H
  iintro H
  iapply (start_x m c (copySem 2) rfl) $$ [Hx Hd Hv]
  · isplitl [Hx]; · iexact Hx
    isplitl [Hd] <;> iassumption
  iintro Hf
  iapply (returned (F := F) c)
  iapply Hk $$ H Hf

/-- The copy of the first chunk of the weight started. -/
theorem part4 (w₁ w₂ : BitVec 32) (w₃ : BitVec 1) (w₄ w₅ : BitVec 32) (Q : PUnit → sProp 𝕄) :
    iprop(WTodo m c 0 ∗ Idle (F := F) c 0 ∗ (WTodo m c 1 -∗ wFly m c 0 (chk c 0) -∗ Q ⟨⟩))
      ⊢ run c (k0_part4 (F := F) xH (Memref.isWhole_whole _) wH (Memref.isWhole_whole _) oM (Memref.isWhole_whole _) xM (Memref.isWhole_whole _) yM (Memref.isWhole_whole _) rM (Memref.isWhole_whole _) wM (Memref.isWhole_whole _) cc0_scratch4 cc0_scratch5 cc0_scratch6 c w₁ w₂ w₃ w₄ w₅) Q := by
  rw [k0_part4_eq_skeleton]
  unfold k0_part4_skel
  simp (config := {zeta := false, zetaHave := false}) only [Prog.lift, Prog.bind_op, Prog.bind_ret, Prog.pure_eq_ret]
  iintro ⟨HT, Hi, Hk⟩
  iapply (start_chunk m c 0 0 (j := 0) (j' := 1) rfl rfl (slotSem 0) rfl (off1_eq c 0)) $$ [HT Hi]
  · isplitl [HT] <;> iassumption
  iintro ⟨HT, Hf⟩
  iapply (returned (F := F) c)
  iapply Hk $$ HT Hf

/-- The copy of the second chunk of the weight started; `x` awaited. -/
theorem part5 (w₁ : BitVec 32) (Q : (Σ' (v139 : BitVec 32) (v140 : BitVec 32) (v151 : BitVec 1) (v152 : BitVec 32), BitVec 32) → sProp 𝕄) :
    iprop(records m K ∗ Ow c 16 0 ∗ WTodo m c 1 ∗ Idle (F := F) c 1 ∗ xFly m c
        ∗ (∀ r, Ow c 16 0 -∗ WTodo m c 2 -∗ wFly m c 1 (chk c 1) -∗ semVal ((c : Thread nD τ), .dma (copySem 2)) 0 -∗ xHere m c -∗ xHome m c -∗ Q r))
      ⊢ run c (k0_part5 (F := F) xH (Memref.isWhole_whole _) wH (Memref.isWhole_whole _) oM (Memref.isWhole_whole _) xM (Memref.isWhole_whole _) yM (Memref.isWhole_whole _) rM (Memref.isWhole_whole _) wM (Memref.isWhole_whole _) cc0_scratch4 cc0_scratch5 cc0_scratch6 c w₁) Q := by
  rw [k0_part5_eq_skeleton]
  unfold k0_part5_skel
  simp (config := {zeta := false, zetaHave := false}) only [Prog.lift, Prog.bind_op, Prog.bind_ret, Prog.pure_eq_ret]
  iintro ⟨#HR, HO, HT, Hi, Hx, Hk⟩
  iapply (start_chunk m c 1 1 (j := 1) (j' := 2) rfl rfl (slotSem 1) rfl (off1_eq c 1)) $$ [HT Hi]
  · isplitl [HT] <;> iassumption
  iintro ⟨HT, Hf⟩
  iapply (await_step (F := F) m K c (dst := xM) 2 (copySem 2) rfl 16 0) $$ [HO Hx]
  · isplitr; · iexact HR
    isplitl [HO]; · iexact HO
    unfold xFly; iexact Hx
  iintro ⟨HO, Hv, Hx, Hh⟩
  iapply (returned (F := F) c)
  iapply Hk $$ HO HT Hf Hv Hx Hh

/-- The first chunk computed. -/
theorem part6 (w₁ w₂ w₃ : BitVec 32) (w₄ : BitVec 1) (w₅ w₆ : BitVec 32) (Q : (Σ' (c2_i32_126 : BitVec 32) (v178 : BitVec 32) (v183 : BitVec 32) (v185 : BitVec 32), BitVec 1) → sProp 𝕄) :
    iprop(records m K ∗ Ow c 16 0 ∗ wFly m c 0 (chk c 0) ∗ WDone m c 0 ∗ xHere m c ∗ YTodo (F := F) c 0
        ∗ (∀ r, (Ow c 16 0 ∗ Idle (F := F) c 0 ∗ WDone m c 1 ∗ xHere m c ∗ YTodo (F := F) c 1 ∗ Rdy m c ⟨0, by decide⟩ ∗ Rdy m c ⟨1, by decide⟩) -∗ Q r))
      ⊢ run c (k0_part6 (F := F) xH (Memref.isWhole_whole _) wH (Memref.isWhole_whole _) oM (Memref.isWhole_whole _) xM (Memref.isWhole_whole _) yM (Memref.isWhole_whole _) rM (Memref.isWhole_whole _) wM (Memref.isWhole_whole _) cc0_scratch4 cc0_scratch5 cc0_scratch6 c w₁ w₂ w₃ w₄ w₅ w₆) Q := by
  rw [k0_part6_eq_skeleton]
  unfold k0_part6_skel
  simp (config := {zeta := false, zetaHave := false}) only [Prog.lift, Prog.bind_op, Prog.bind_ret, Prog.pure_eq_ret]
  iintro ⟨#HR, HO, Hf, HD, Hx, HY, Hk⟩
  iapply (compute m K c 0 0 (j := 0) (j' := 1) rfl rfl ⟨0, by decide⟩ ⟨1, by decide⟩ rfl rfl 0 (slotSem 0) rfl (off2_eq c 0) k0_pay1 (fun _ _ => rfl)) $$ [HO Hf HD Hx HY]
  · isplitr; · iexact HR
    isplitl [HO]; · iexact HO
    isplitl [Hf]; · iexact Hf
    isplitl [HD]; · iexact HD
    isplitl [Hx] <;> iassumption
  iintro H
  iapply (returned (F := F) c)
  iapply Hk
  iexact H

/-- The third chunk's copy started, the barrier passed, the first two blocks sent. -/
theorem part7 (w₁ w₂ w₃ w₄ w₅ w₆ : BitVec 32) (w₇ : BitVec 1) (Q : (Σ' (c2_i32_149 : BitVec 32) (v214 : BitVec 32) (v219 : BitVec 32), BitVec 32) → sProp 𝕄) :
    iprop(records m K ∗ Ow c 16 0 ∗ WTodo m c 2 ∗ Idle (F := F) c 0 ∗ cred (tallyAt (barCell c) () 15) ∗ atPos ER (barCell c) 0 ∅ 0
        ∗ Todo (TxTok (F := F) c) 0 ∗ Rdy m c ⟨0, by decide⟩ ∗ Rdy m c ⟨1, by decide⟩
        ∗ (∀ r, WTodo m c 3 -∗ wFly m c 0 (chk c 2) -∗ semVal (barCell c) 0 -∗ TxState m K c 2 -∗ Q r))
      ⊢ run c (k0_part7 (F := F) xH (Memref.isWhole_whole _) wH (Memref.isWhole_whole _) oM (Memref.isWhole_whole _) xM (Memref.isWhole_whole _) yM (Memref.isWhole_whole _) rM (Memref.isWhole_whole _) wM (Memref.isWhole_whole _) cc0_scratch4 cc0_scratch5 cc0_scratch6 c w₁ (SemArray.scalar (sig.barrier 0 rfl)) w₂ w₃ w₄ w₅ w₆ w₇) Q := by
  rw [k0_part7_eq_skeleton]
  unfold k0_part7_skel
  simp (config := {zeta := false, zetaHave := false}) only [Prog.lift, Prog.bind_op, Prog.bind_ret, Prog.pure_eq_ret, semSignalWord, semWaitWord]
  iintro ⟨#HR, HO, HT, Hi, Hc, Hat, Htx, H0, H1, Hk⟩
  iapply (start_chunk m c 0 2 (j := 2) (j' := 3) rfl rfl (slotSem 0) rfl (off1_eq c 2)) $$ [HT Hi]
  · isplitl [HT] <;> iassumption
  iintro ⟨HT, Hf⟩
  iapply (barrier_step (F := F) m K c 0) $$ [HO Hc Hat]
  · isplitr; · iexact HR
    isplitl [HO]; · iexact HO
    isplitl [Hc] <;> iassumption
  iintro ⟨HO, Hb, HL⟩
  ihave H := (tx_begin (F := F) m K c) $$ [HO Htx HL]
  · isplitr; · iexact HR
    isplitl [HO]; · iexact HO
    isplitl [Htx] <;> iassumption
  iapply (send m K c ⟨0, by decide⟩ send0 (dev_send c).1.1) $$ [H H0]
  · isplitl [H] <;> iassumption
  iintro H
  iapply (send m K c ⟨1, by decide⟩ send1 (dev_send c).1.2.1) $$ [H H1]
  · isplitl [H] <;> iassumption
  iintro H
  iapply (returned (F := F) c)
  iapply Hk $$ HT Hf Hb H

/-- Words only. -/
theorem part8 (w₁ w₂ w₃ w₄ w₅ : BitVec 32) (Q : BitVec 32 → sProp 𝕄) :
    iprop(∀ r, Q r) ⊢ run c (k0_part8 (F := F) xH (Memref.isWhole_whole _) wH (Memref.isWhole_whole _) oM (Memref.isWhole_whole _) xM (Memref.isWhole_whole _) yM (Memref.isWhole_whole _) rM (Memref.isWhole_whole _) wM (Memref.isWhole_whole _) cc0_scratch4 cc0_scratch5 cc0_scratch6 w₁ w₂ w₃ w₄ w₅) Q := by
  rw [k0_part8_eq_skeleton]
  unfold k0_part8_skel
  simp (config := {zeta := false, zetaHave := false}) only [Prog.lift, Prog.bind_op, Prog.bind_ret, Prog.pure_eq_ret]
  iintro Hk
  iapply (returned (F := F) c)
  iapply Hk

end Cert.Scatter
-- ==== Proof.Body2.lean ====
/-
# The kernel's second stretch

The second chunk to the fifth computed, blocks two to seven sent.
-/
module

public import proofs.«01_k».proof.Proof.Chunks

@[expose] public section

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × KI → ℕ) (c : Dev nD)

/-- The second chunk computed. -/
theorem part9 (w₁ : BitVec 32) (w₂ : BitVec 32) (Q : PUnit → sProp 𝕄) :
    iprop(TxState m K c 2 ∗ wFly m c 1 (chk c 1) ∗ WDone m c 1 ∗ xHere m c ∗ YTodo (F := F) c 1
        ∗ (∀ r, TxState m K c 2 -∗ (Idle (F := F) c 1 ∗ WDone m c 2 ∗ xHere m c ∗ YTodo (F := F) c 2 ∗ Rdy m c ⟨2, by decide⟩ ∗ Rdy m c ⟨3, by decide⟩) -∗ Q r))
      ⊢ run c (k0_part9 (F := F) xH (Memref.isWhole_whole _) wH (Memref.isWhole_whole _) oM (Memref.isWhole_whole _) xM (Memref.isWhole_whole _) yM (Memref.isWhole_whole _) rM (Memref.isWhole_whole _) wM (Memref.isWhole_whole _) cc0_scratch4 cc0_scratch5 cc0_scratch6 c w₁ w₂) Q := by
  rw [k0_part9_eq_skeleton]
  unfold k0_part9_skel
  simp (config := {zeta := false, zetaHave := false}) only [Prog.lift, Prog.bind_op, Prog.bind_ret, Prog.pure_eq_ret]
  rw [txState_eq m K c 2]
  iintro ⟨⟨#HR, HO, HX⟩, Hf, HD, Hx, HY, Hk⟩
  iapply (compute m K c 1 1 (j := 1) (j' := 2) rfl rfl ⟨2, by decide⟩ ⟨3, by decide⟩ rfl rfl 2 (slotSem 1) rfl (off2_eq c 1) k0_pay2 (fun _ _ => rfl)) $$ [HO Hf HD Hx HY]
  · isplitr; · iexact HR
    isplitl [HO]; · iexact HO
    isplitl [Hf]; · iexact Hf
    isplitl [HD]; · iexact HD
    isplitl [Hx] <;> iassumption
  iintro ⟨HO, H⟩
  iapply (returned (F := F) c)
  iapply Hk $$ [HO HX] H
  isplitr; · iexact HR
  isplitl [HO] <;> iassumption

set_option maxHeartbeats 2000000 in
/-- The fourth chunk's copy started, the next two blocks sent. -/
theorem part10 (w₁ : BitVec 32) (w₂ : BitVec 32) (Q : (Σ' (v327 : BitVec 32) (c2_i32_215 : BitVec 32) (v328 : BitVec 32), BitVec 1) → sProp 𝕄) :
    iprop(WTodo m c 3 ∗ Idle (F := F) c 1 ∗ TxState m K c 2 ∗ Rdy m c ⟨2, by decide⟩ ∗ Rdy m c ⟨3, by decide⟩
        ∗ (∀ r, WTodo m c 4 -∗ wFly m c 1 (chk c 3) -∗ TxState m K c 4 -∗ Q r))
      ⊢ run c (k0_part10 (F := F) xH (Memref.isWhole_whole _) wH (Memref.isWhole_whole _) oM (Memref.isWhole_whole _) xM (Memref.isWhole_whole _) yM (Memref.isWhole_whole _) rM (Memref.isWhole_whole _) wM (Memref.isWhole_whole _) cc0_scratch4 cc0_scratch5 cc0_scratch6 c w₁ w₂) Q := by
  rw [k0_part10_eq_skeleton]
  unfold k0_part10_skel
  simp (config := {zeta := false, zetaHave := false}) only [Prog.lift, Prog.bind_op, Prog.bind_ret, Prog.pure_eq_ret]
  iintro ⟨HT, Hi, H, H2, H3, Hk⟩
  iapply (start_chunk m c 1 3 (j := 3) (j' := 4) rfl rfl (slotSem 1) rfl (off1_eq c 3)) $$ [HT Hi]
  · isplitl [HT] <;> iassumption
  iintro ⟨HT, Hf⟩
  iapply (send m K c ⟨2, by decide⟩ send2 (dev_send c).1.2.2.1) $$ [H H2]
  · isplitl [H] <;> iassumption
  iintro H
  iapply (send m K c ⟨3, by decide⟩ send3 (dev_send c).1.2.2.2) $$ [H H3]
  · isplitl [H] <;> iassumption
  iintro H
  iapply (returned (F := F) c)
  iapply Hk $$ HT Hf H

/-- The third chunk multiplied. -/
theorem part11 (w₁ : BitVec 32) (w₂ : BitVec 32) (w₃ : BitVec 32) (w₄ : BitVec 32) (w₅ : BitVec 1) (Q : FVec F S128x256 .bf16 → sProp 𝕄) :
    iprop(TxState m K c 4 ∗ wFly m c 0 (chk c 2) ∗ WDone m c 2 ∗ xHere m c ∗ YTodo (F := F) c 2
        ∗ (TxState m K c 4 -∗ (Idle (F := F) c 0 ∗ WDone m c 3 ∗ xHere m c) -∗ YTodo (F := F) c 2 -∗ Q (chunkVal m c (chk c 2))))
      ⊢ run c (k0_part11 (F := F) xH (Memref.isWhole_whole _) wH (Memref.isWhole_whole _) oM (Memref.isWhole_whole _) xM (Memref.isWhole_whole _) yM (Memref.isWhole_whole _) rM (Memref.isWhole_whole _) wM (Memref.isWhole_whole _) cc0_scratch4 cc0_scratch5 cc0_scratch6 c w₁ w₂ w₃ w₄ w₅) Q := by
  rw [k0_part11_eq_skeleton]
  unfold k0_part11_skel
  simp (config := {zeta := false, zetaHave := false}) only [Prog.lift, Prog.bind_op, Prog.bind_ret, Prog.pure_eq_ret]
  rw [txState_eq m K c 4]
  iintro ⟨⟨#HR, HO, HX⟩, Hf, HD, Hx, HY, Hk⟩
  iapply (fetch m K c 0 2 (j := 2) (j' := 3) rfl rfl 4 (slotSem 0) rfl) $$ [HO Hf HD Hx]
  · isplitr; · iexact HR
    isplitl [HO]; · iexact HO
    isplitl [Hf]; · iexact Hf
    isplitl [HD] <;> iassumption
  iintro %Y %hY ⟨HO, H⟩
  iapply (peek_chunk (F := F) c 2 (j := 2) rfl (off2_eq c 2)) $$ HY
  iintro HY
  iapply (returned (F := F) c)
  rw [show k0_pay3 (xOf m c) Y = chunkVal m c (chk c 2) from (show k0_pay3 (xOf m c) Y = chunkOf (xOf m c) (shapeCast S2048x256 Y shapeCasts_S1x2048x256_S2048x256) from rfl).trans (by rw [hY]; rfl)]
  iapply Hk $$ [HO HX] H HY
  isplitr; · iexact HR
  isplitl [HO] <;> iassumption

set_option maxHeartbeats 2000000 in
/-- The third chunk stored, the fifth chunk's copy started, the fifth block sent. -/
theorem part12 (w₁ : BitVec 32) (w₂ : BitVec 32) (Q : (Σ' (v398 : BitVec 32) (v400 : BitVec 32), BitVec 32) → sProp 𝕄) :
    iprop(YTodo (F := F) c 2 ∗ WTodo m c 4 ∗ Idle (F := F) c 0 ∗ TxState m K c 4
        ∗ (∀ r, YTodo (F := F) c 3 -∗ WTodo m c 5 -∗ wFly m c 0 (chk c 4) -∗ TxState m K c 5 -∗ Rdy m c ⟨5, by decide⟩ -∗ Q r))
      ⊢ run c (k0_part12 (F := F) xH (Memref.isWhole_whole _) wH (Memref.isWhole_whole _) oM (Memref.isWhole_whole _) xM (Memref.isWhole_whole _) yM (Memref.isWhole_whole _) rM (Memref.isWhole_whole _) wM (Memref.isWhole_whole _) cc0_scratch4 cc0_scratch5 cc0_scratch6 c w₁ w₂ (chunkVal m c (chk c 2))) Q := by
  rw [k0_part12_eq_skeleton]
  unfold k0_part12_skel
  simp (config := {zeta := false, zetaHave := false}) only [Prog.lift, Prog.bind_op, Prog.bind_ret, Prog.pure_eq_ret]
  iintro ⟨HY, HT, Hi, H, Hk⟩
  iapply (store_chunk m c 2 (j := 2) (j' := 3) rfl rfl ⟨4, by decide⟩ ⟨5, by decide⟩ rfl rfl (off2_eq c 2) rfl) $$ HY
  iintro ⟨HY, H4, H5⟩
  iapply (start_chunk m c 0 4 (j := 4) (j' := 5) rfl rfl (slotSem 0) rfl (off1_eq c 4)) $$ [HT Hi]
  · isplitl [HT] <;> iassumption
  iintro ⟨HT, Hf⟩
  iapply (send m K c ⟨4, by decide⟩ send4 (dev_send c).2.1.1) $$ [H H4]
  · isplitl [H] <;> iassumption
  iintro H
  iapply (returned (F := F) c)
  iapply Hk $$ HY HT Hf H H5

set_option maxHeartbeats 2000000 in
/-- The sixth block sent. -/
theorem part13 (w₁ : BitVec 32) (w₂ : BitVec 32) (w₃ : BitVec 32) (w₄ : BitVec 32) (Q : (Σ' (v421 : BitVec 32), BitVec 32) → sProp 𝕄) :
    iprop(TxState m K c 5 ∗ Rdy m c ⟨5, by decide⟩
        ∗ (∀ r, TxState m K c 6 -∗ Q r))
      ⊢ run c (k0_part13 (F := F) xH (Memref.isWhole_whole _) wH (Memref.isWhole_whole _) oM (Memref.isWhole_whole _) xM (Memref.isWhole_whole _) yM (Memref.isWhole_whole _) rM (Memref.isWhole_whole _) wM (Memref.isWhole_whole _) cc0_scratch4 cc0_scratch5 cc0_scratch6 c w₁ w₂ w₃ w₄) Q := by
  rw [k0_part13_eq_skeleton]
  unfold k0_part13_skel
  simp (config := {zeta := false, zetaHave := false}) only [Prog.lift, Prog.bind_op, Prog.bind_ret, Prog.pure_eq_ret]
  iintro ⟨H, H5, Hk⟩
  iapply (send m K c ⟨5, by decide⟩ send5 (dev_send c).2.1.2.1) $$ [H H5]
  · isplitl [H] <;> iassumption
  iintro H
  iapply (returned (F := F) c)
  iapply Hk $$ H

/-- The fourth chunk computed. -/
theorem part14 (w₁ : BitVec 32) (w₂ : BitVec 32) (w₃ : BitVec 32) (Q : (Σ' (v460 : BitVec 32) (v474 : BitVec 1), BitVec 32) → sProp 𝕄) :
    iprop(TxState m K c 6 ∗ wFly m c 1 (chk c 3) ∗ WDone m c 3 ∗ xHere m c ∗ YTodo (F := F) c 3
        ∗ (∀ r, TxState m K c 6 -∗ (Idle (F := F) c 1 ∗ WDone m c 4 ∗ xHere m c ∗ YTodo (F := F) c 4 ∗ Rdy m c ⟨6, by decide⟩ ∗ Rdy m c ⟨7, by decide⟩) -∗ Q r))
      ⊢ run c (k0_part14 (F := F) xH (Memref.isWhole_whole _) wH (Memref.isWhole_whole _) oM (Memref.isWhole_whole _) xM (Memref.isWhole_whole _) yM (Memref.isWhole_whole _) rM (Memref.isWhole_whole _) wM (Memref.isWhole_whole _) cc0_scratch4 cc0_scratch5 cc0_scratch6 c w₁ w₂ w₃) Q := by
  rw [k0_part14_eq_skeleton]
  unfold k0_part14_skel
  simp (config := {zeta := false, zetaHave := false}) only [Prog.lift, Prog.bind_op, Prog.bind_ret, Prog.pure_eq_ret]
  rw [txState_eq m K c 6]
  iintro ⟨⟨#HR, HO, HX⟩, Hf, HD, Hx, HY, Hk⟩
  iapply (compute m K c 1 3 (j := 3) (j' := 4) rfl rfl ⟨6, by decide⟩ ⟨7, by decide⟩ rfl rfl 6 (slotSem 1) rfl (off2_eq c 3) k0_pay4 (fun _ _ => rfl)) $$ [HO Hf HD Hx HY]
  · isplitr; · iexact HR
    isplitl [HO]; · iexact HO
    isplitl [Hf]; · iexact Hf
    isplitl [HD]; · iexact HD
    isplitl [Hx] <;> iassumption
  iintro ⟨HO, H⟩
  iapply (returned (F := F) c)
  iapply Hk $$ [HO HX] H
  isplitr; · iexact HR
  isplitl [HO] <;> iassumption

set_option maxHeartbeats 2000000 in
/-- The sixth chunk's copy started, the next two blocks sent. -/
theorem part15 (w₁ : BitVec 32) (w₂ : BitVec 32) (w₃ : BitVec 32) (w₄ : BitVec 1) (w₅ : BitVec 32) (Q : (Σ' (v496 : BitVec 32) (v510 : BitVec 1), BitVec 32) → sProp 𝕄) :
    iprop(WTodo m c 5 ∗ Idle (F := F) c 1 ∗ TxState m K c 6 ∗ Rdy m c ⟨6, by decide⟩ ∗ Rdy m c ⟨7, by decide⟩
        ∗ (∀ r, WTodo m c 6 -∗ wFly m c 1 (chk c 5) -∗ TxState m K c 8 -∗ Q r))
      ⊢ run c (k0_part15 (F := F) xH (Memref.isWhole_whole _) wH (Memref.isWhole_whole _) oM (Memref.isWhole_whole _) xM (Memref.isWhole_whole _) yM (Memref.isWhole_whole _) rM (Memref.isWhole_whole _) wM (Memref.isWhole_whole _) cc0_scratch4 cc0_scratch5 cc0_scratch6 c w₁ w₂ w₃ w₄ w₅) Q := by
  rw [k0_part15_eq_skeleton]
  unfold k0_part15_skel
  simp (config := {zeta := false, zetaHave := false}) only [Prog.lift, Prog.bind_op, Prog.bind_ret, Prog.pure_eq_ret]
  iintro ⟨HT, Hi, H, H6, H7, Hk⟩
  iapply (start_chunk m c 1 5 (j := 5) (j' := 6) rfl rfl (slotSem 1) rfl (off1_eq c 5)) $$ [HT Hi]
  · isplitl [HT] <;> iassumption
  iintro ⟨HT, Hf⟩
  iapply (send m K c ⟨6, by decide⟩ send6 (dev_send c).2.1.2.2.1) $$ [H H6]
  · isplitl [H] <;> iassumption
  iintro H
  iapply (send m K c ⟨7, by decide⟩ send7 (dev_send c).2.1.2.2.2) $$ [H H7]
  · isplitl [H] <;> iassumption
  iintro H
  iapply (returned (F := F) c)
  iapply Hk $$ HT Hf H

/-- The fifth chunk's factors loaded. -/
theorem part16 (w₁ : BitVec 32) (w₂ : BitVec 32) (w₃ : BitVec 1) (w₄ : BitVec 32) (Q : (Σ' (v515 : BitVec 32) (v542 : Vec F S128x2048 .f32) (v544 : FVec F S2048x256 .f32), FVec F S128x256 .f32) → sProp 𝕄) :
    iprop(TxState m K c 8 ∗ wFly m c 0 (chk c 4) ∗ WDone m c 4 ∗ xHere m c
        ∗ (∀ w, TxState m K c 8 -∗ (Idle (F := F) c 0 ∗ WDone m c 5 ∗ xHere m c) -∗ Q ⟨w, xOf m c, wOf m c (chk c 4), constant S128x256 .f32 0x00000000#32⟩))
      ⊢ run c (k0_part16 (F := F) xH (Memref.isWhole_whole _) wH (Memref.isWhole_whole _) oM (Memref.isWhole_whole _) xM (Memref.isWhole_whole _) yM (Memref.isWhole_whole _) rM (Memref.isWhole_whole _) wM (Memref.isWhole_whole _) cc0_scratch4 cc0_scratch5 cc0_scratch6 c w₁ w₂ w₃ w₄) Q := by
  rw [k0_part16_eq_skeleton]
  unfold k0_part16_skel
  simp (config := {zeta := false, zetaHave := false}) only [Prog.lift, Prog.bind_op, Prog.bind_ret, Prog.pure_eq_ret]
  rw [txState_eq m K c 8]
  iintro ⟨⟨#HR, HO, HX⟩, Hf, HD, Hx, Hk⟩
  iapply (fetch m K c 0 4 (j := 4) (j' := 5) rfl rfl 8 (slotSem 0) rfl) $$ [HO Hf HD Hx]
  · isplitr; · iexact HR
    isplitl [HO]; · iexact HO
    isplitl [Hf]; · iexact Hf
    isplitl [HD] <;> iassumption
  iintro %Y %hY ⟨HO, H⟩
  iapply (returned (F := F) c)
  rw [show k0_pay5 Y = wOf m c (chk c 4) from hY]
  iapply Hk $$ [HO HX] H
  isplitr; · iexact HR
  isplitl [HO] <;> iassumption

/-- The fifth chunk computed, the seventh chunk's copy started. -/
theorem part17 (w₁ : BitVec 32) (w₂ : BitVec 32) (Q : BitVec 32 → sProp 𝕄) :
    iprop(YTodo (F := F) c 4 ∗ WTodo m c 6 ∗ Idle (F := F) c 0
        ∗ (∀ r, YTodo (F := F) c 5 -∗ WTodo m c 7 -∗ wFly m c 0 (chk c 6) -∗ Rdy m c ⟨8, by decide⟩ -∗ Rdy m c ⟨9, by decide⟩ -∗ Q r))
      ⊢ run c (k0_part17 (F := F) xH (Memref.isWhole_whole _) wH (Memref.isWhole_whole _) oM (Memref.isWhole_whole _) xM (Memref.isWhole_whole _) yM (Memref.isWhole_whole _) rM (Memref.isWhole_whole _) wM (Memref.isWhole_whole _) cc0_scratch4 cc0_scratch5 cc0_scratch6 c w₁ w₂ (xOf m c) (wOf m c (chk c 4)) (constant S128x256 .f32 0x00000000#32)) Q := by
  rw [k0_part17_eq_skeleton]
  unfold k0_part17_skel
  simp (config := {zeta := false, zetaHave := false}) only [Prog.lift, Prog.bind_op, Prog.bind_ret, Prog.pure_eq_ret]
  iintro ⟨HY, HT, Hi, Hk⟩
  iapply (peek_chunk (F := F) c 4 (j := 4) rfl (off2_eq c 4)) $$ HY
  iintro HY
  iapply (store_chunk m c 4 (j := 4) (j' := 5) rfl rfl ⟨8, by decide⟩ ⟨9, by decide⟩ rfl rfl (off2_eq c 4) rfl) $$ HY
  iintro ⟨HY, H8, H9⟩
  iapply (start_chunk m c 0 6 (j := 6) (j' := 7) rfl rfl (slotSem 0) rfl (off1_eq c 6)) $$ [HT Hi]
  · isplitl [HT] <;> iassumption
  iintro ⟨HT, Hf⟩
  iapply (returned (F := F) c)
  iapply Hk $$ HY HT Hf H8 H9

end Cert.Scatter
-- ==== Proof.Body3.lean ====
/-
# The kernel's third stretch

The last chunks computed, the last blocks sent, the device's own block put in place and the first two blocks received.
-/
module

public import proofs.«01_k».proof.Proof.Chunks

@[expose] public section

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × KI → ℕ) (c : Dev nD)

set_option maxHeartbeats 2000000 in
/-- Blocks eight and nine sent. -/
theorem part18 (w₁ : BitVec 32) (w₂ : BitVec 32) (w₃ : BitVec 32) (Q : (Σ' (v609 : BitVec 32) (c2_i32_386 : BitVec 32) (v610 : BitVec 32) (v615 : BitVec 32), BitVec 32) → sProp 𝕄) :
    iprop(TxState m K c 8 ∗ Rdy m c ⟨8, by decide⟩ ∗ Rdy m c ⟨9, by decide⟩
        ∗ (∀ r, TxState m K c 10 -∗ Q r))
      ⊢ run c (k0_part18 (F := F) xH (Memref.isWhole_whole _) wH (Memref.isWhole_whole _) oM (Memref.isWhole_whole _) xM (Memref.isWhole_whole _) yM (Memref.isWhole_whole _) rM (Memref.isWhole_whole _) wM (Memref.isWhole_whole _) cc0_scratch4 cc0_scratch5 cc0_scratch6 c w₁ w₂ w₃) Q := by
  rw [k0_part18_eq_skeleton]
  unfold k0_part18_skel
  simp (config := {zeta := false, zetaHave := false}) only [Prog.lift, Prog.bind_op, Prog.bind_ret, Prog.pure_eq_ret]
  iintro ⟨H, H8, H9, Hk⟩
  iapply (send m K c ⟨8, by decide⟩ send8 (dev_send c).2.2.1.1) $$ [H H8]
  · isplitl [H] <;> iassumption
  iintro H
  iapply (send m K c ⟨9, by decide⟩ send9 (dev_send c).2.2.1.2.1) $$ [H H9]
  · isplitl [H] <;> iassumption
  iintro H
  iapply (returned (F := F) c)
  iapply Hk $$ H

/-- The sixth chunk computed. -/
theorem part19 (w₁ : BitVec 32) (w₂ : BitVec 32) (w₃ : BitVec 32) (w₄ : BitVec 32) (w₅ : BitVec 32) (w₆ : BitVec 32) (Q : (Σ' (c2_i32_411 : BitVec 32) (v648 : BitVec 32) (v653 : BitVec 32), BitVec 1) → sProp 𝕄) :
    iprop(TxState m K c 10 ∗ wFly m c 1 (chk c 5) ∗ WDone m c 5 ∗ xHere m c ∗ YTodo (F := F) c 5
        ∗ (∀ r, TxState m K c 10 -∗ (Idle (F := F) c 1 ∗ WDone m c 6 ∗ xHere m c ∗ YTodo (F := F) c 6 ∗ Rdy m c ⟨10, by decide⟩ ∗ Rdy m c ⟨11, by decide⟩) -∗ Q r))
      ⊢ run c (k0_part19 (F := F) xH (Memref.isWhole_whole _) wH (Memref.isWhole_whole _) oM (Memref.isWhole_whole _) xM (Memref.isWhole_whole _) yM (Memref.isWhole_whole _) rM (Memref.isWhole_whole _) wM (Memref.isWhole_whole _) cc0_scratch4 cc0_scratch5 cc0_scratch6 c w₁ w₂ w₃ w₄ w₅ w₆) Q := by
  rw [k0_part19_eq_skeleton]
  unfold k0_part19_skel
  simp (config := {zeta := false, zetaHave := false}) only [Prog.lift, Prog.bind_op, Prog.bind_ret, Prog.pure_eq_ret]
  rw [txState_eq m K c 10]
  iintro ⟨⟨#HR, HO, HX⟩, Hf, HD, Hx, HY, Hk⟩
  iapply (compute m K c 1 5 (j := 5) (j' := 6) rfl rfl ⟨10, by decide⟩ ⟨11, by decide⟩ rfl rfl 10 (slotSem 1) rfl (off2_eq c 5) k0_pay7 (fun _ _ => rfl)) $$ [HO Hf HD Hx HY]
  · isplitr; · iexact HR
    isplitl [HO]; · iexact HO
    isplitl [Hf]; · iexact Hf
    isplitl [HD]; · iexact HD
    isplitl [Hx] <;> iassumption
  iintro ⟨HO, H⟩
  iapply (returned (F := F) c)
  iapply Hk $$ [HO HX] H
  isplitr; · iexact HR
  isplitl [HO] <;> iassumption

set_option maxHeartbeats 2000000 in
/-- The last chunk's copy started, the next two blocks sent. -/
theorem part20 (w₁ : BitVec 32) (w₂ : BitVec 32) (w₃ : BitVec 32) (w₄ : BitVec 32) (w₅ : BitVec 32) (w₆ : BitVec 1) (Q : (Σ' (c2_i32_433 : BitVec 32) (v684 : BitVec 32) (v689 : BitVec 32), BitVec 32) → sProp 𝕄) :
    iprop(WTodo m c 7 ∗ Idle (F := F) c 1 ∗ TxState m K c 10 ∗ Rdy m c ⟨10, by decide⟩ ∗ Rdy m c ⟨11, by decide⟩
        ∗ (∀ r, WTodo m c 8 -∗ wFly m c 1 (chk c 7) -∗ TxState m K c 12 -∗ Q r))
      ⊢ run c (k0_part20 (F := F) xH (Memref.isWhole_whole _) wH (Memref.isWhole_whole _) oM (Memref.isWhole_whole _) xM (Memref.isWhole_whole _) yM (Memref.isWhole_whole _) rM (Memref.isWhole_whole _) wM (Memref.isWhole_whole _) cc0_scratch4 cc0_scratch5 cc0_scratch6 c w₁ w₂ w₃ w₄ w₅ w₆) Q := by
  rw [k0_part20_eq_skeleton]
  unfold k0_part20_skel
  simp (config := {zeta := false, zetaHave := false}) only [Prog.lift, Prog.bind_op, Prog.bind_ret, Prog.pure_eq_ret]
  iintro ⟨HT, Hi, H, H10, H11, Hk⟩
  iapply (start_chunk m c 1 7 (j := 7) (j' := 8) rfl rfl (slotSem 1) rfl (off1_eq c 7)) $$ [HT Hi]
  · isplitl [HT] <;> iassumption
  iintro ⟨HT, Hf⟩
  iapply (send m K c ⟨10, by decide⟩ send10 (dev_send c).2.2.1.2.2.1) $$ [H H10]
  · isplitl [H] <;> iassumption
  iintro H
  iapply (send m K c ⟨11, by decide⟩ send11 (dev_send c).2.2.1.2.2.2) $$ [H H11]
  · isplitl [H] <;> iassumption
  iintro H
  iapply (returned (F := F) c)
  iapply Hk $$ HT Hf H

/-- Words only. -/
theorem part21 (w₁ : BitVec 32) (w₂ : BitVec 32) (w₃ : BitVec 32) (w₄ : BitVec 32) (w₅ : BitVec 32) (Q : BitVec 32 → sProp 𝕄) :
    iprop(∀ r, Q r) ⊢ run c (k0_part21 (F := F) xH (Memref.isWhole_whole _) wH (Memref.isWhole_whole _) oM (Memref.isWhole_whole _) xM (Memref.isWhole_whole _) yM (Memref.isWhole_whole _) rM (Memref.isWhole_whole _) wM (Memref.isWhole_whole _) cc0_scratch4 cc0_scratch5 cc0_scratch6 w₁ w₂ w₃ w₄ w₅) Q := by
  rw [k0_part21_eq_skeleton]
  unfold k0_part21_skel
  simp (config := {zeta := false, zetaHave := false}) only [Prog.lift, Prog.bind_op, Prog.bind_ret, Prog.pure_eq_ret]
  iintro Hk
  iapply (returned (F := F) c)
  iapply Hk

set_option maxHeartbeats 2000000 in
/-- The seventh chunk computed, its two blocks sent. -/
theorem part22 (w₁ : BitVec 32) (w₂ : BitVec 32) (Q : (Σ' (c2_i32_474 : BitVec 32) (v752 : BitVec 32), BitVec 1) → sProp 𝕄) :
    iprop(TxState m K c 12 ∗ wFly m c 0 (chk c 6) ∗ WDone m c 6 ∗ xHere m c ∗ YTodo (F := F) c 6
        ∗ (∀ r, TxState m K c 14 -∗ (Idle (F := F) c 0 ∗ WDone m c 7 ∗ xHere m c ∗ YTodo (F := F) c 7) -∗ Q r))
      ⊢ run c (k0_part22 (F := F) xH (Memref.isWhole_whole _) wH (Memref.isWhole_whole _) oM (Memref.isWhole_whole _) xM (Memref.isWhole_whole _) yM (Memref.isWhole_whole _) rM (Memref.isWhole_whole _) wM (Memref.isWhole_whole _) cc0_scratch4 cc0_scratch5 cc0_scratch6 c w₁ w₂) Q := by
  rw [k0_part22_eq_skeleton]
  unfold k0_part22_skel
  simp (config := {zeta := false, zetaHave := false}) only [Prog.lift, Prog.bind_op, Prog.bind_ret, Prog.pure_eq_ret]
  rw [txState_eq m K c 12]
  iintro ⟨⟨#HR, HO, HX⟩, Hf, HD, Hx, HY, Hk⟩
  iapply (compute m K c 0 6 (j := 6) (j' := 7) rfl rfl ⟨12, by decide⟩ ⟨13, by decide⟩ rfl rfl 12 (slotSem 0) rfl (off2_eq c 6) k0_pay8 (fun _ _ => rfl)) $$ [HO Hf HD Hx HY]
  · isplitr; · iexact HR
    isplitl [HO]; · iexact HO
    isplitl [Hf]; · iexact Hf
    isplitl [HD]; · iexact HD
    isplitl [Hx] <;> iassumption
  iintro ⟨HO, Hi, HD, Hx, HY, H12, H13⟩
  ihave H := (Entails.of_eq (txState_eq m K c 12).symm) $$ [HO HX]
  · isplitr; · iexact HR
    isplitl [HO] <;> iassumption
  iapply (send m K c ⟨12, by decide⟩ send12 (dev_send c).2.2.2.1) $$ [H H12]
  · isplitl [H] <;> iassumption
  iintro H
  iapply (send m K c ⟨13, by decide⟩ send13 (dev_send c).2.2.2.2.1) $$ [H H13]
  · isplitl [H] <;> iassumption
  iintro H
  iapply (returned (F := F) c)
  iapply Hk $$ H [Hi HD Hx HY]
  isplitl [Hi]; · iexact Hi
  isplitl [HD]; · iexact HD
  isplitl [Hx] <;> iassumption

/-- The last chunk of the weight awaited, `x` loaded. -/
theorem part23 (w₁ : BitVec 32) (w₂ : BitVec 32) (w₃ : BitVec 32) (w₄ : BitVec 1) (Q : (Σ' (v771 : BitVec 32), Vec F S128x2048 .f32) → sProp 𝕄) :
    iprop(TxState m K c 14 ∗ wFly m c 1 (chk c 7) ∗ WDone m c 7 ∗ xHere m c
        ∗ (∀ w, TxState m K c 14 -∗ semVal ((c : Thread nD τ), .dma (slotSem 1)) 0 -∗ wHere m c 1 (chk c 7) -∗ WDone m c 8 -∗ xHere m c -∗ Q ⟨w, xOf m c⟩))
      ⊢ run c (k0_part23 (F := F) xH (Memref.isWhole_whole _) wH (Memref.isWhole_whole _) oM (Memref.isWhole_whole _) xM (Memref.isWhole_whole _) yM (Memref.isWhole_whole _) rM (Memref.isWhole_whole _) wM (Memref.isWhole_whole _) cc0_scratch4 cc0_scratch5 cc0_scratch6 c w₁ w₂ w₃ w₄) Q := by
  rw [k0_part23_eq_skeleton]
  unfold k0_part23_skel
  simp (config := {zeta := false, zetaHave := false}) only [Prog.lift, Prog.bind_op, Prog.bind_ret, Prog.pure_eq_ret]
  rw [txState_eq m K c 14]
  iintro ⟨⟨#HR, HO, HX⟩, Hf, HD, Hx, Hk⟩
  iapply (await_chunk m K c 1 7 (j := 7) (j' := 8) rfl rfl 14 (slotSem 1) rfl) $$ [HO Hf HD]
  · isplitr; · iexact HR
    isplitl [HO]; · iexact HO
    isplitl [Hf] <;> iassumption
  iintro ⟨HO, Hv, Hw, HD⟩
  iapply (load_x m c) $$ Hx
  iintro Hx
  iapply (returned (F := F) c)
  iapply Hk $$ [HO HX] Hv Hw HD Hx
  isplitr; · iexact HR
  isplitl [HO] <;> iassumption

set_option maxHeartbeats 2000000 in
/-- The last chunk computed, the last two blocks sent, the device's own block put in place, the first two blocks received. -/
theorem part24 (w₁ : BitVec 32) (Q : PUnit → sProp 𝕄) :
    iprop(TxState m K c 14 ∗ semVal ((c : Thread nD τ), .dma (slotSem 1)) 0 ∗ wHere m c 1 (chk c 7) ∗ YTodo (F := F) c 7
        ∗ bigSep Finset.univ (RxTok (F := F) c) ∗ rowsAny (F := F) c c ∗ (bigSep (Finset.univ.erase c) fun p => (rowsAny c p : sProp 𝕄))
        ∗ (Idle (F := F) c 1 -∗ YTodo (F := F) c 8 -∗ RxState m K c 2 -∗ blkDone m c c -∗ bigSep (Finset.univ.erase c) (Gone' m c) -∗ Q ⟨⟩))
      ⊢ run c (k0_part24 (F := F) xH (Memref.isWhole_whole _) wH (Memref.isWhole_whole _) oM (Memref.isWhole_whole _) xM (Memref.isWhole_whole _) yM (Memref.isWhole_whole _) rM (Memref.isWhole_whole _) wM (Memref.isWhole_whole _) cc0_scratch4 cc0_scratch5 cc0_scratch6 c (posWord c) w₁ (xOf m c)) Q := by
  rw [k0_part24_eq_skeleton]
  unfold k0_part24_skel
  simp (config := {zeta := false, zetaHave := false}) only [Prog.lift, Prog.bind_op, Prog.bind_ret, Prog.pure_eq_ret]
  iintro ⟨H, Hv, Hw, HY, Hrx, Hr, Hrs, Hk⟩
  iapply (load_w m c 1 (chk c 7)) $$ [Hv Hw]
  · isplitl [Hv] <;> iassumption
  iintro %Y %hY Hi
  iapply (peek_chunk (F := F) c 7 (j := 7) rfl (off2_eq c 7)) $$ HY
  iintro HY
  iapply (store_chunk m c 7 (j := 7) (j' := 8) rfl rfl ⟨14, by decide⟩ ⟨15, by decide⟩ rfl rfl (off2_eq c 7)
      ((show k0_pay9 (xOf m c) Y = chunkOf (xOf m c) (shapeCast S2048x256 Y shapeCasts_S1x2048x256_S2048x256) from rfl).trans (by rw [hY]; rfl))) $$ HY
  iintro ⟨HY, H14, H15⟩
  iapply (send m K c ⟨14, by decide⟩ send14 (dev_send c).2.2.2.2.2.1) $$ [H H14]
  · isplitl [H] <;> iassumption
  iintro H
  iapply (send m K c ⟨15, by decide⟩ send15 (dev_send c).2.2.2.2.2.2) $$ [H H15]
  · isplitl [H] <;> iassumption
  iintro H
  ihave H := (tx_end (F := F) m K c) $$ H
  icases H with ⟨#HR, HO, Hb, HG⟩
  iapply (own_step m c (off67_eq c) (off68_eq c)) $$ [Hb Hr]
  · isplitl [Hb] <;> iassumption
  iintro ⟨Hb, Hr⟩
  ihave H := (rx_begin (F := F) m K c) $$ [HO Hrx Hr Hrs]
  · isplitr; · iexact HR
    isplitl [HO]; · iexact HO
    isplitl [Hrx]; · iexact Hrx
    isplitl [Hr] <;> iassumption
  iapply (recv (F := F) m K c ⟨0, by decide⟩ (sem_recv ⟨0, by decide⟩ _) rfl (fun _ => rfl)) $$ H
  iintro H
  iapply (recv (F := F) m K c ⟨1, by decide⟩ (sem_recv ⟨1, by decide⟩ _) rfl (fun _ => rfl)) $$ H
  iintro H
  iapply (returned (F := F) c)
  iapply Hk $$ Hi HY H Hb HG

end Cert.Scatter
-- ==== Proof.Body4.lean ====
/-
# The kernel's last stretch

The blocks of the other devices received, the sends awaited.
-/
module

public import proofs.«01_k».proof.Proof.Chunks

@[expose] public section

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × KI → ℕ) (c : Dev nD)

/-- Ten blocks received. -/
theorem part25  (Q : PUnit → sProp 𝕄) :
    iprop(RxState m K c 2
        ∗ (RxState m K c 12 -∗ Q ⟨⟩))
      ⊢ run c (k0_part25 (F := F) xH (Memref.isWhole_whole _) wH (Memref.isWhole_whole _) oM (Memref.isWhole_whole _) xM (Memref.isWhole_whole _) yM (Memref.isWhole_whole _) rM (Memref.isWhole_whole _) wM (Memref.isWhole_whole _) cc0_scratch4 cc0_scratch5 cc0_scratch6 (posWord c)) Q := by
  rw [k0_part25_eq_skeleton]
  unfold k0_part25_skel
  simp (config := {zeta := false, zetaHave := false}) only [Prog.lift, Prog.bind_op, Prog.bind_ret, Prog.pure_eq_ret]
  iintro ⟨H, Hk⟩
  iapply (recv (F := F) m K c ⟨2, by decide⟩ (sem_recv ⟨2, by decide⟩ _) rfl (fun _ => rfl)) $$ H
  iintro H
  iapply (recv (F := F) m K c ⟨3, by decide⟩ (sem_recv ⟨3, by decide⟩ _) rfl (fun _ => rfl)) $$ H
  iintro H
  iapply (recv (F := F) m K c ⟨4, by decide⟩ (sem_recv ⟨4, by decide⟩ _) rfl (fun _ => rfl)) $$ H
  iintro H
  iapply (recv (F := F) m K c ⟨5, by decide⟩ (sem_recv ⟨5, by decide⟩ _) rfl (fun _ => rfl)) $$ H
  iintro H
  iapply (recv (F := F) m K c ⟨6, by decide⟩ (sem_recv ⟨6, by decide⟩ _) rfl (fun _ => rfl)) $$ H
  iintro H
  iapply (recv (F := F) m K c ⟨7, by decide⟩ (sem_recv ⟨7, by decide⟩ _) rfl (fun _ => rfl)) $$ H
  iintro H
  iapply (recv (F := F) m K c ⟨8, by decide⟩ (sem_recv ⟨8, by decide⟩ _) rfl (fun _ => rfl)) $$ H
  iintro H
  iapply (recv (F := F) m K c ⟨9, by decide⟩ (sem_recv ⟨9, by decide⟩ _) rfl (fun _ => rfl)) $$ H
  iintro H
  iapply (recv (F := F) m K c ⟨10, by decide⟩ (sem_recv ⟨10, by decide⟩ _) rfl (fun _ => rfl)) $$ H
  iintro H
  iapply (recv (F := F) m K c ⟨11, by decide⟩ (sem_recv ⟨11, by decide⟩ _) rfl (fun _ => rfl)) $$ H
  iintro H
  iapply (returned (F := F) c)
  iapply Hk $$ H

/-- The last blocks received; the first sends awaited. -/
theorem part26  (Q : PUnit → sProp 𝕄) :
    iprop(RxState m K c 12 ∗ (bigSep Finset.univ fun t => (atPos ER (sendCell c t) 0 ∅ 0 : sProp 𝕄)) ∗ blkDone m c c ∗ (bigSep (Finset.univ.erase c) (Gone' m c))
        ∗ (bigSep Finset.univ (RxDone (F := F) c) -∗ bigSep Finset.univ (rowsGot m c) -∗ SxState m K c 6 -∗ Q ⟨⟩))
      ⊢ run c (k0_part26 (F := F) xH (Memref.isWhole_whole _) wH (Memref.isWhole_whole _) oM (Memref.isWhole_whole _) xM (Memref.isWhole_whole _) yM (Memref.isWhole_whole _) rM (Memref.isWhole_whole _) wM (Memref.isWhole_whole _) cc0_scratch4 cc0_scratch5 cc0_scratch6 (posWord c)) Q := by
  rw [k0_part26_eq_skeleton]
  unfold k0_part26_skel
  simp (config := {zeta := false, zetaHave := false}) only [Prog.lift, Prog.bind_op, Prog.bind_ret, Prog.pure_eq_ret]
  iintro ⟨H, Hat, Hb, HG, Hk⟩
  iapply (recv (F := F) m K c ⟨12, by decide⟩ (sem_recv ⟨12, by decide⟩ _) rfl (fun _ => rfl)) $$ H
  iintro H
  iapply (recv (F := F) m K c ⟨13, by decide⟩ (sem_recv ⟨13, by decide⟩ _) rfl (fun _ => rfl)) $$ H
  iintro H
  iapply (recv (F := F) m K c ⟨14, by decide⟩ (sem_recv ⟨14, by decide⟩ _) rfl (fun _ => rfl)) $$ H
  iintro H
  iapply (recv (F := F) m K c ⟨15, by decide⟩ (sem_recv ⟨15, by decide⟩ _) rfl (fun _ => rfl)) $$ H
  iintro H
  ihave H := (rx_end (F := F) m K c) $$ H
  icases H with ⟨#HR, HO, Hd, Hg⟩
  ihave H := (sx_begin (F := F) m K c) $$ [HO Hat Hb HG]
  · isplitr; · iexact HR
    isplitl [HO]; · iexact HO
    isplitl [Hat]; · iexact Hat
    isplitl [Hb] <;> iassumption
  iapply (sendwait (F := F) m K c ⟨0, by decide⟩ (sem_send ⟨0, by decide⟩ _) (N_blk 0)) $$ H
  iintro H
  iapply (sendwait (F := F) m K c ⟨1, by decide⟩ (sem_send ⟨1, by decide⟩ _) (N_blk 0)) $$ H
  iintro H
  iapply (sendwait (F := F) m K c ⟨2, by decide⟩ (sem_send ⟨2, by decide⟩ _) (N_blk 0)) $$ H
  iintro H
  iapply (sendwait (F := F) m K c ⟨3, by decide⟩ (sem_send ⟨3, by decide⟩ _) (N_blk 0)) $$ H
  iintro H
  iapply (sendwait (F := F) m K c ⟨4, by decide⟩ (sem_send ⟨4, by decide⟩ _) (N_blk 0)) $$ H
  iintro H
  iapply (sendwait (F := F) m K c ⟨5, by decide⟩ (sem_send ⟨5, by decide⟩ _) (N_blk 0)) $$ H
  iintro H
  iapply (returned (F := F) c)
  iapply Hk $$ Hd Hg H

/-- The last sends awaited. -/
theorem part27  (Q : PUnit → sProp 𝕄) :
    iprop(SxState m K c 6
        ∗ (SxState m K c 16 -∗ Q ⟨⟩))
      ⊢ run c (k0_part27 (F := F) xH (Memref.isWhole_whole _) wH (Memref.isWhole_whole _) oM (Memref.isWhole_whole _) xM (Memref.isWhole_whole _) yM (Memref.isWhole_whole _) rM (Memref.isWhole_whole _) wM (Memref.isWhole_whole _) cc0_scratch4 cc0_scratch5 cc0_scratch6 (posWord c)) Q := by
  rw [k0_part27_eq_skeleton]
  unfold k0_part27_skel
  simp (config := {zeta := false, zetaHave := false}) only [Prog.lift, Prog.bind_op, Prog.bind_ret, Prog.pure_eq_ret]
  iintro ⟨H, Hk⟩
  iapply (sendwait (F := F) m K c ⟨6, by decide⟩ (sem_send ⟨6, by decide⟩ _) (N_blk 0)) $$ H
  iintro H
  iapply (sendwait (F := F) m K c ⟨7, by decide⟩ (sem_send ⟨7, by decide⟩ _) (N_blk 0)) $$ H
  iintro H
  iapply (sendwait (F := F) m K c ⟨8, by decide⟩ (sem_send ⟨8, by decide⟩ _) (N_blk 0)) $$ H
  iintro H
  iapply (sendwait (F := F) m K c ⟨9, by decide⟩ (sem_send ⟨9, by decide⟩ _) (N_blk 0)) $$ H
  iintro H
  iapply (sendwait (F := F) m K c ⟨10, by decide⟩ (sem_send ⟨10, by decide⟩ _) (N_blk 0)) $$ H
  iintro H
  iapply (sendwait (F := F) m K c ⟨11, by decide⟩ (sem_send ⟨11, by decide⟩ _) (N_blk 0)) $$ H
  iintro H
  iapply (sendwait (F := F) m K c ⟨12, by decide⟩ (sem_send ⟨12, by decide⟩ _) (N_blk 0)) $$ H
  iintro H
  iapply (sendwait (F := F) m K c ⟨13, by decide⟩ (sem_send ⟨13, by decide⟩ _) (N_blk 0)) $$ H
  iintro H
  iapply (sendwait (F := F) m K c ⟨14, by decide⟩ (sem_send ⟨14, by decide⟩ _) (N_blk 0)) $$ H
  iintro H
  iapply (sendwait (F := F) m K c ⟨15, by decide⟩ (sem_send ⟨15, by decide⟩ _) (N_blk 0)) $$ H
  iintro H
  iapply (returned (F := F) c)
  iapply Hk $$ H

end Cert.Scatter
-- ==== Proof.Body.lean ====
/-
# The whole body of a device

The stretches put end to end: what a device starts from, what it ends with, and the run between.
-/
module

public import proofs.«01_k».proof.Proof.Body1
public import proofs.«01_k».proof.Proof.Body2
public import proofs.«01_k».proof.Proof.Body3
public import proofs.«01_k».proof.Proof.Body4

@[expose] public section

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × KI → ℕ) (c : Dev nD)

/-- One stretch before the rest. -/
theorem bound {α β : Type} {p : Prog (TpuEff nD τ sig (Elt F) Λ₀ .tc) α} {f : α → Prog (TpuEff nD τ sig (Elt F) Λ₀ .tc) β} {Q : β → sProp 𝕄} :
    run c p (fun x => run c (f x) Q) ⊢ run c (p.bind f) Q := by
  show _ ⊢ run c (p >>= f) Q
  unfold run
  rw [wp_bind]

/-- What a device starts from: the shared facts and its debt, the signals to make, `x` and the weight, the product's chunks and the
    rows of the result, the tokens of the transfers, the places at its own semaphores. -/
def Begin : sProp 𝕄 :=
  iprop(SgState m K c 1 ∗ xHome m c ∗ xAny (F := F) c ∗ semVal ((c : Thread nD τ), .dma (copySem 2)) 0
    ∗ WTodo m c 0 ∗ Idle (F := F) c 0 ∗ Idle (F := F) c 1 ∗ WDone m c 0 ∗ YTodo (F := F) c 0
    ∗ cred (tallyAt (barCell c) () 15) ∗ atPos ER (barCell c) 0 ∅ 0 ∗ Todo (TxTok (F := F) c) 0
    ∗ bigSep Finset.univ (RxTok (F := F) c) ∗ rowsAny (F := F) c c ∗ (bigSep (Finset.univ.erase c) fun p => (rowsAny c p : sProp 𝕄))
    ∗ bigSep Finset.univ fun t => (atPos ER (sendCell c t) 0 ∅ 0 : sProp 𝕄))

/-- What it ends with: no debt, every semaphore at zero, `x` and the weight as they were, the scratch back and the result in place. -/
def Finish : sProp 𝕄 :=
  iprop(Ow c 16 16 ∗ bigSep Finset.univ (SxDone m c) ∗ bigSep Finset.univ (RxDone (F := F) c) ∗ bigSep Finset.univ (rowsGot m c)
    ∗ semVal (barCell c) 0 ∗ semVal ((c : Thread nD τ), .dma (copySem 2)) 0 ∗ Idle (F := F) c 0 ∗ Idle (F := F) c 1
    ∗ xHome m c ∗ xHere m c ∗ WDone m c 8)

set_option maxHeartbeats 4000000 in
/-- A device's run. -/
theorem whole (Q : PUnit → sProp 𝕄) :
    iprop(Begin m K c ∗ (Finish m c -∗ Q ⟨⟩)) ⊢ run c (cc0_body (F := F) xH (Memref.isWhole_whole _) wH (Memref.isWhole_whole _) oM (Memref.isWhole_whole _) xM (Memref.isWhole_whole _) yM (Memref.isWhole_whole _) rM (Memref.isWhole_whole _) wM (Memref.isWhole_whole _) cc0_scratch4 cc0_scratch5 cc0_scratch6) Q := by
  rw [cc0_body_eq_skeleton]
  unfold cc0_body_skel Begin
  iintro ⟨⟨HS, Hxh, Hxa, Hv2, HW, Hi0, Hi1, HD, HY, Hc, Hab, Htx, Hrx, Hr, Hrs, Has⟩, Hk⟩
  iapply (bound (F := F) c)
  iapply (part1 m K c)
  isplitl [HS]; · iexact HS
  iintro %w₁ %w₂ HS
  iapply (bound (F := F) c)
  iapply (part2 m K c)
  isplitl [HS]; · iexact HS
  iintro %r HS
  obtain ⟨w₁, w₂⟩ := r
  iapply (bound (F := F) c)
  iapply (part3 m K c)
  isplitl [HS]; · iexact HS
  isplitl [Hxh]; · iexact Hxh
  isplitl [Hxa]; · iexact Hxa
  isplitl [Hv2]; · iexact Hv2
  iintro %r HS Hxf
  obtain ⟨w₁, w₂, w₃, w₄⟩ := r
  unfold SgState
  icases HS with ⟨#HR, HO, -⟩
  iapply (bound (F := F) c)
  iapply (part4 m c)
  isplitl [HW]; · iexact HW
  isplitl [Hi0]; · iexact Hi0
  iintro HW Hf0
  iapply (bound (F := F) c)
  iapply (part5 m K c)
  isplitr; · iexact HR
  isplitl [HO]; · iexact HO
  isplitl [HW]; · iexact HW
  isplitl [Hi1]; · iexact Hi1
  isplitl [Hxf]; · iexact Hxf
  iintro %r HO HW Hf1 Hv2 Hx Hxh
  obtain ⟨w₁, w₂, w₃, w₄, w₅⟩ := r
  iapply (bound (F := F) c)
  iapply (part6 m K c)
  isplitr; · iexact HR
  isplitl [HO]; · iexact HO
  isplitl [Hf0]; · iexact Hf0
  isplitl [HD]; · iexact HD
  isplitl [Hx]; · iexact Hx
  isplitl [HY]; · iexact HY
  iintro %r ⟨HO, Hi0, HD, Hx, HY, H0, H1⟩
  obtain ⟨w₁, w₂, w₃, w₄, w₅⟩ := r
  iapply (bound (F := F) c)
  iapply (part7 m K c)
  isplitr; · iexact HR
  isplitl [HO]; · iexact HO
  isplitl [HW]; · iexact HW
  isplitl [Hi0]; · iexact Hi0
  isplitl [Hc]; · iexact Hc
  isplitl [Hab]; · iexact Hab
  isplitl [Htx]; · iexact Htx
  isplitl [H0]; · iexact H0
  isplitl [H1]; · iexact H1
  iintro %r HW Hf0 Hb HS
  obtain ⟨w₁, w₂, w₃, w₄⟩ := r
  iapply (bound (F := F) c)
  iapply (part8 c)
  iintro %w₁
  iapply (bound (F := F) c)
  iapply (part9 m K c)
  isplitl [HS]; · iexact HS
  isplitl [Hf1]; · iexact Hf1
  isplitl [HD]; · iexact HD
  isplitl [Hx]; · iexact Hx
  isplitl [HY]; · iexact HY
  iintro %r HS ⟨Hi1, HD, Hx, HY, H2, H3⟩
  iapply (bound (F := F) c)
  iapply (part10 m K c)
  isplitl [HW]; · iexact HW
  isplitl [Hi1]; · iexact Hi1
  isplitl [HS]; · iexact HS
  isplitl [H2]; · iexact H2
  isplitl [H3]; · iexact H3
  iintro %r HW Hf1 HS
  obtain ⟨w₁, w₂, w₃, w₄⟩ := r
  iapply (bound (F := F) c)
  iapply (part11 m K c)
  isplitl [HS]; · iexact HS
  isplitl [Hf0]; · iexact Hf0
  isplitl [HD]; · iexact HD
  isplitl [Hx]; · iexact Hx
  isplitl [HY]; · iexact HY
  iintro HS ⟨Hi0, HD, Hx⟩ HY
  iapply (bound (F := F) c)
  iapply (part12 m K c)
  isplitl [HY]; · iexact HY
  isplitl [HW]; · iexact HW
  isplitl [Hi0]; · iexact Hi0
  isplitl [HS]; · iexact HS
  iintro %r HY HW Hf0 HS H5
  obtain ⟨w₁, w₂, w₃⟩ := r
  iapply (bound (F := F) c)
  iapply (part13 m K c)
  isplitl [HS]; · iexact HS
  isplitl [H5]; · iexact H5
  iintro %r HS
  obtain ⟨w₁, w₂⟩ := r
  iapply (bound (F := F) c)
  iapply (part14 m K c)
  isplitl [HS]; · iexact HS
  isplitl [Hf1]; · iexact Hf1
  isplitl [HD]; · iexact HD
  isplitl [Hx]; · iexact Hx
  isplitl [HY]; · iexact HY
  iintro %r HS ⟨Hi1, HD, Hx, HY, H6, H7⟩
  obtain ⟨w₁, w₂, w₃⟩ := r
  iapply (bound (F := F) c)
  iapply (part15 m K c)
  isplitl [HW]; · iexact HW
  isplitl [Hi1]; · iexact Hi1
  isplitl [HS]; · iexact HS
  isplitl [H6]; · iexact H6
  isplitl [H7]; · iexact H7
  iintro %r HW Hf1 HS
  obtain ⟨w₁, w₂, w₃⟩ := r
  iapply (bound (F := F) c)
  iapply (part16 m K c)
  isplitl [HS]; · iexact HS
  isplitl [Hf0]; · iexact Hf0
  isplitl [HD]; · iexact HD
  isplitl [Hx]; · iexact Hx
  iintro %w₁ HS ⟨Hi0, HD, Hx⟩
  iapply (bound (F := F) c)
  iapply (part17 m c)
  isplitl [HY]; · iexact HY
  isplitl [HW]; · iexact HW
  isplitl [Hi0]; · iexact Hi0
  iintro %w₂ HY HW Hf0 H8 H9
  iapply (bound (F := F) c)
  iapply (part18 m K c)
  isplitl [HS]; · iexact HS
  isplitl [H8]; · iexact H8
  isplitl [H9]; · iexact H9
  iintro %r HS
  obtain ⟨w₁, w₂, w₃, w₄, w₅⟩ := r
  iapply (bound (F := F) c)
  iapply (part19 m K c)
  isplitl [HS]; · iexact HS
  isplitl [Hf1]; · iexact Hf1
  isplitl [HD]; · iexact HD
  isplitl [Hx]; · iexact Hx
  isplitl [HY]; · iexact HY
  iintro %r HS ⟨Hi1, HD, Hx, HY, H10, H11⟩
  obtain ⟨w₁, w₂, w₃, w₄⟩ := r
  iapply (bound (F := F) c)
  iapply (part20 m K c)
  isplitl [HW]; · iexact HW
  isplitl [Hi1]; · iexact Hi1
  isplitl [HS]; · iexact HS
  isplitl [H10]; · iexact H10
  isplitl [H11]; · iexact H11
  iintro %r HW Hf1 HS
  obtain ⟨w₁, w₂, w₃, w₄⟩ := r
  iapply (bound (F := F) c)
  iapply (part21 c)
  iintro %w₁
  iapply (bound (F := F) c)
  iapply (part22 m K c)
  isplitl [HS]; · iexact HS
  isplitl [Hf0]; · iexact Hf0
  isplitl [HD]; · iexact HD
  isplitl [Hx]; · iexact Hx
  isplitl [HY]; · iexact HY
  iintro %r HS ⟨Hi0, HD, Hx, HY⟩
  obtain ⟨w₁, w₂, w₃⟩ := r
  iapply (bound (F := F) c)
  iapply (part23 m K c)
  isplitl [HS]; · iexact HS
  isplitl [Hf1]; · iexact Hf1
  isplitl [HD]; · iexact HD
  isplitl [Hx]; · iexact Hx
  iintro %w₁ HS Hv1 Hw HD Hx
  iapply (bound (F := F) c)
  iapply (part24 m K c)
  isplitl [HS]; · iexact HS
  isplitl [Hv1]; · iexact Hv1
  isplitl [Hw]; · iexact Hw
  isplitl [HY]; · iexact HY
  isplitl [Hrx]; · iexact Hrx
  isplitl [Hr]; · iexact Hr
  isplitl [Hrs]; · iexact Hrs
  iintro Hi1 HY HS Hbl HG
  iapply (bound (F := F) c)
  iapply (part25 m K c)
  isplitl [HS]; · iexact HS
  iintro HS
  iapply (bound (F := F) c)
  iapply (part26 m K c)
  isplitl [HS]; · iexact HS
  isplitl [Has]; · iexact Has
  isplitl [Hbl]; · iexact Hbl
  isplitl [HG]; · iexact HG
  iintro Hrd Hrg HS
  iapply (bound (F := F) c)
  iapply (part27 m K c)
  isplitl [HS]; · iexact HS
  iintro HS
  iapply (returned (F := F) c)
  iapply Hk
  ihave H := (sx_end (F := F) m K c) $$ HS
  icases H with ⟨HO, Hsd⟩
  unfold Finish
  isplitl [HO]; · iexact HO
  isplitl [Hsd]; · iexact Hsd
  isplitl [Hrd]; · iexact Hrd
  isplitl [Hrg]; · iexact Hrg
  isplitl [Hb]; · iexact Hb
  isplitl [Hv2]; · iexact Hv2
  isplitl [Hi0]; · iexact Hi0
  isplitl [Hi1]; · iexact Hi1
  isplitl [Hxh]; · iexact Hxh
  isplitl [Hx] <;> iassumption

end Cert.Scatter
-- ==== Proof.Memory.lean ====
/-
# The buffers, cut and joined

The weight in its array, the product, the result and the two scratch buffers: each is cut into the blocks a device works on, and
joined again from them.
-/
module

public import proofs.«01_k».proof.Proof.Chunks

@[expose] public section

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- A buffer of a device at some contents. -/
abbrev someBuf (b : Ref sig .tc) : sProp 𝕄 := iprop(∃ f : Buf (Elt F) ((c : Thread nD τ).loc b), ((c : Thread nD τ).loc b) ↦{fullShare} f)

/-- Owning a block at some contents is owning its part of the buffer at some contents. -/
theorem some_pts {sp : Space} {s : Shape} {e : EltTy} (mm : Memref sig .tc sp s e) (X : s.Idx → Elt F e) :
    (owns (c : Thread nD τ) mm fullShare X : sProp 𝕄) ⊢ iprop(∃ f, mm.view.loc (c : Thread nD τ) ↦[mm.view.set]{fullShare} f) := by
  unfold owns
  iintro ⟨%f, -, H⟩
  iexists f
  iexact H

/-! ## `x` and the weight -/

theorem xHome_eq : (xHome m c : sProp 𝕄) = (((c : Thread nD τ).loc main_arg0) ↦{fullShare} m ((c : Thread nD τ).loc main_arg0)) :=
  owns_whole (c : Thread nD τ) main_arg0 fullShare _

theorem x_room : someBuf (F := F) c cc0_scratch0 ⊢ xAny (F := F) c := by
  unfold xAny
  iintro ⟨%f, H⟩
  iexists f
  rw [owns_whole]
  iexact H
theorem x_back : xHere m c ⊢ someBuf (F := F) c cc0_scratch0 := by
  unfold xHere
  rw [owns_whole]
  iintro H
  iexists _
  iexact H

theorem chunks_order (P : Fin 8 → sProp 𝕄) : bigSep Finset.univ P = bigSep Finset.univ fun r => P (chk c r) := bigSep_univ_equiv (chkE c) P

theorem weight_cut : (((c : Thread nD τ).loc main_arg1) ↦{fullShare} m ((c : Thread nD τ).loc main_arg1) : sProp 𝕄) ⊢ WTodo m c 0 := by
  unfold WTodo
  rw [todo_zero, ← chunks_order (F := F) c (wHome m c), ← owns_whole (c : Thread nD τ) main_arg1 fullShare]
  exact owns_rects (c : Thread nD τ) wH fullShare chunkHR (fun _ _ => rfl) chunkH_disj chunkH_cov _
theorem weight_join : WDone m c 8 ⊢ (((c : Thread nD τ).loc main_arg1) ↦{fullShare} m ((c : Thread nD τ).loc main_arg1) : sProp 𝕄) := by
  unfold WDone
  rw [done_all, ← chunks_order (F := F) c (wHome m c), ← owns_whole (c : Thread nD τ) main_arg1 fullShare]
  exact owns_of_rects (c : Thread nD τ) wH fullShare chunkHR (fun _ _ => rfl) chunkH_disj chunkH_cov _

/-! ## The product -/

theorem product_cut : someBuf (F := F) c cc0_scratch1 ⊢ YTodo (F := F) c 0 := by
  unfold YTodo
  rw [todo_zero, ← chunks_order (F := F) c (fun k => chunkAny c k)]
  iintro ⟨%f, H⟩
  iapply (show (owns (c : Thread nD τ) yM fullShare f : sProp 𝕄) ⊢ bigSep Finset.univ fun k => chunkAny c k from
    split_any c yM chunkYR (fun _ _ => rfl) chunkY_disj chunkY_cov f)
  rw [owns_whole]
  iexact H
theorem product_join : (bigSep Finset.univ fun t => blkDone m c t : sProp 𝕄) ⊢ someBuf (F := F) c cc0_scratch1 :=
  (bigSep_mono fun t _ => some_pts c (blkY t) (blkVal m c t)).trans (join_blocks c cc0_scratch1 blkYR blkY_disj blkY_cov)

/-! ## The landing slots and the weight's slots -/

theorem slot_squeeze (p : Dev nD) : iprop(∃ Y, owns (c : Thread nD τ) (rM.slice (slotRR p) (fun _ => rfl)) fullShare Y) ⊢ (slotAny c p : sProp 𝕄) := by
  unfold slotAny
  iintro ⟨%Y, H⟩
  iexists _
  iapply (owns_squeeze c (rM.slice (slotRR p) (fun _ => rfl)) squeezes_S1x128x128_S128x128 shapeCasts_S1x128x128_S128x128 fullShare Y)
  iexact H
theorem slot_pts (p : Dev nD) : (slotAny c p : sProp 𝕄)
    ⊢ iprop(∃ f, (c : Thread nD τ).loc cc0_scratch2 ↦[((View.whole cc0_scratch2).slice (slotRR p)).set]{fullShare} f) := by
  unfold slotAny
  rw [← show (slotR p).view.set = ((View.whole cc0_scratch2).slice (slotRR p)).set from View.set_reshape ..]
  iintro ⟨%X, H⟩
  iapply (some_pts c (slotR p) X)
  iexact H
theorem slots_cut : someBuf (F := F) c cc0_scratch2 ⊢ bigSep Finset.univ fun p => (slotAny c p : sProp 𝕄) := by
  iintro ⟨%f, H⟩
  iapply (show (owns (c : Thread nD τ) rM fullShare f : sProp 𝕄) ⊢ bigSep Finset.univ fun p => slotAny c p from
    (split_any c rM slotRR (fun _ _ => rfl) slotR_disj slotR_cov f).trans (bigSep_mono fun p _ => slot_squeeze c p))
  rw [owns_whole]
  iexact H
theorem slots_join : (bigSep Finset.univ fun p => slotAny c p : sProp 𝕄) ⊢ someBuf (F := F) c cc0_scratch2 :=
  (bigSep_mono fun p _ => slot_pts c p).trans (join_blocks c cc0_scratch2 slotRR slotR_disj slotR_cov)

theorem wslot_squeeze (b : Fin 2) : iprop(∃ Y, owns (c : Thread nD τ) (wM.slice (slotWR b) (fun _ => rfl)) fullShare Y) ⊢ (slotWAny c b : sProp 𝕄) := by
  unfold slotWAny
  iintro ⟨%Y, H⟩
  iexists _
  iapply (owns_squeeze c (wM.slice (slotWR b) (fun _ => rfl)) squeezes_S1x2048x256_S2048x256 shapeCasts_S1x2048x256_S2048x256 fullShare Y)
  iexact H
theorem wslot_pts (b : Fin 2) : (slotWAny c b : sProp 𝕄)
    ⊢ iprop(∃ f, (c : Thread nD τ).loc cc0_scratch3 ↦[((View.whole cc0_scratch3).slice (slotWR b)).set]{fullShare} f) := by
  unfold slotWAny
  rw [← show (slotW b).view.set = ((View.whole cc0_scratch3).slice (slotWR b)).set from View.set_reshape ..]
  iintro ⟨%X, H⟩
  iapply (some_pts c (slotW b) X)
  iexact H
theorem wslots_cut : someBuf (F := F) c cc0_scratch3 ⊢ iprop(slotWAny (F := F) c 0 ∗ slotWAny (F := F) c 1) := by
  rw [← bigSep_univ_two fun b => (slotWAny c b : sProp 𝕄)]
  iintro ⟨%f, H⟩
  iapply (show (owns (c : Thread nD τ) wM fullShare f : sProp 𝕄) ⊢ bigSep Finset.univ fun b => slotWAny c b from
    (split_any c wM slotWR (fun _ _ => rfl) slotW_disj slotW_cov f).trans (bigSep_mono fun b _ => wslot_squeeze c b))
  rw [owns_whole]
  iexact H
theorem wslots_join : iprop(slotWAny (F := F) c 0 ∗ slotWAny (F := F) c 1) ⊢ someBuf (F := F) c cc0_scratch3 := by
  rw [← bigSep_univ_two fun b => (slotWAny c b : sProp 𝕄)]
  exact (bigSep_mono fun b _ => wslot_pts c b).trans (join_blocks c cc0_scratch3 slotWR slotW_disj slotW_cov)

/-! ## The result -/

/-- Where an index of the result lies in its block of rows. -/
def inRows (i : S2048x128.Idx) : S128x128.Idx := fun a => ⟨(i a).val % 128, by
  have h : S128x128.size a = 128 := by revert a; decide
  rw [h]; exact Nat.mod_lt _ (by decide)⟩
/-- The device whose block an index of the result lies in. -/
def rowsIx (i : S2048x128.Idx) : Dev nD := ⟨(i 0).val / 128, by have : (i 0).val < 2048 := (i 0).isLt; show _ < 16; omega⟩
/-- The whole result of device `c`. -/
def outAt : S2048x128.Idx → Elt F .f32 := fun i => rowsVal m c (rowsIx i) (inRows i)

theorem outAt_rows (p : Dev nD) (j : S128x128.Idx) : outAt m c ((rowsOR p).emb j) = rowsVal m c p j := by
  have h0 : (j 0).val < 128 := (j 0).isLt
  have h1 : (j 1).val < 128 := (j 1).isLt
  have e0 : (((rowsOR p).emb j) 0).val = 128 * p.val + 1 * (j 0).val := rfl
  have e1 : (((rowsOR p).emb j) 1).val = 0 + 1 * (j 1).val := rfl
  have hp : rowsIx ((rowsOR p).emb j) = p := Fin.ext (by show (((rowsOR p).emb j) 0).val / 128 = p.val; omega)
  have hj : inRows ((rowsOR p).emb j) = j := by
    funext a
    refine Fin.ext ?_
    change Fin 2 at a
    revert a
    refine Fin.forall_fin_two.mpr ⟨?_, ?_⟩
    · show (((rowsOR p).emb j) 0).val % 128 = (j 0).val; omega
    · show (((rowsOR p).emb j) 1).val % 128 = (j 1).val; omega
  unfold outAt
  rw [hp, hj]

theorem result_cut (f : S2048x128.Idx → Elt F .f32) :
    (owns (c : Thread nD τ) oM fullShare f : sProp 𝕄) ⊢ iprop(rowsAny (F := F) c c ∗ bigSep (Finset.univ.erase c) fun p => (rowsAny c p : sProp 𝕄)) := by
  rw [← bigSep_univ_at (fun p => (rowsAny c p : sProp 𝕄)) c]
  exact split_any c oM rowsOR (fun _ _ => rfl) rowsO_disj rowsO_cov f
theorem result_join : (bigSep Finset.univ (rowsGot m c) : sProp 𝕄) ⊢ owns (c : Thread nD τ) oM fullShare (outAt m c) := by
  refine (bigSep_mono fun p _ => ?_).trans (owns_of_rects (c : Thread nD τ) oM fullShare rowsOR (fun _ _ => rfl) rowsO_disj rowsO_cov (outAt m c))
  rw [show (fun j => outAt m c ((rowsOR p).emb j)) = rowsVal m c p from funext fun j => outAt_rows m c p j]
  exact Idealize.SL.BI.Entails.refl _

end Cert.Scatter
-- ==== Proof.Point.lean ====
/-
# The kernel at its one grid point

What a device holds when the launch hands it over, sorted into what its run starts from; and what its run ends with, sorted into
what the launch takes back.
-/
module

public import proofs.«01_k».proof.Proof.Body
public import proofs.«01_k».proof.Proof.Memory

@[expose] public section

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg) (K : Dev nD × KI → ℕ) (c : Dev nD)

/-! ## At the start -/

/-- The tokens device `c` pays with: those of its signals and those of its transfers. -/
def payToks : sProp 𝕄 :=
  iprop((bigSep Finset.univ fun k : Fin 16 => (dutyTok ER (barCell (nbr c k)) 0 c : sProp 𝕄)) ∗ bigSep Finset.univ (TxTok' (F := F) c))
/-- The local copies' semaphores at zero. -/
def copies : sProp 𝕄 := bigSep Finset.univ fun k : Fin 3 => semVal ((c : Thread nD τ), .dma (copySem k)) 0
/-- The places of device `c` at its own semaphores, its tokens, and its copies' semaphores. -/
def holds : sProp 𝕄 :=
  iprop((atPos ER (barCell c) 0 ∅ 0 ∗ (bigSep Finset.univ fun t => (atPos ER (sendCell c t) 0 ∅ 0 : sProp 𝕄))
      ∗ (bigSep Finset.univ fun p => (atPos ER (recvCell c p) 0 ∅ 0 : sProp 𝕄)))
    ∗ payToks (F := F) c ∗ copies (F := F) c)
/-- The claims on the receive semaphores: one for each other device. -/
def RecvCred (p : Dev nD) : sProp 𝕄 := if p = c then iprop(emp) else cred (tallyAt (recvCell c p) () N)
/-- An array of a device as launched. -/
abbrev argPts (b : Ref sig .tc) : sProp 𝕄 := ((c : Thread nD τ).loc b) ↦{fullShare} m ((c : Thread nD τ).loc b)

/-- What the launch gives device `c`. -/
def start : sProp 𝕄 :=
  iprop((∃ K, records m K ∗ holds (F := F) c) ∗ cred (tallyAt (barCell c) () 15) ∗ bigSep Finset.univ (RecvCred (F := F) c)
    ∗ argPts m c main_arg0 ∗ argPts m c main_arg1)

/-- Before the point: that, and the scratch buffers. -/
def Φ₀ : sProp 𝕄 :=
  iprop(start m c ∗ someBuf (F := F) c cc0_scratch0 ∗ someBuf (F := F) c cc0_scratch1 ∗ someBuf (F := F) c cc0_scratch2 ∗ someBuf (F := F) c cc0_scratch3)
/-- After the point: every semaphore at zero, the arguments as launched, the scratch buffers back. -/
def Φ₁ : sProp 𝕄 :=
  iprop((semVal (barCell c) 0 ∗ copies (F := F) c ∗ (bigSep Finset.univ fun t => (semVal (sendCell c t) 0 : sProp 𝕄))
      ∗ bigSep Finset.univ fun p => (semVal (recvCell c p) 0 : sProp 𝕄))
    ∗ (argPts m c main_arg0 ∗ argPts m c main_arg1)
    ∗ someBuf (F := F) c cc0_scratch0 ∗ someBuf (F := F) c cc0_scratch1 ∗ someBuf (F := F) c cc0_scratch2 ∗ someBuf (F := F) c cc0_scratch3)

/-- The signals' tokens and the landing slots: the device's own slot, and what each signal takes. -/
theorem signals_sort :
    iprop((bigSep Finset.univ fun k : Fin 16 => (dutyTok ER (barCell (nbr c k)) 0 c : sProp 𝕄)) ∗ bigSep Finset.univ fun p => (slotAny c p : sProp 𝕄))
      ⊢ iprop(slotAny (F := F) c c ∗ Todo (SigTok (F := F) c) 1) := by
  rw [bigSep_univ_equiv (nbrE c) (fun p => (slotAny c p : sProp 𝕄)), ← bigSep_sep']
  show bigSep Finset.univ (SigTok (F := F) c) ⊢ _
  rw [show bigSep Finset.univ (SigTok (F := F) c) = Todo (SigTok (F := F) c) (0 : Fin 16).val from (todo_zero _).symm, todo_take]
  unfold SigTok
  rw [nbr_zero]
  iintro ⟨⟨-, Hs⟩, HT⟩
  isplitl [Hs]
  · iexact Hs
  · iexact HT

/-- The places at the receive semaphores, the device's own slot and the claims: what each receive takes. -/
theorem receives_sort :
    iprop((bigSep Finset.univ fun p => (atPos ER (recvCell c p) 0 ∅ 0 : sProp 𝕄)) ∗ slotAny (F := F) c c ∗ bigSep Finset.univ (RecvCred (F := F) c))
      ⊢ bigSep Finset.univ (RxTok (F := F) c) := by
  unfold RxTok
  rw [bigSep_sep']
  refine sep_mono_right ?_
  rw [bigSep_univ_at (RecvCred (F := F) c) c, bigSep_univ_at (fun p => if p = c then slotAny (F := F) c c else cred (tallyAt (recvCell c p) () N)) c, if_pos rfl]
  iintro ⟨Hs, -, HC⟩
  isplitl [Hs]; · iexact Hs
  iapply (show bigSep (Finset.univ.erase c) (RecvCred (F := F) c)
    ⊢ bigSep (Finset.univ.erase c) fun p => if p = c then slotAny (F := F) c c else cred (tallyAt (recvCell c p) () N) from
      bigSep_mono fun p hp => by
        unfold RecvCred
        rw [if_neg (Finset.ne_of_mem_erase hp), if_neg (Finset.ne_of_mem_erase hp)]
        exact Idealize.SL.BI.Entails.refl _)
  iexact HC

theorem transfers_sort : bigSep Finset.univ (TxTok' (F := F) c) ⊢ Todo (TxTok (F := F) c) 0 := by
  rw [todo_zero, bigSep_univ_equiv (tgtE c) (TxTok' (F := F) c)]
  exact Idealize.SL.BI.Entails.refl _

theorem copies_eq : (copies (F := F) c) = iprop(semVal ((c : Thread nD τ), .dma (copySem 0)) 0 ∗ semVal ((c : Thread nD τ), .dma (copySem 1)) 0
    ∗ semVal ((c : Thread nD τ), .dma (copySem 2)) 0) := by
  unfold copies; exact bigSep_univ_eq_bigSepL [0, 1, 2] (by decide) (by decide) _

/-- What the launch gives is what the run starts from. -/
theorem begin_intro (W : Waits sig Unit) (f : S2048x128.Idx → Elt F .f32) :
    iprop(Φ₀ m c ∗ owes (c : Thread nD τ) (O c 1 0) W ∗ owns (c : Thread nD τ) oM fullShare f) ⊢ iprop(∃ K, Begin m K c) := by
  unfold Φ₀ start holds payToks
  rw [copies_eq]
  iintro ⟨⟨⟨⟨%K, #HR, ⟨Hab, Has, Har⟩, ⟨Hts, Htx⟩, Hv0, Hv1, Hv2⟩, Hcb, Hcr, Hx, Hw⟩, Hs0, Hs1, Hs2, Hs3⟩, HO, Ho⟩
  ihave Hsl := (slots_cut (F := F) c) $$ Hs2
  ihave H := (signals_sort (F := F) c) $$ [Hts Hsl]
  · isplitl [Hts] <;> iassumption
  icases H with ⟨Hown, HT⟩
  ihave Hrx := (receives_sort (F := F) c) $$ [Har Hown Hcr]
  · isplitl [Har]; · iexact Har
    isplitl [Hown] <;> iassumption
  ihave Htx := (transfers_sort (F := F) c) $$ Htx
  ihave Hxa := (x_room (F := F) c) $$ Hs0
  ihave HY := (product_cut (F := F) c) $$ Hs1
  ihave H := (wslots_cut (F := F) c) $$ Hs3
  icases H with ⟨Hw0, Hw1⟩
  ihave HW := (weight_cut m c) $$ Hw
  ihave H := (result_cut (F := F) c f) $$ Ho
  icases H with ⟨Hoc, Hor⟩
  ihave Hx := (Entails.of_eq (xHome_eq m c).symm) $$ Hx
  iexists K
  unfold Begin SgState Ow Idle
  isplitl [HO HT]
  · isplitr; · iexact HR
    isplitl [HO]; · iexists W; iexact HO
    iexact HT
  isplitl [Hx]; · iexact Hx
  isplitl [Hxa]; · iexact Hxa
  isplitl [Hv2]; · iexact Hv2
  isplitl [HW]; · iexact HW
  isplitl [Hv0 Hw0]
  · isplitl [Hv0]; · iexact Hv0
    iexact Hw0
  isplitl [Hv1 Hw1]
  · isplitl [Hv1]; · iexact Hv1
    iexact Hw1
  isplitr
  · unfold WDone
    rw [done_zero]
    iempintro
  isplitl [HY]; · iexact HY
  isplitl [Hcb]; · iexact Hcb
  isplitl [Hab]; · iexact Hab
  isplitl [Htx]; · iexact Htx
  isplitl [Hrx]; · iexact Hrx
  isplitl [Hoc]; · iexact Hoc
  isplitl [Hor]; · iexact Hor
  iexact Has

/-! ## At the end -/

/-- What the run ends with is what the launch takes back, with the result in place. -/
theorem finish_elim : Finish m c ⊢ iprop(Φ₁ m c ∗ (∃ W, owes (c : Thread nD τ) 0 W) ∗ owns (c : Thread nD τ) oM fullShare (outAt m c)) := by
  unfold Finish SxDone RxDone Ow Idle Φ₁
  rw [bigSep_sep', bigSep_sep', O_end, copies_eq]
  iintro ⟨⟨%W, HO⟩, ⟨Hvs, Hbl⟩, ⟨Hvr, Hsl⟩, Hrg, Hb, Hv2, ⟨Hv0, Hw0⟩, ⟨Hv1, Hw1⟩, Hx, Hxh, HD⟩
  ihave Hs2 := (slots_join (F := F) c) $$ Hsl
  ihave Hs1 := (product_join m c) $$ Hbl
  ihave Hs0 := (x_back m c) $$ Hxh
  ihave Hs3 := (wslots_join (F := F) c) $$ [Hw0 Hw1]
  · isplitl [Hw0] <;> iassumption
  ihave Hw := (weight_join m c) $$ HD
  ihave Ho := (result_join m c) $$ Hrg
  ihave Hx := (Entails.of_eq (xHome_eq m c)) $$ Hx
  isplitr [HO Ho]
  · isplitl [Hb Hv0 Hv1 Hv2 Hvs Hvr]
    · isplitl [Hb]; · iexact Hb
      isplitl [Hv0 Hv1 Hv2]
      · isplitl [Hv0]; · iexact Hv0
        isplitl [Hv1]; · iexact Hv1
        iexact Hv2
      isplitl [Hvs] <;> iassumption
    isplitl [Hx Hw]
    · isplitl [Hx] <;> iassumption
    isplitl [Hs0]; · iexact Hs0
    isplitl [Hs1]; · iexact Hs1
    isplitl [Hs2] <;> iassumption
  isplitl [HO]
  · iexists W; iexact HO
  · iexact Ho

/-! ## The proof data and the body -/

/-- The contents of the arrays before and after, what is held and what is owed. -/
def dats (_ : Fin 1) (c : Dev nD) : Dat τ (Elt F) Unit ℕ UU ℕ cfg0 c where
  A w := m ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O c 1 0
    | ⟨_ + 1, _⟩ => 0

/-- A staging buffer at contents. -/
abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre : sProp 𝕄 :=
  iprop(Φ₀ m c ∗ (dats m 0 c).owesAt () (t0_0 : Fin cfg0.N).castSucc ∗ (∃ d, stg c cc0_stg0_0 ((dats m 0 c).before (0 : Fin 1) (t0_0 : Fin cfg0.N) d)))
def bodyPost : sProp 𝕄 :=
  iprop(Φ₁ m c ∗ (dats m 0 c).owesAt () (t0_0 : Fin cfg0.N).succ ∗ stg c cc0_stg0_0 (outAt m c))

/-- The body run from what the launch gives to what it takes back. -/
theorem body_runs : bodyPre m c ⊢ run c (cc0_body (F := F) xH (Memref.isWhole_whole _) wH (Memref.isWhole_whole _) oM (Memref.isWhole_whole _) xM (Memref.isWhole_whole _) yM (Memref.isWhole_whole _) rM (Memref.isWhole_whole _) wM (Memref.isWhole_whole _) cc0_scratch4 cc0_scratch5 cc0_scratch6) (fun _ => bodyPost m c) := by
  unfold bodyPre
  rw [show (dats m 0 c).owesAt () (t0_0 : Fin cfg0.N).castSucc = iprop(∃ W, ⌜_⌝ ∗ owes (c : Thread nD τ) (O c 1 0) W) from rfl]
  iintro ⟨HΦ, ⟨%W, -, HO⟩, ⟨%d, %f, -, Ho⟩⟩
  ihave H := (begin_intro m c W f) $$ [HΦ HO Ho]
  · isplitl [HΦ]; · iexact HΦ
    isplitl [HO]; · iexact HO
    iapply (Entails.of_eq (owns_whole (c : Thread nD τ) cc0_stg0_0 fullShare f).symm); iexact Ho
  icases H with ⟨%K, HB⟩
  iapply (whole m K c)
  isplitl [HB]; · iexact HB
  iintro HF
  ihave H := (finish_elim m c) $$ HF
  icases H with ⟨HΦ, ⟨%W', HO⟩, Ho⟩
  unfold bodyPost
  isplitl [HΦ]; · iexact HΦ
  isplitl [HO]
  · unfold Dat.owesAt Pipeline.owesWithin
    iexists W'
    isplitr; · ipureintro; exact fun _ _ => Or.inl trivial
    iexact HO
  iexists (outAt m c)
  isplitr; · (ipureintro; rfl)
  iapply (Entails.of_eq (owns_whole (c : Thread nD τ) cc0_stg0_0 fullShare (outAt m c)))
  iexact Ho

set_option maxHeartbeats 2000000 in
set_option maxRecDepth 4000 in
/-- The obligation of the body at the launch's one point. -/
theorem body_obligation : BodyObligation (dats m 0 c) (defs₀ (F := F)) 𝒱₀ () Set.univ := fun t => by
  rw [fin_N0 t]
  rw [bigSep_W0, bigSep_W0]
  simp only [owns_whole_eq]
  show bodyPre m c ⊢ run c (cc0_body (F := F) xH (Memref.isWhole_whole _) wH (Memref.isWhole_whole _) oM (Memref.isWhole_whole _) xM (Memref.isWhole_whole _) yM (Memref.isWhole_whole _) rM (Memref.isWhole_whole _) wM (Memref.isWhole_whole _) cc0_scratch4 cc0_scratch5 cc0_scratch6) (fun _ => bodyPost m c)
  exact body_runs m c

end Cert.Scatter
-- ==== Proof.Launch.lean ====
/-
# The launch

The semaphores, the rounds and the claims dealt to the devices; and the run of the whole program from any memory.
-/
module

public import proofs.«01_k».proof.Proof.Point
public import Idealize.ShloMosaic.Lib.Pipeline.CollectiveSegs
public import Idealize.ShloMosaic.Lib.Quiescent

@[expose] public section

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg) (K : Dev nD × KI → ℕ) (c : Dev nD)

/-! ## The cells and the tokens -/

theorem ksem_injective : Function.Injective ksem := by
  have hs : ∀ t p, sendSem t ≠ recvSem p := fun t p h => by
    have := congrArg dmaKind h; rw [dmaKind_send, dmaKind_recv] at this; cases this
  rintro (a | t | p) (a' | t' | p') h
  · rfl
  · cases h
  · cases h
  · cases h
  · have := congrArg dmaKind (SemLoc.dma.inj h); rw [dmaKind_send, dmaKind_send] at this; cases this; rfl
  · exact absurd (SemLoc.dma.inj h) (hs t p')
  · cases h
  · exact absurd (SemLoc.dma.inj h).symm (hs t' p)
  · have := congrArg dmaKind (SemLoc.dma.inj h); rw [dmaKind_recv, dmaKind_recv] at this; cases this; rfl

theorem kcell_injective : Function.Injective (kcell : Dev nD × KI → GSem nD τ sig) := by
  rintro ⟨c, k⟩ ⟨c', k'⟩ h
  obtain rfl : c = c' := congrArg (fun g : GSem nD τ sig => g.1.1) h
  obtain rfl : k = k' := ksem_injective (congrArg Prod.snd h)
  rfl
theorem bar_inj {a b : Dev nD} : barCell a = barCell b ↔ a = b :=
  ⟨fun h => congrArg (fun g : GSem nD τ sig => g.1.1) h, fun h => h ▸ rfl⟩
theorem recv_inj {a b p q : Dev nD} : recvCell a p = recvCell b q ↔ a = b ∧ p = q :=
  ⟨fun h => by
    have := kcell_injective (a₁ := (a, .inr (.inr p))) (a₂ := (b, .inr (.inr q))) h
    cases this; exact ⟨rfl, rfl⟩, fun h => by rw [h.1, h.2]⟩
theorem recv_ne_bar (a p b : Dev nD) : recvCell a p ≠ barCell b := fun h => by cases congrArg Prod.snd h

def allCells : Finset (GSem nD τ sig) := Finset.univ.map ⟨kcell, kcell_injective⟩

/-- The duties of one device's cells: its barrier's by payer, one for each send and one for each receive. -/
abbrev TI : Type := Dev nD ⊕ (Dev nD ⊕ Dev nD)
abbrev tokOf : Dev nD × TI → GSem nD τ sig × ℕ × Dev nD
  | (c, .inl d) => (barCell c, 0, d)
  | (c, .inr (.inl t)) => (sendCell c t, 0, 0)
  | (c, .inr (.inr p)) => (recvCell c p, 0, 0)
theorem tokOf_injective : Function.Injective tokOf := by
  have hk : ∀ (a : Dev nD × KI) (b : Dev nD × KI), kcell a = kcell b → a = b := fun a b h => kcell_injective h
  rintro ⟨c, d | t | p⟩ ⟨c', d' | t' | p'⟩ h
  · cases hk (c, .inl ()) (c', .inl ()) (congrArg Prod.fst h)
    cases congrArg (fun x : GSem nD τ sig × ℕ × Dev nD => x.2.2) h; rfl
  · cases hk (c, .inl ()) (c', .inr (.inl t')) (congrArg Prod.fst h)
  · cases hk (c, .inl ()) (c', .inr (.inr p')) (congrArg Prod.fst h)
  · cases hk (c, .inr (.inl t)) (c', .inl ()) (congrArg Prod.fst h)
  · cases hk (c, .inr (.inl t)) (c', .inr (.inl t')) (congrArg Prod.fst h); rfl
  · cases hk (c, .inr (.inl t)) (c', .inr (.inr p')) (congrArg Prod.fst h)
  · cases hk (c, .inr (.inr p)) (c', .inl ()) (congrArg Prod.fst h)
  · cases hk (c, .inr (.inr p)) (c', .inr (.inl t')) (congrArg Prod.fst h)
  · cases hk (c, .inr (.inr p)) (c', .inr (.inr p')) (congrArg Prod.fst h); rfl
def allToks : Finset (GSem nD τ sig × ℕ × Dev nD) := Finset.univ.map ⟨tokOf, tokOf_injective⟩

def u₀ : UU :=
  (initOf (Pipeline.cells cfgs cellOf_inj) (Pipeline.launchToks cfgs cellOf_inj), (initOf allCells allToks, 1))

/-- The duty tokens of device `c`'s own cells. -/
def toks : sProp 𝕄 :=
  iprop((bigSep Finset.univ fun d : Dev nD => (dutyTok ER (barCell c) 0 d : sProp 𝕄))
    ∗ (bigSep Finset.univ fun t : Dev nD => (dutyTok ER (sendCell c t) 0 0 : sProp 𝕄))
    ∗ (bigSep Finset.univ fun p : Dev nD => (dutyTok ER (recvCell c p) 0 0 : sProp 𝕄)))

/-- What the launch element deals device `c`. -/
def G : sProp 𝕄 :=
  iprop((bigSep Finset.univ fun k : KI => roundState ER (Rd m) (kcell (c, k)) 0)
    ∗ ((bigSep Finset.univ fun k : KI => (atPos ER (kcell (c, k)) 0 ∅ 0 : sProp 𝕄))
      ∗ (bigSep Finset.univ fun k : KI => (reached ER (kcell (c, k)) 0 : sProp 𝕄))) ∗ toks (F := F) c)

/-- The invariants and the rounds reached, over every device. -/
def invs : sProp 𝕄 :=
  iprop((bigSep Finset.univ fun ck : Dev nD × KI => cellInv ER (Rd m) (K ck) (kcell ck))
    ∗ (bigSep Finset.univ fun ck : Dev nD × KI => reached ER (kcell ck) 0))
instance invs_persistent : BI.Persistent (invs m K) := by unfold invs; infer_instance

/-- What the launch makes of it. -/
def G' : sProp 𝕄 := iprop(∃ K, invs m K ∗ holds (F := F) c)

/-- A family over one device's cells, by kind. -/
theorem cells_eq (Φ : KI → sProp 𝕄) :
    bigSep Finset.univ Φ = iprop(Φ (.inl ()) ∗ (bigSep Finset.univ fun t => Φ (.inr (.inl t))) ∗ bigSep Finset.univ fun p => Φ (.inr (.inr p))) := by
  rw [bigSep_univ_sum, bigSep_univ_sum, Finset.univ_unique, bigSep_singleton]; rfl

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : KI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => by unfold toks; rw [bigSep_univ_sum, bigSep_univ_sum]; rfl
  unfold G
  rw [bigSep_sep', bigSep_sep', bigSep_sep']
  iintro HX
  imod (Rounds.fund ER (Rd m) allCells allToks) $$ HX with ⟨Hst, Hr, Hat, Htok⟩
  imodintro
  isplitl [Hst]; · iapply (Entails.of_eq (hX fun g => roundState ER (Rd m) g 0)); iexact Hst
  isplitl [Hat Hr]
  · isplitl [Hat]
    · iapply (Entails.of_eq (hX fun g => atPos ER g 0 ∅ 0)); iexact Hat
    · iapply (Entails.of_eq (hX fun g => reached ER g 0)); iexact Hr
  iapply (Entails.of_eq hT); iexact Htok

/-! ## The semaphores -/

/-- The kernel's own semaphores: the copies', the sends' and the receives'. -/
abbrev osem : Fin 3 ⊕ (Dev nD ⊕ Dev nD) → SemLoc sig
  | .inl k => .dma (copySem k)
  | .inr (.inl t) => .dma (sendSem t)
  | .inr (.inr p) => .dma (recvSem p)

theorem ownSemFacts : Pipeline.OwnSemFacts cfg0.spec osem := by decide

theorem ownSems0_eq : (Pipeline.ownSems0 (Ix := Unit) (Name := ℕ) (U := UU) (Lvl := ℕ) (Val := Elt F) (τ := τ) osem c : sProp 𝕄)
    = iprop(copies (F := F) c ∗ (bigSep Finset.univ fun t => (semVal (sendCell c t) 0 : sProp 𝕄)) ∗ bigSep Finset.univ fun p => (semVal (recvCell c p) 0 : sProp 𝕄)) := by
  unfold Pipeline.ownSems0 copies
  rw [bigSep_univ_sum, bigSep_univ_sum]; rfl
/-- The barrier semaphore is the launch's one unscoped semaphore. -/
theorem unscopedSems0_eq : (unscopedSems0 c : sProp 𝕄) = semVal (barCell c) 0 := by
  unfold unscopedSems0; rw [bigSep_eq_bigSepL_of_eq [SemLoc.reg barS] (by decide) (by decide)]; rfl

/-- The invariants of one device's cells are made from their semaphores. -/
theorem cells_alloc :
    iprop((bigSep Finset.univ fun k : KI => semVal (kcell (c, k)) 0) ∗ bigSep Finset.univ fun k : KI => roundState ER (Rd m) (kcell (c, k)) 0)
      ⊢ (|={Set.univ}=> bigSep Finset.univ fun k => iprop(∃ κ : ℕ, cellInv ER (Rd m) κ (kcell (c, k))) : sProp 𝕄) := by
  rw [← bigSep_sep']
  exact (bigSep_mono fun k _ => (Rounds.body_intro ER (Rd m) (kcell (c, k))).trans inv_alloc).trans (bigSep_fupd _ _)

/-- What one device has when its invariants are made. -/
def made : sProp 𝕄 :=
  iprop((bigSep Finset.univ fun k : KI => iprop(∃ κ : ℕ, cellInv ER (Rd m) κ (kcell (c, k))))
    ∗ (bigSep Finset.univ fun k : KI => (reached ER (kcell (c, k)) 0 : sProp 𝕄))
    ∗ (bigSep Finset.univ fun k : KI => (atPos ER (kcell (c, k)) 0 ∅ 0 : sProp 𝕄)) ∗ toks (F := F) c ∗ copies (F := F) c)

theorem core_alloc :
    iprop(Pipeline.ownSems0 (Ix := Unit) (Name := ℕ) (U := UU) (Lvl := ℕ) (Val := Elt F) (τ := τ) osem c ∗ unscopedSems0 c ∗ G m c)
      ⊢ |={Set.univ}=> made m c := by
  unfold G made
  rw [ownSems0_eq, unscopedSems0_eq]
  iintro ⟨⟨Hc, Hs, Hr⟩, Hb, Hst, ⟨Hat, Hre⟩, Htok⟩
  ihave Hv := (Entails.of_eq (cells_eq (F := F) (fun k => semVal (kcell (c, k)) 0)).symm) $$ [Hb Hs Hr]
  · isplitl [Hb]; · iexact Hb
    isplitl [Hs] <;> iassumption
  imod (cells_alloc m c) $$ [Hv Hst] with Hinv
  · isplitl [Hv] <;> iassumption
  imodintro
  isplitl [Hinv]; · iexact Hinv
  isplitl [Hre]; · iexact Hre
  isplitl [Hat]; · iexact Hat
  isplitl [Htok] <;> iassumption

/-- The tokens dealt out: each goes to the device that pays it. -/
theorem toks_deal : (bigSep Finset.univ fun c : Dev nD => (toks (F := F) c : sProp 𝕄)) ⊢ bigSep Finset.univ fun c : Dev nD => payToks (F := F) c := by
  have hb : (bigSep Finset.univ fun c : Dev nD => bigSep Finset.univ fun d : Dev nD => (dutyTok ER (barCell c) 0 d : sProp 𝕄))
      = bigSep Finset.univ fun d : Dev nD => bigSep Finset.univ fun k : Fin 16 => (dutyTok ER (barCell (nbr d k)) 0 d : sProp 𝕄) := by
    rw [bigSep_univ_comm]
    exact bigSep_congr fun d _ => bigSep_univ_equiv (nbrE d) fun c => (dutyTok ER (barCell c) 0 d : sProp 𝕄)
  have ht : iprop((bigSep Finset.univ fun c : Dev nD => bigSep Finset.univ fun t : Dev nD => (dutyTok ER (sendCell c t) 0 0 : sProp 𝕄))
        ∗ (bigSep Finset.univ fun c : Dev nD => bigSep Finset.univ fun p : Dev nD => (dutyTok ER (recvCell c p) 0 0 : sProp 𝕄)))
      = bigSep Finset.univ fun c : Dev nD => bigSep Finset.univ (TxTok' (F := F) c) := by
    rw [bigSep_univ_comm (fun c p : Dev nD => (dutyTok ER (recvCell c p) 0 0 : sProp 𝕄)), ← bigSep_sep']
    exact bigSep_congr fun c _ => by rw [← bigSep_sep']; rfl
  unfold toks payToks
  rw [bigSep_sep', bigSep_sep', bigSep_sep', hb, ht]

theorem ghost_intro : iprop(invs m K ∗ holds (F := F) c) ⊢ G' m c := by
  unfold G'
  iintro H
  iexists K
  iexact H

theorem holds_all : iprop((bigSep Finset.univ fun c : Dev nD => bigSep Finset.univ fun k : KI => (atPos ER (kcell (c, k)) 0 ∅ 0 : sProp 𝕄))
      ∗ (bigSep Finset.univ fun c : Dev nD => (payToks (F := F) c : sProp 𝕄)) ∗ bigSep Finset.univ fun c : Dev nD => (copies (F := F) c : sProp 𝕄))
    = bigSep Finset.univ (holds (F := F)) := by
  rw [← bigSep_sep', ← bigSep_sep']
  exact bigSep_congr fun c _ => by unfold holds; rw [cells_eq]

/-- A persistent fact goes to each member of a family. -/
theorem family_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ fun c : Dev nD => (made m c : sProp 𝕄)) ⊢ bigSep Finset.univ (G' m) := by
  unfold made
  rw [bigSep_sep', bigSep_sep', bigSep_sep', bigSep_sep',
    ← bigSep_univ_prod (fun ck : Dev nD × KI => iprop(∃ κ : ℕ, cellInv ER (Rd m) κ (kcell ck))),
    ← bigSep_univ_prod (fun ck : Dev nD × KI => (reached ER (kcell ck) 0 : sProp 𝕄))]
  iintro ⟨HI, #HR, Hat, Htok, Hc⟩
  ihave HK := (BI.bigSep_exists_pi Finset.univ (fun (ck : Dev nD × KI) (κ : ℕ) => (cellInv ER (Rd m) κ (kcell ck) : sProp 𝕄))) $$ HI
  icases HK with ⟨%K, #HI⟩
  ihave Htk := (toks_deal (F := F)) $$ Htok
  iapply (family_with (R := invs m K) fun c _ => ghost_intro m K c)
  isplitr
  · unfold invs; isplitl; · iexact HI
    iexact HR
  · iapply (Entails.of_eq (holds_all (F := F)))
    isplitl [Hat]; · iexact Hat
    isplitl [Htk]; · iexact Htk
    iexact Hc

/-- Every device's semaphores at once become the invariants and what each device holds. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The claims -/

/-- What device `c` owes at the launch: every signal but the one to itself, every transfer. -/
abbrev O₀ (c : Dev nD) : CellTallies nD τ sig Unit := O c 1 0

theorem O₀_apply (d : Dev nD) (g : GSem nD τ sig) : O₀ d g () =
    (∑ i : Fin 16, if tgt d i = d then 0 else if g = recvCell (tgt d i) d then N else 0)
      + ∑ k ∈ Finset.univ.filter (fun k : Fin 16 => 1 ≤ k.val), if g = barCell (nbr d k) then 1 else 0 := by
  unfold O₀ O
  rw [Pi.add_apply, Finsupp.add_apply, Finset.sum_apply, Finsupp.finset_sum_apply, Finset.sum_apply, Finsupp.finset_sum_apply,
    Finset.filter_true_of_mem (fun i _ => Nat.zero_le _)]
  refine congrArg₂ (· + ·) (Finset.sum_congr rfl fun i _ => ?_) (Finset.sum_congr rfl fun k _ => ?_)
  · split
    · rfl
    · rw [tallyAt_apply]; simp only [and_true]
  · rw [tallyAt_apply]; simp only [and_true]

theorem nbr_count : ∀ d c : Dev nD, (∑ k ∈ Finset.univ.filter (fun k : Fin 16 => 1 ≤ k.val), if c = nbr d k then 1 else 0) = if d = c then 0 else 1 := by
  decide +kernel

/-- Every other device owes a barrier one unit. -/
theorem owed_bar (d : Dev nD) : O₀ d (barCell c) () = if d = c then 0 else 1 := by
  rw [O₀_apply, Finset.sum_eq_zero (fun i _ => by
    split
    · rfl
    · rw [if_neg (recv_ne_bar _ _ _).symm]), zero_add]
  simp only [bar_inj]
  exact nbr_count d c

/-- A receive semaphore is owed one block by its sender, when that is another device. -/
theorem owed_recv (d p : Dev nD) : O₀ d (recvCell c p) () = if d = p then (if p = c then 0 else N) else 0 := by
  rw [O₀_apply, Finset.sum_eq_zero (s := Finset.univ.filter _) (fun k _ => if_neg (recv_ne_bar _ _ _)), add_zero,
    show (∑ i : Fin 16, if tgt d i = d then 0 else if recvCell c p = recvCell (tgt d i) d then N else 0)
      = ∑ t : Dev nD, if t = d then 0 else if recvCell c p = recvCell t d then N else 0 from
        Equiv.sum_comp (tgtE d) fun t : Dev nD => if t = d then 0 else if recvCell c p = recvCell t d then N else 0]
  simp only [recv_inj]
  rw [Finset.sum_eq_single c (fun t _ ht => by rw [if_neg (fun h : c = t ∧ p = d => ht h.1.symm), ite_self]) (fun h => absurd (Finset.mem_univ _) h)]
  by_cases h : d = p
  · subst h
    rw [if_pos rfl]
    by_cases h' : c = d
    · rw [if_pos h', if_pos h'.symm]
    · rw [if_neg h', if_pos ⟨rfl, rfl⟩, if_neg (fun h => h' h.symm)]
  · rw [if_neg h, if_neg (fun h' : c = c ∧ p = d => h h'.2.symm), ite_self]

theorem launch_bar :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar c d]
  revert c; decide +kernel

theorem launch_recv (p : Dev nD) :
    tallyOn (recvCell c p) (launchCredit (Pipeline.owing O₀) 0 (recvCell c p))
      = (tallyAt (recvCell c p) () (if p = c then 0 else N) : CellTallies nD τ sig Unit) := by
  unfold tallyAt; refine congrArg _ (Finsupp.ext fun u => ?_); cases u
  rw [Pipeline.launchCredit_owing, Finsupp.single_eq_same, Finset.sum_congr rfl fun d _ => owed_recv c d p,
    Finset.sum_ite_eq' Finset.univ p fun _ => if p = c then 0 else N, if_pos (Finset.mem_univ _)]

theorem recv_claim (p : Dev nD) :
    (cred (tallyOn (recvCell c p) (launchCredit (Pipeline.owing O₀) 0 (recvCell c p))) : sProp 𝕄) ⊢ RecvCred (F := F) c p := by
  rw [launch_recv]
  unfold RecvCred
  by_cases h : p = c
  · rw [if_pos h, if_pos h]
    iintro -
    iempintro
  · rw [if_neg h, if_neg h]

/-- The receive semaphores among the semaphores. -/
def recvEmb : Dev nD ↪ SemLoc sig :=
  ⟨fun p => .dma (recvSem p), fun p q h => by
    have : (Sum.inr (Sum.inr p) : KI) = Sum.inr (Sum.inr q) := ksem_injective h
    cases this; rfl⟩

theorem claims : (Pipeline.launchCred O₀ c : sProp 𝕄) ⊢ iprop(cred (tallyAt (barCell c) () 15) ∗ bigSep Finset.univ (RecvCred (F := F) c)) := by
  unfold Pipeline.launchCred
  rw [bigSep_univ_at _ (SemLoc.reg barS), launch_bar]
  refine sep_mono_right ?_
  refine (bigSep_subset (t := Finset.univ.map recvEmb) fun sm hsm => ?_).trans ?_
  · obtain ⟨p, -, rfl⟩ := Finset.mem_map.mp hsm
    exact Finset.mem_erase.mpr ⟨fun h => (by cases h), Finset.mem_univ _⟩
  · rw [bigSep_map]
    exact bigSep_mono fun p _ => recv_claim c p

/-! ## The side conditions -/

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' invs records argPts
  iintro ⟨⟨Hx, Hw⟩, #Hlev, Hcr, -, ⟨%K, ⟨#HI, #HR⟩, HG⟩⟩
  ihave Hc := (claims (F := F) c) $$ Hcr
  icases Hc with ⟨H1, HN⟩
  imodintro
  isplitl
  · isplitl [HG]
    · iexists K
      isplitr
      · isplitr; · iexact HI
        isplitr; · iexact HR
        iexact Hlev
      · iexact HG
    isplitl [H1]; · iexact H1
    isplitl [HN]; · iexact HN
    isplitl [Hx] <;> iassumption
  · iempintro

theorem phi0_intro :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ someBuf
  iintro ⟨Hs, -, Hr⟩
  isplitl [Hs]; · iexact Hs
  iexact Hr

theorem phi1_exit :
    (dats m 0 c).Φ (Fin.last cfg0.N)
      ⊢ iprop((unscopedSems0 c ∗ argPts m c main_arg0 ∗ argPts m c main_arg1) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ someBuf
  iintro ⟨⟨Hb, Hs⟩, Ha, Hr⟩
  isplitl [Hb Ha]
  · isplitl [Hb] <;> iassumption
  isplitl [Hs] <;> iassumption

/-- Waiting for the result's way out is allowed whatever is owed. -/
theorem wait_stage (q : DmaSem sig) (hq : dmaKind q = none) (O : CellTallies nD τ sig Unit) (hO : O = O₀ c ∨ O = 0) :
    (levAts L lv : sProp 𝕄) ⊢ MayWait (c : Thread nD τ) (.dma q) () O := by
  have hl : lv ((c : Thread nD τ), .dma q) () = 0 := by unfold lv; dsimp only; rw [hq]
  rcases hO with rfl | rfl
  · exact mayWait_low c _ hl 1 0
  · exact O_end c ▸ mayWait_low c _ hl 16 16

theorem waits : (levAts L lv : sProp 𝕄) ⊢ Pipeline.cellsWaits cfgs (dats m) () 0 c :=
  Pipeline.cellsWaits_intro cfgs (dats m) () 0 c fun w s t => wait_stage c _ (by fin_cases w <;> fin_cases s <;> decide) _ (by
    rcases t with ⟨_ | _, ht⟩
    · exact Or.inl rfl
    · exact Or.inr rfl)

theorem share_eq (w : Fin cfg0.W) : (dats m 0 c).share w = fullShare := by unfold Dat.share; split <;> rfl

/-! ## The run -/

/-- Memory as given, every counter at zero. -/
def s₀ : MemSt nD τ sig (Elt F) := ⟨m, fun _ => 0, ρ⟩

/-- What a device's semaphores and arguments are at the end. -/
def Kept (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)

theorem kept_read (s' : Phys nD τ sig (Elt F)) :
    iprop((unscopedSems0 c ∗ argPts m c main_arg0 ∗ argPts m c main_arg1) ∗ emp ∗ SI s') ⊢ |={Set.univ}=> iprop(⌜Kept m c s'.mem⌝ ∗ (SI s' : sProp 𝕄)) := by
  iintro ⟨⟨Hu, Hx, Hw⟩, -, HSI⟩
  icombine HSI Hx gives %hx
  icombine HSI Hw gives %hw
  imod (Pipeline.unscopedSems0_read (X := unscopedSems0 c) (c := c) fupd_intro s') $$ [Hu HSI] with ⟨%hs, HSI⟩
  · isplitl [Hu] <;> iassumption
  imodintro
  isplitr
  · ipureintro
    exact ⟨hs, Buf.eq_of_forall_mem_univ hx, Buf.eq_of_forall_mem_univ hw⟩
  · iexact HSI

/-- The result, the arguments and the semaphores at the end. -/
def Post : PUnit × MemSt nD τ sig (Elt F) → Prop := fun r =>
  (∀ c : Dev nD, r.2.mem ((c : Thread nD τ).loc main_v1) = (dats m 0 c).arrAt (0 : Fin 1) cfg0.N
    ∧ r.2.mem ((c : Thread nD τ).loc main_arg0) = m ((c : Thread nD τ).loc main_arg0)
    ∧ r.2.mem ((c : Thread nD τ).loc main_arg1) = m ((c : Thread nD τ).loc main_arg1)) ∧ r.2.sem = fun _ => 0

set_option maxRecDepth 8000 in
/-- From any memory with zero counters, every weakly fair execution of the program terminates, and every final state has each
    device's result array at the computed contents, the arguments unchanged and every semaphore counter at zero. -/
theorem run_main : θ_run defs (onTc (τ := τ) (main (F := F))) (s₀ m ρ) (Post m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (show BI.own (embR (initOf allCells allToks, (1 : Counters))) ⊢ (BI.own (ER (initOf allCells allToks)) : sProp 𝕄) from
        Idealize.SL.BI.Entails.refl _) $$ HX
      imod (fund_all m) $$ HX with HG
      imodintro
      isplitl [HP] <;> iassumption)
    (hglob := glob m)
    (hA := fun _ _ => rfl) (hpf := fun _ k => k.elim0)
    (X := start m) (Y := fun c => iprop(unscopedSems0 c ∗ argPts m c main_arg0 ∗ argPts m c main_arg1)) (Z := fun _ => iprop(emp))
    (hX := start_intro m ρ) (hin := phi0_intro m) (hout := phi1_exit m)
    (QY := Kept m)
    (hY := kept_read m)
    (hQ := fun _ h hs => ⟨fun c => ⟨(h c).1 0, (h c).2.2.2.1, (h c).2.2.2.2⟩, sem_eq_zero hs fun c => (h c).2.2.1⟩)

end Cert.Scatter
-- ==== Proof.Values.lean ====
/-
# The values

What the run leaves in each device's result array, and, at the exact values, why that is the device's block of columns of
the reference's result: an entry of either is the sum of one row of `x` times one column of the weight, no less than zero.
-/
module

public import proofs.«01_k».proof.Proof.Launch
public import proofs.«01_k».proof.Proof.Gen.ReferenceIdeal
public import proofs.«01_k».proof.Proof.Gen.ReferenceIdeal.Run
public import Idealize.ShloMosaic.Lib.Layout
public import Idealize.ShloMosaic.Lib.MatmulPlain
public import Idealize.ShloMosaic.Lib.StackMember

@[expose] public section

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.ValueIdx
open scoped BigOperators

/-! ## The result array after the run -/

section Array
variable (m : (ℓ : Loc nD τ sig) → Buf (Elt F) ℓ) (c : Dev nD)

/-- The result array's one block, the whole array, is written once, at the only point. -/
theorem result_array : (dats m 0 c).arrAt (0 : Fin 1) cfg0.N = outAt m c := by
  have h : (win0_0.blk (0 : Fin 1)).view.read (Elt F) ((dats m 0 c).arrAt (0 : Fin 1) cfg0.N) = outAt m c := by
    rw [show cfg0.N = ((0 : Fin 1) : Fin cfg0.N).val + 1 from rfl, (dats m 0 c).arrAt_succ (0 : Fin 1) (0 : Fin 1)]
    rw [show (cfg0.win (0 : Fin 1)).flush (0 : Fin 1) = true from by decide, if_pos rfl]
    exact View.read_write_univ _ _
  refine Eq.trans ?_ h
  funext i
  refine (congrArg ((dats m 0 c).arrAt (0 : Fin 1) cfg0.N) ?_).symm
  show (win0_0.blk (0 : Fin 1)).view.emb i = i
  funext a
  refine Fin.ext ?_
  change Fin 2 at a
  revert a
  refine Fin.forall_fin_two.mpr ⟨?_, ?_⟩
  · show 0 + 1 * (i 0).val = (i 0).val; omega
  · show 0 + 1 * (i 1).val = (i 1).val; omega

end Array

/-! ## An entry of the product -/

/-- An entry of the exact product, no less than zero. -/
def entry {M N' : ℕ} (X : FVec Ideal ⟨2, ![M, 2048]⟩ .f32) (W : FVec Ideal ⟨2, ![2048, N']⟩ .f32) (r : Fin M) (l : Fin N') : EReal :=
  max (∑ q : Fin 2048, X (ix2 r q) * W (ix2 q l)) (Ideal.ofBits .f32 0x00000000#32)

variable (m : (ℓ : Loc nD τ sig) → Buf (Elt Ideal) ℓ) (c p : Dev nD) (k : Fin 8)

theorem chunkOf_apply (x : FVec Ideal S128x2048 .f32) (w : FVec Ideal S2048x256 .f32) (r : Fin 128) (l : Fin 256) :
    chunkOf x w (ix2 r l) = entry x w r l := by
  unfold chunkOf k0_pay6 entry
  show shapeCast S128x256 _ _ (ix2 r l) = _
  rw [shapeCast_self]
  show max (FloatOps.matmul (DotDims.plain 128 2048 256) none x w (constant S128x256 .f32 0x00000000#32) (ix2 r l)) _ = _
  rw [Ideal.matmul_plain_apply]
  refine congrArg₂ max ?_ rfl
  show Ideal.ofBits .f32 0x00000000#32 + _ = _
  rw [Ideal.ofBits_zero_f32, zero_add]

/-- An index of a two-axis array from its two coordinates. -/
theorem ix2_of {M N' : ℕ} (j : (⟨2, ![M, N']⟩ : Shape).Idx) (r : Fin M) (l : Fin N') (hr : (j 0).val = r.val) (hl : (j 1).val = l.val) :
    j = ix2 r l := by
  funext a
  refine Fin.ext ?_
  change Fin 2 at a
  revert a
  exact Fin.forall_fin_two.mpr ⟨hr, hl⟩

/-- The reference's result. -/
abbrev refOut (X W : FVec Ideal S2048x2048 .f32) : FVec Ideal S2048x2048 .f32 :=
  maximumf (Host.dotGeneral Cert.ReferenceIdeal.dot_S2048x2048_S2048x2048_S2048x2048_1_0_0_1_n_n none X W)
    (broadcastInDim Cert.ReferenceIdeal.S2048x2048 ![] Cert.ReferenceIdeal.Gen.bcast_S_S2048x2048 (constant Cert.ReferenceIdeal.S_ .f32 0x00000000#32))

/-- The reference's result, read at an entry. -/
theorem reference_apply (X W : FVec Ideal S2048x2048 .f32) (r l : Fin 2048) :
    refOut X W (ix2 r l) = entry X W r l := by
  unfold entry
  show max (Host.dotGeneral (DotDims.plain 2048 2048 2048) none X W (ix2 r l)) _ = _
  rw [StackMember.dotGeneral_plain_apply]
  rfl

/-! ## One device's result -/

/-- An entry of device `c`'s result, in the rows it got from device `p`. -/
theorem rowsVal_apply (j : S128x128.Idx) (r : Fin 128) (l : Fin 256) (hr : (j 0).val = r.val) (hl : 128 * (c.val % 2) + (j 1).val = l.val) :
    rowsVal m c p j = entry (xOf m p) (wOf m p (chunkIx c)) r l := by
  show chunkOf (xOf m p) (wOf m p (chunkIx c)) ((halfR (halfIx c)).emb j) = _
  rw [ix2_of ((halfR (halfIx c)).emb j) r l
    (by show 0 + 1 * (j 0).val = r.val; omega) (by show 128 * (c.val % 2) + 1 * (j 1).val = l.val; omega)]
  exact chunkOf_apply _ _ r l

/-- The chunk of a weight, read at an entry. -/
theorem wOf_apply (q : Fin 2048) (l : Fin 256) :
    wOf m c k (ix2 q l) = (m ((c : Thread nD τ).loc main_arg1) : FVec Ideal S2048x2048 .f32) (ix2 q ⟨256 * k.val + l.val, by have := k.isLt; have := l.isLt; omega⟩) := by
  show (m ((c : Thread nD τ).loc main_arg1) : FVec Ideal S2048x2048 .f32) ((chunkHR k).emb (ix2 q l)) = _
  exact congrArg _ (ix2_of _ q _ (by show 0 + 1 * q.val = q.val; omega) (by show 256 * k.val + 1 * l.val = 256 * k.val + l.val; omega))

/-- When each device holds its rows of `X` and all of `W`, an entry of a device's result is the entry of the whole product
    at the device's own columns. -/
theorem outAt_apply (X W : FVec Ideal S2048x2048 .f32)
    (hX : ∀ c : Dev nD, m ((c : Thread nD τ).loc main_arg0) = Layout.block ⟨2, ![128, 2048]⟩ ⟨2, ![2048, 2048]⟩ 0 16 c X)
    (hW : ∀ c : Dev nD, m ((c : Thread nD τ).loc main_arg1) = W) (i : S2048x128.Idx) (r l : Fin 2048) (hr : r.val = (i 0).val) (hl : l.val = c.val * 128 + (i 1).val) :
    outAt m c i = entry X W r l := by
  have h0 : (i 0).val < 2048 := (i 0).isLt
  have h1 : (i 1).val < 128 := (i 1).isLt
  have hc : c.val < 16 := c.isLt
  show rowsVal m c (rowsIx i) (inRows i) = _
  rw [rowsVal_apply m c (rowsIx i) (inRows i) ⟨(i 0).val % 128, by omega⟩ ⟨128 * (c.val % 2) + (i 1).val % 128, by omega⟩ rfl rfl]
  unfold entry
  refine congrArg (max · _) (Finset.sum_congr rfl fun q _ => ?_)
  rw [wOf_apply, hW]
  refine congrArg₂ (· * ·) ?_ (congrArg (fun l' : Fin 2048 => W (ix2 q l')) (Fin.ext ?_))
  · unfold xOf
    rw [hX, Layout.block_apply]
    refine congrArg X ?_
    exact ix2_of _ r q (by show ((i 0).val / 128) * 128 + (i 0).val % 128 = r.val; omega) rfl
  · show 256 * (c.val / 2) + (128 * (c.val % 2) + (i 1).val % 128) = l.val
    omega

/-- Device `c`'s result is its block of columns of the reference's. -/
theorem outAt_eq (X W : FVec Ideal S2048x2048 .f32)
    (hX : ∀ c : Dev nD, m ((c : Thread nD τ).loc main_arg0) = Layout.block ⟨2, ![128, 2048]⟩ ⟨2, ![2048, 2048]⟩ 0 16 c X)
    (hW : ∀ c : Dev nD, m ((c : Thread nD τ).loc main_arg1) = W) :
    outAt m c = Layout.block ⟨2, ![2048, 128]⟩ ⟨2, ![2048, 2048]⟩ 1 16 c (refOut X W) := by
  funext i
  have h1 : (i 1).val < 128 := (i 1).isLt
  have hc : c.val < 16 := c.isLt
  have hl : c.val * 128 + (i 1).val < 2048 := by omega
  rw [Layout.block_apply, outAt_apply m c X W hX hW i ⟨(i 0).val, (i 0).isLt⟩ ⟨_, hl⟩ rfl rfl, ← reference_apply]
  exact (congrArg (refOut X W) (ix2_of _ ⟨(i 0).val, (i 0).isLt⟩ ⟨_, hl⟩ rfl rfl)).symm

end Cert.Scatter
-- ==== Proof.Claims.lean ====
/-
# The claims

Each claim of the certificate, from the kernel's run, the reference's run, and the equality of their results.
The kernel and its exact reading have one text, so one run serves both.
-/
module

public import proofs.«01_k».proof.Defs
public import proofs.«01_k».proof.Proof.Values
public import proofs.«01_k».proof.Proof.Gen.Kernel
public import Idealize.ShloMosaic.Lib.Quiescent

@[expose] public section

noncomputable section

namespace Cert.Scatter

open Idealize.ShloMosaic Idealize.SL.Sem

/-- The two modules have one kernel function. -/
theorem bodies_agree {F : FTy → Type} [FloatOps F] : Cert.Kernel.cc0_body (F := F) = Cert.KernelIdeal.cc0_body (F := F) := rfl

/-- So the tables of bodies agree. -/
theorem tables_agree {F : FTy → Type} [FloatOps F] : Cert.Kernel.defs₀ (F := F) = Cert.KernelIdeal.defs₀ (F := F) := by
  refine congrArg Defs.onTc (funext fun l => funext fun _ => ?_)
  match l with
  | 0 => rfl

/-- So the programs agree. -/
theorem programs_agree {F : FTy → Type} [FloatOps F] : Cert.Kernel.defs (F := F) = Cert.KernelIdeal.defs (F := F) :=
  congrArg (Pipeline.defs Cert.KernelIdeal.pcfgs) tables_agree

/-- The kernel at the machine's own floats: it ends, its arguments are unchanged, and every semaphore is at zero. -/
theorem frame_kernel : Cert.quiescent_Kernel := by
  intro m ρ _
  rw [programs_agree]
  exact (θ_run Cert.KernelIdeal.defs _ _).mono (fun _ h => ⟨fun c => (h.1 c).2, h.2⟩) (run_main (F := Bits) m ρ)

/-- The kernel at the exact values: the same. -/
theorem frame_ideal : Cert.quiescent_KernelIdeal := fun m ρ _ =>
  (θ_run Cert.KernelIdeal.defs _ _).mono (fun _ h => ⟨fun c => (h.1 c).2, h.2⟩) (run_main (F := Ideal) m ρ)

/-- The reference: it ends, its arguments are unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At the exact values, from devices holding their rows of `x` and the whole weight, each device ends with its columns of
    the reference's result. -/
theorem same_values : Cert.algebraic_KernelIdeal_ReferenceIdeal := fun m ρ m' ρ' _ hagree =>
  ⟨refOut (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)),
    (θ_run Cert.KernelIdeal.defs _ _).mono
      (fun _ h c => ⟨((h.1 c).1.trans (result_array m c)).trans (outAt_eq m c _ _ (fun c => (hagree c).1) (fun c => (hagree c).2)), (h.1 c).2⟩)
      (run_main (F := Ideal) m ρ),
    (θ_run Cert.ReferenceIdeal.defs _ _).mono (fun _ h => h 0) (Cert.ReferenceIdeal.Value.run (F := Ideal) m' ρ')⟩

end Cert.Scatter

end
-- ==== Proof.lean ====
/-
# The certificate

The proof of `Cert.Claim`, put together from the modules under Proof/: Facts, Protocol, Views, Steps, Moves and Chunks hold
the schedule of the semaphores and the single steps; Body1 to Body4 and Body run the kernel's function once, at a symbolic
device; Memory, Point and Launch give the run of the whole program on the mesh; Values compares the arrays that it leaves
with the reference's; Claims states each claim.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- The five claims together. -/
theorem claim : Cert.Claim := ⟨Cert.Kernel.Gen.facts, Cert.KernelIdeal.Gen.facts, Cert.ReferenceIdeal.Gen.facts,
  Cert.Scatter.frame_kernel, Cert.Scatter.frame_ideal, Cert.Scatter.frame_reference, trivial, Cert.Scatter.same_values⟩

end Cert.Proof

end
